-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S128x1 .f32) (main_arg3 : FVec F S1 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 512#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S160000x128 : Shape := ⟨2, ![160000, 128]⟩
abbrev S1x1 : Shape := ⟨2, ![1, 1]⟩
abbrev S5x1x32000 : Shape := ⟨3, ![5, 1, 32000]⟩
abbrev S32000x128 : Shape := ⟨2, ![32000, 128]⟩
abbrev S1x1x32000 : Shape := ⟨3, ![1, 1, 32000]⟩
abbrev S1x32000 : Shape := ⟨2, ![1, 32000]⟩
abbrev S160000 : Shape := ⟨1, ![160000]⟩
abbrev S512 : Shape := ⟨1, ![512]⟩
abbrev S10000 : Shape := ⟨1, ![10000]⟩
abbrev S8192 : Shape := ⟨1, ![8192]⟩
abbrev S32 : Shape := ⟨1, ![32]⟩
abbrev S16x8192 : Shape := ⟨2, ![16, 8192]⟩
abbrev S_ : Shape := ⟨0, ![]⟩
abbrev S16 : Shape := ⟨1, ![16]⟩
abbrev S1x8192 : Shape := ⟨2, ![1, 8192]⟩
abbrev S1x512 : Shape := ⟨2, ![1, 512]⟩

abbrev nBuf : Table → Nat
  | .hbm => 16
  | .local .tc .vmem => 12
  | .shared => 2
  | .local .scVector .vmem => 14
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S160000x128, .f32⟩
  | .hbm, ⟨5, _⟩ => ⟨S1x1, .f32⟩
  | .hbm, ⟨6, _⟩ => ⟨S5x1x32000, .f32⟩
  | .hbm, ⟨7, _⟩ => ⟨S160000, .f32⟩
  | .hbm, ⟨8, _⟩ => ⟨S160000, .i32⟩
  | .hbm, ⟨9, _⟩ => ⟨S512, .f32⟩
  | .hbm, ⟨10, _⟩ => ⟨S160000x128, .f32⟩
  | .hbm, ⟨11, _⟩ => ⟨S1x1, .f32⟩
  | .hbm, ⟨12, _⟩ => ⟨S5x1x32000, .f32⟩
  | .hbm, ⟨13, _⟩ => ⟨S160000, .f32⟩
  | .hbm, ⟨14, _⟩ => ⟨S160000, .i32⟩
  | .hbm, ⟨15, _⟩ => ⟨S512, .f32⟩
  | .local .tc .vmem, ⟨0, _⟩ => ⟨S32000x128, .f32⟩
  | .local .tc .vmem, ⟨1, _⟩ => ⟨S32000x128, .f32⟩
  | .local .tc .vmem, ⟨2, _⟩ => ⟨S128x1, .f32⟩
  | .local .tc .vmem, ⟨3, _⟩ => ⟨S1x1, .f32⟩
  | .local .tc .vmem, ⟨4, _⟩ => ⟨S1x1x32000, .f32⟩
  | .local .tc .vmem, ⟨5, _⟩ => ⟨S1x1x32000, .f32⟩
  | .local .tc .vmem, ⟨6, _⟩ => ⟨S32000x128, .f32⟩
  | .local .tc .vmem, ⟨7, _⟩ => ⟨S32000x128, .f32⟩
  | .local .tc .vmem, ⟨8, _⟩ => ⟨S128x1, .f32⟩
  | .local .tc .vmem, ⟨9, _⟩ => ⟨S1x1, .f32⟩
  | .local .tc .vmem, ⟨10, _⟩ => ⟨S1x1x32000, .f32⟩
  | .local .tc .vmem, ⟨11, _⟩ => ⟨S1x1x32000, .f32⟩
  | .shared, ⟨0, _⟩ => ⟨S16x8192, .f32⟩
  | .shared, ⟨1, _⟩ => ⟨S16x8192, .f32⟩
  | .local .scVector .vmem, ⟨0, _⟩ => ⟨S10000, .f32⟩
  | .local .scVector .vmem, ⟨1, _⟩ => ⟨S10000, .i32⟩
  | .local .scVector .vmem, ⟨2, _⟩ => ⟨S8192, .f32⟩
  | .local .scVector .vmem, ⟨3, _⟩ => ⟨S512, .f32⟩
  | .local .scVector .vmem, ⟨4, _⟩ => ⟨S512, .f32⟩
  | .local .scVector .vmem, ⟨5, _⟩ => ⟨S32, .f32⟩
  | .local .scVector .vmem, ⟨6, _⟩ => ⟨S32, .f32⟩
  | .local .scVector .vmem, ⟨7, _⟩ => ⟨S10000, .f32⟩
  | .local .scVector .vmem, ⟨8, _⟩ => ⟨S10000, .i32⟩
  | .local .scVector .vmem, ⟨9, _⟩ => ⟨S8192, .f32⟩
  | .local .scVector .vmem, ⟨10, _⟩ => ⟨S512, .f32⟩
  | .local .scVector .vmem, ⟨11, _⟩ => ⟨S512, .f32⟩
  | .local .scVector .vmem, ⟨12, _⟩ => ⟨S32, .f32⟩
  | .local .scVector .vmem, ⟨13, _⟩ => ⟨S32, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | _ => false

abbrev sig : RefSig :=
  ofTables nBuf rfl bufTy 5 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev main_v9_scv : Ref sig .scVector := ⟨.hbm, 13, rfl⟩
abbrev main_v10_scv : Ref sig .scVector := ⟨.hbm, 14, rfl⟩
abbrev main_v11_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc1_scratch7 : Ref sig .scVector := ⟨.shared, 0, rfl⟩
abbrev cc3_scratch7 : Ref sig .scVector := ⟨.shared, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc3_scratch0 : Ref sig .scVector := ⟨.vmem, 7, rfl⟩
abbrev cc3_scratch1 : Ref sig .scVector := ⟨.vmem, 8, rfl⟩
abbrev cc3_scratch2 : Ref sig .scVector := ⟨.vmem, 9, rfl⟩
abbrev cc3_scratch3 : Ref sig .scVector := ⟨.vmem, 10, rfl⟩
abbrev cc3_scratch4 : Ref sig .scVector := ⟨.vmem, 11, rfl⟩
abbrev cc3_scratch5 : Ref sig .scVector := ⟨.vmem, 12, rfl⟩
abbrev cc3_scratch6 : Ref sig .scVector := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 16], ![false, false]⟩

def k1_off1 (i : grid1.Coords) : Fin 1 → Nat :=
  let arg1 : BitVec 32 := BitVec.ofNat 32 (i 1).val
  let c10000_i32 : BitVec 32 := 10000#32
  let v2 : BitVec 32 := Scalar.muli arg1 c10000_i32
  ![v2.toNat]
@[reducible] def k1_t1_loop : Scf.Loop 32 :=
  let c0_i32_0 : BitVec 32 := 0#32
  let c512_i32 : BitVec 32 := 512#32
  let v8 : BitVec 32 := Scalar.addi c0_i32_0 c512_i32
  let c1_i32 : BitVec 32 := 1#32
  ⟨c0_i32_0, v8, c1_i32⟩
def k1_off2 (k1_t1 : Fin k1_t1_loop.trips) : Fin 1 → Nat :=
  let c0_i32_0 : BitVec 32 := 0#32
  let c1_i32 : BitVec 32 := 1#32
  let arg15 : BitVec 32 := Scf.iv c0_i32_0 c1_i32 k1_t1
  let c16_i32_1633 : BitVec 32 := 16#32
  let v2339 : BitVec 32 := Scalar.muli arg15 c16_i32_1633
  let v2340 : Index := Scalar.indexCast v2339
  ![v2340.toNat]
@[reducible] def k1_t2_loop : Scf.Loop 32 :=
  let c0_i32_3 : BitVec 32 := 0#32
  let c125_i32 : BitVec 32 := 125#32
  let v13 : BitVec 32 := Scalar.addi c0_i32_3 c125_i32
  let c1_i32_4 : BitVec 32 := 1#32
  ⟨c0_i32_3, v13, c1_i32_4⟩
def k1_off3 (k1_t2 : Fin k1_t2_loop.trips) : Fin 1 → Nat :=
  let c0_i32_3 : BitVec 32 := 0#32
  let c1_i32_4 : BitVec 32 := 1#32
  let arg15 : BitVec 32 := Scf.iv c0_i32_3 c1_i32_4 k1_t2
  let c5_i32_1633 : BitVec 32 := 5#32
  let v2339 : BitVec 32 := Scalar.muli arg15 c5_i32_1633
  let c0_i32_1634 : BitVec 32 := 0#32
  let v2340 : BitVec 32 := Scalar.addi v2339 c0_i32_1634
  let c16_i32_1635 : BitVec 32 := 16#32
  let v2341 : BitVec 32 := Scalar.muli v2340 c16_i32_1635
  let v2342 : Index := Scalar.indexCast v2341
  ![v2342.toNat]

def k1_chk1 (v2346 : IVec S16 32) : Prop :=
  (∀ a x, ((![v2346] : Fin 1 → IVec S16 32) a x).toNat < S8192.size a)
theorem k1_idx1_inb : ∀ (v2346 : IVec S16 32) (k1_hw1 : k1_chk1 v2346), ∀ a x, ((![v2346] : Fin 1 → IVec S16 32) a x).toNat < S8192.size a := fun v2346 k1_hw1 => k1_hw1
def k1_off4 (k1_t2 : Fin k1_t2_loop.trips) : Fin 1 → Nat :=
  let c0_i32_3 : BitVec 32 := 0#32
  let c1_i32_4 : BitVec 32 := 1#32
  let arg15 : BitVec 32 := Scf.iv c0_i32_3 c1_i32_4 k1_t2
  let c5_i32_1637 : BitVec 32 := 5#32
  let v2349 : BitVec 32 := Scalar.muli arg15 c5_i32_1637
  let c1_i32_1638 : BitVec 32 := 1#32
  let v2350 : BitVec 32 := Scalar.addi v2349 c1_i32_1638
  let c16_i32_1639 : BitVec 32 := 16#32
  let v2351 : BitVec 32 := Scalar.muli v2350 c16_i32_1639
  let v2352 : Index := Scalar.indexCast v2351
  ![v2352.toNat]

def k1_chk2 (v2356 : IVec S16 32) : Prop :=
  (∀ a x, ((![v2356] : Fin 1 → IVec S16 32) a x).toNat < S8192.size a)
theorem k1_idx2_inb : ∀ (v2356 : IVec S16 32) (k1_hw2 : k1_chk2 v2356), ∀ a x, ((![v2356] : Fin 1 → IVec S16 32) a x).toNat < S8192.size a := fun v2356 k1_hw2 => k1_hw2
def k1_off5 (k1_t2 : Fin k1_t2_loop.trips) : Fin 1 → Nat :=
  let c0_i32_3 : BitVec 32 := 0#32
  let c1_i32_4 : BitVec 32 := 1#32
  let arg15 : BitVec 32 := Scf.iv c0_i32_3 c1_i32_4 k1_t2
  let c5_i32_1641 : BitVec 32 := 5#32
  let v2359 : BitVec 32 := Scalar.muli arg15 c5_i32_1641
  let c2_i32_1642 : BitVec 32 := 2#32
  let v2360 : BitVec 32 := Scalar.addi v2359 c2_i32_1642
  let c16_i32_1643 : BitVec 32 := 16#32
  let v2361 : BitVec 32 := Scalar.muli v2360 c16_i32_1643
  let v2362 : Index := Scalar.indexCast v2361
  ![v2362.toNat]

def k1_chk3 (v2366 : IVec S16 32) : Prop :=
  (∀ a x, ((![v2366] : Fin 1 → IVec S16 32) a x).toNat < S8192.size a)
theorem k1_idx3_inb : ∀ (v2366 : IVec S16 32) (k1_hw3 : k1_chk3 v2366), ∀ a x, ((![v2366] : Fin 1 → IVec S16 32) a x).toNat < S8192.size a := fun v2366 k1_hw3 => k1_hw3
def k1_off6 (k1_t2 : Fin k1_t2_loop.trips) : Fin 1 → Nat :=
  let c0_i32_3 : BitVec 32 := 0#32
  let c1_i32_4 : BitVec 32 := 1#32
  let arg15 : BitVec 32 := Scf.iv c0_i32_3 c1_i32_4 k1_t2
  let c5_i32_1645 : BitVec 32 := 5#32
  let v2369 : BitVec 32 := Scalar.muli arg15 c5_i32_1645
  let c3_i32_1646 : BitVec 32 := 3#32
  let v2370 : BitVec 32 := Scalar.addi v2369 c3_i32_1646
  let c16_i32_1647 : BitVec 32 := 16#32
  let v2371 : BitVec 32 := Scalar.muli v2370 c16_i32_1647
  let v2372 : Index := Scalar.indexCast v2371
  ![v2372.toNat]

def k1_chk4 (v2376 : IVec S16 32) : Prop :=
  (∀ a x, ((![v2376] : Fin 1 → IVec S16 32) a x).toNat < S8192.size a)
theorem k1_idx4_inb : ∀ (v2376 : IVec S16 32) (k1_hw4 : k1_chk4 v2376), ∀ a x, ((![v2376] : Fin 1 → IVec S16 32) a x).toNat < S8192.size a := fun v2376 k1_hw4 => k1_hw4
def k1_off7 (k1_t2 : Fin k1_t2_loop.trips) : Fin 1 → Nat :=
  let c0_i32_3 : BitVec 32 := 0#32
  let c1_i32_4 : BitVec 32 := 1#32
  let arg15 : BitVec 32 := Scf.iv c0_i32_3 c1_i32_4 k1_t2
  let c5_i32_1649 : BitVec 32 := 5#32
  let v2379 : BitVec 32 := Scalar.muli arg15 c5_i32_1649
  let c4_i32_1650 : BitVec 32 := 4#32
  let v2380 : BitVec 32 := Scalar.addi v2379 c4_i32_1650
  let c16_i32_1651 : BitVec 32 := 16#32
  let v2381 : BitVec 32 := Scalar.muli v2380 c16_i32_1651
  let v2382 : Index := Scalar.indexCast v2381
  ![v2382.toNat]

def k1_chk5 (v2386 : IVec S16 32) : Prop :=
  (∀ a x, ((![v2386] : Fin 1 → IVec S16 32) a x).toNat < S8192.size a)
theorem k1_idx5_inb : ∀ (v2386 : IVec S16 32) (k1_hw5 : k1_chk5 v2386), ∀ a x, ((![v2386] : Fin 1 → IVec S16 32) a x).toNat < S8192.size a := fun v2386 k1_hw5 => k1_hw5
def k1_off8 (i : grid1.Coords) : Fin 2 → Nat :=
  let arg1 : BitVec 32 := BitVec.ofNat 32 (i 1).val
  let c0_i32_1633_r0 : BitVec 32 := 0#32
  ![arg1.toNat, 0]
@[reducible] def k1_t3_loop : Scf.Loop 32 :=
  let c0_i32_7 : BitVec 32 := 0#32
  let c32_i32_8 : BitVec 32 := 32#32
  let v14 : BitVec 32 := Scalar.addi c0_i32_7 c32_i32_8
  let c1_i32_9 : BitVec 32 := 1#32
  ⟨c0_i32_7, v14, c1_i32_9⟩
def k1_off9 (k1_t3 : Fin k1_t3_loop.trips) : Fin 1 → Nat :=
  let c0_i32_7 : BitVec 32 := 0#32
  let c1_i32_9 : BitVec 32 := 1#32
  let arg15 : BitVec 32 := Scf.iv c0_i32_7 c1_i32_9 k1_t3
  let c16_i32_1633 : BitVec 32 := 16#32
  let v2339 : BitVec 32 := Scalar.muli arg15 c16_i32_1633
  let v2340 : Index := Scalar.indexCast v2339
  ![v2340.toNat]
def k1_off10 (i : grid1.Coords) : Fin 2 → Nat :=
  let c0_i32_11 : BitVec 32 := 0#32
  let arg1 : BitVec 32 := BitVec.ofNat 32 (i 1).val
  let c32_i32 : BitVec 32 := 32#32
  let v1 : BitVec 32 := Scalar.muli arg1 c32_i32
  let c16_i32 : BitVec 32 := 16#32
  let v15 : BitVec 32 := Scalar.muli v1 c16_i32
  ![0, v15.toNat]
def k1_off11 (i : grid1.Coords) : Fin 2 → Nat :=
  let c1_i32_78 : BitVec 32 := 1#32
  let arg1 : BitVec 32 := BitVec.ofNat 32 (i 1).val
  let c32_i32 : BitVec 32 := 32#32
  let v1 : BitVec 32 := Scalar.muli arg1 c32_i32
  let c16_i32_77 : BitVec 32 := 16#32
  let v144 : BitVec 32 := Scalar.muli v1 c16_i32_77
  ![1, v144.toNat]
def k1_off12 (i : grid1.Coords) : Fin 2 → Nat :=
  let c2_i32 : BitVec 32 := 2#32
  let arg1 : BitVec 32 := BitVec.ofNat 32 (i 1).val
  let c32_i32 : BitVec 32 := 32#32
  let v1 : BitVec 32 := Scalar.muli arg1 c32_i32
  let c16_i32_175 : BitVec 32 := 16#32
  let v273 : BitVec 32 := Scalar.muli v1 c16_i32_175
  ![2, v273.toNat]
def k1_off13 (i : grid1.Coords) : Fin 2 → Nat :=
  let c3_i32 : BitVec 32 := 3#32
  let arg1 : BitVec 32 := BitVec.ofNat 32 (i 1).val
  let c32_i32 : BitVec 32 := 32#32
  let v1 : BitVec 32 := Scalar.muli arg1 c32_i32
  let c16_i32_272 : BitVec 32 := 16#32
  let v402 : BitVec 32 := Scalar.muli v1 c16_i32_272
  ![3, v402.toNat]
def k1_off14 (i : grid1.Coords) : Fin 2 → Nat :=
  let c4_i32 : BitVec 32 := 4#32
  let arg1 : BitVec 32 := BitVec.ofNat 32 (i 1).val
  let c32_i32 : BitVec 32 := 32#32
  let v1 : BitVec 32 := Scalar.muli arg1 c32_i32
  let c16_i32_369 : BitVec 32 := 16#32
  let v531 : BitVec 32 := Scalar.muli v1 c16_i32_369
  ![4, v531.toNat]
def k1_off15 (i : grid1.Coords) : Fin 2 → Nat :=
  let c5_i32 : BitVec 32 := 5#32
  let arg1 : BitVec 32 := BitVec.ofNat 32 (i 1).val
  let c32_i32 : BitVec 32 := 32#32
  let v1 : BitVec 32 := Scalar.muli arg1 c32_i32
  let c16_i32_466 : BitVec 32 := 16#32
  let v660 : BitVec 32 := Scalar.muli v1 c16_i32_466
  ![5, v660.toNat]
def k1_off16 (i : grid1.Coords) : Fin 2 → Nat :=
  let c6_i32 : BitVec 32 := 6#32
  let arg1 : BitVec 32 := BitVec.ofNat 32 (i 1).val
  let c32_i32 : BitVec 32 := 32#32
  let v1 : BitVec 32 := Scalar.muli arg1 c32_i32
  let c16_i32_563 : BitVec 32 := 16#32
  let v789 : BitVec 32 := Scalar.muli v1 c16_i32_563
  ![6, v789.toNat]
def k1_off17 (i : grid1.Coords) : Fin 2 → Nat :=
  let c7_i32 : BitVec 32 := 7#32
  let arg1 : BitVec 32 := BitVec.ofNat 32 (i 1).val
  let c32_i32 : BitVec 32 := 32#32
  let v1 : BitVec 32 := Scalar.muli arg1 c32_i32
  let c16_i32_660 : BitVec 32 := 16#32
  let v918 : BitVec 32 := Scalar.muli v1 c16_i32_660
  ![7, v918.toNat]
def k1_off18 (i : grid1.Coords) : Fin 2 → Nat :=
  let c8_i32 : BitVec 32 := 8#32
  let arg1 : BitVec 32 := BitVec.ofNat 32 (i 1).val
  let c32_i32 : BitVec 32 := 32#32
  let v1 : BitVec 32 := Scalar.muli arg1 c32_i32
  let c16_i32_757 : BitVec 32 := 16#32
  let v1047 : BitVec 32 := Scalar.muli v1 c16_i32_757
  ![8, v1047.toNat]
def k1_off19 (i : grid1.Coords) : Fin 2 → Nat :=
  let c9_i32 : BitVec 32 := 9#32
  let arg1 : BitVec 32 := BitVec.ofNat 32 (i 1).val
  let c32_i32 : BitVec 32 := 32#32
  let v1 : BitVec 32 := Scalar.muli arg1 c32_i32
  let c16_i32_854 : BitVec 32 := 16#32
  let v1176 : BitVec 32 := Scalar.muli v1 c16_i32_854
  ![9, v1176.toNat]
def k1_off20 (i : grid1.Coords) : Fin 2 → Nat :=
  let c10_i32 : BitVec 32 := 10#32
  let arg1 : BitVec 32 := BitVec.ofNat 32 (i 1).val
  let c32_i32 : BitVec 32 := 32#32
  let v1 : BitVec 32 := Scalar.muli arg1 c32_i32
  let c16_i32_951 : BitVec 32 := 16#32
  let v1305 : BitVec 32 := Scalar.muli v1 c16_i32_951
  ![10, v1305.toNat]
def k1_off21 (i : grid1.Coords) : Fin 2 → Nat :=
  let c11_i32 : BitVec 32 := 11#32
  let arg1 : BitVec 32 := BitVec.ofNat 32 (i 1).val
  let c32_i32 : BitVec 32 := 32#32
  let v1 : BitVec 32 := Scalar.muli arg1 c32_i32
  let c16_i32_1048 : BitVec 32 := 16#32
  let v1434 : BitVec 32 := Scalar.muli v1 c16_i32_1048
  ![11, v1434.toNat]
def k1_off22 (i : grid1.Coords) : Fin 2 → Nat :=
  let c12_i32 : BitVec 32 := 12#32
  let arg1 : BitVec 32 := BitVec.ofNat 32 (i 1).val
  let c32_i32 : BitVec 32 := 32#32
  let v1 : BitVec 32 := Scalar.muli arg1 c32_i32
  let c16_i32_1145 : BitVec 32 := 16#32
  let v1563 : BitVec 32 := Scalar.muli v1 c16_i32_1145
  ![12, v1563.toNat]
def k1_off23 (i : grid1.Coords) : Fin 2 → Nat :=
  let c13_i32 : BitVec 32 := 13#32
  let arg1 : BitVec 32 := BitVec.ofNat 32 (i 1).val
  let c32_i32 : BitVec 32 := 32#32
  let v1 : BitVec 32 := Scalar.muli arg1 c32_i32
  let c16_i32_1242 : BitVec 32 := 16#32
  let v1692 : BitVec 32 := Scalar.muli v1 c16_i32_1242
  ![13, v1692.toNat]
def k1_off24 (i : grid1.Coords) : Fin 2 → Nat :=
  let c14_i32 : BitVec 32 := 14#32
  let arg1 : BitVec 32 := BitVec.ofNat 32 (i 1).val
  let c32_i32 : BitVec 32 := 32#32
  let v1 : BitVec 32 := Scalar.muli arg1 c32_i32
  let c16_i32_1339 : BitVec 32 := 16#32
  let v1821 : BitVec 32 := Scalar.muli v1 c16_i32_1339
  ![14, v1821.toNat]
def k1_off25 (i : grid1.Coords) : Fin 2 → Nat :=
  let c15_i32 : BitVec 32 := 15#32
  let arg1 : BitVec 32 := BitVec.ofNat 32 (i 1).val
  let c32_i32 : BitVec 32 := 32#32
  let v1 : BitVec 32 := Scalar.muli arg1 c32_i32
  let c16_i32_1436 : BitVec 32 := 16#32
  let v1950 : BitVec 32 := Scalar.muli v1 c16_i32_1436
  ![15, v1950.toNat]

def k1_chk6 (v2085 : IVec S16 32) : Prop :=
  (∀ a x, ((![v2085] : Fin 1 → IVec S16 32) a x).toNat < S512.size a)
theorem k1_idx6_inb : ∀ (v2085 : IVec S16 32) (k1_hw6 : k1_chk6 v2085), ∀ a x, ((![v2085] : Fin 1 → IVec S16 32) a x).toNat < S512.size a := fun v2085 k1_hw6 => k1_hw6

def k1_chk7 (v2093 : IVec S16 32) : Prop :=
  (∀ a x, ((![v2093] : Fin 1 → IVec S16 32) a x).toNat < S512.size a)
theorem k1_idx7_inb : ∀ (v2093 : IVec S16 32) (k1_hw7 : k1_chk7 v2093), ∀ a x, ((![v2093] : Fin 1 → IVec S16 32) a x).toNat < S512.size a := fun v2093 k1_hw7 => k1_hw7

def k1_chk8 (v2101 : IVec S16 32) : Prop :=
  (∀ a x, ((![v2101] : Fin 1 → IVec S16 32) a x).toNat < S512.size a)
theorem k1_idx8_inb : ∀ (v2101 : IVec S16 32) (k1_hw8 : k1_chk8 v2101), ∀ a x, ((![v2101] : Fin 1 → IVec S16 32) a x).toNat < S512.size a := fun v2101 k1_hw8 => k1_hw8

def k1_chk9 (v2109 : IVec S16 32) : Prop :=
  (∀ a x, ((![v2109] : Fin 1 → IVec S16 32) a x).toNat < S512.size a)
theorem k1_idx9_inb : ∀ (v2109 : IVec S16 32) (k1_hw9 : k1_chk9 v2109), ∀ a x, ((![v2109] : Fin 1 → IVec S16 32) a x).toNat < S512.size a := fun v2109 k1_hw9 => k1_hw9

def k1_chk10 (v2117 : IVec S16 32) : Prop :=
  (∀ a x, ((![v2117] : Fin 1 → IVec S16 32) a x).toNat < S512.size a)
theorem k1_idx10_inb : ∀ (v2117 : IVec S16 32) (k1_hw10 : k1_chk10 v2117), ∀ a x, ((![v2117] : Fin 1 → IVec S16 32) a x).toNat < S512.size a := fun v2117 k1_hw10 => k1_hw10

def k1_chk11 (v2125 : IVec S16 32) : Prop :=
  (∀ a x, ((![v2125] : Fin 1 → IVec S16 32) a x).toNat < S512.size a)
theorem k1_idx11_inb : ∀ (v2125 : IVec S16 32) (k1_hw11 : k1_chk11 v2125), ∀ a x, ((![v2125] : Fin 1 → IVec S16 32) a x).toNat < S512.size a := fun v2125 k1_hw11 => k1_hw11

def k1_chk12 (v2133 : IVec S16 32) : Prop :=
  (∀ a x, ((![v2133] : Fin 1 → IVec S16 32) a x).toNat < S512.size a)
theorem k1_idx12_inb : ∀ (v2133 : IVec S16 32) (k1_hw12 : k1_chk12 v2133), ∀ a x, ((![v2133] : Fin 1 → IVec S16 32) a x).toNat < S512.size a := fun v2133 k1_hw12 => k1_hw12

def k1_chk13 (v2141 : IVec S16 32) : Prop :=
  (∀ a x, ((![v2141] : Fin 1 → IVec S16 32) a x).toNat < S512.size a)
theorem k1_idx13_inb : ∀ (v2141 : IVec S16 32) (k1_hw13 : k1_chk13 v2141), ∀ a x, ((![v2141] : Fin 1 → IVec S16 32) a x).toNat < S512.size a := fun v2141 k1_hw13 => k1_hw13

def k1_chk14 (v2149 : IVec S16 32) : Prop :=
  (∀ a x, ((![v2149] : Fin 1 → IVec S16 32) a x).toNat < S512.size a)
theorem k1_idx14_inb : ∀ (v2149 : IVec S16 32) (k1_hw14 : k1_chk14 v2149), ∀ a x, ((![v2149] : Fin 1 → IVec S16 32) a x).toNat < S512.size a := fun v2149 k1_hw14 => k1_hw14

def k1_chk15 (v2157 : IVec S16 32) : Prop :=
  (∀ a x, ((![v2157] : Fin 1 → IVec S16 32) a x).toNat < S512.size a)
theorem k1_idx15_inb : ∀ (v2157 : IVec S16 32) (k1_hw15 : k1_chk15 v2157), ∀ a x, ((![v2157] : Fin 1 → IVec S16 32) a x).toNat < S512.size a := fun v2157 k1_hw15 => k1_hw15

def k1_chk16 (v2165 : IVec S16 32) : Prop :=
  (∀ a x, ((![v2165] : Fin 1 → IVec S16 32) a x).toNat < S512.size a)
theorem k1_idx16_inb : ∀ (v2165 : IVec S16 32) (k1_hw16 : k1_chk16 v2165), ∀ a x, ((![v2165] : Fin 1 → IVec S16 32) a x).toNat < S512.size a := fun v2165 k1_hw16 => k1_hw16

def k1_chk17 (v2173 : IVec S16 32) : Prop :=
  (∀ a x, ((![v2173] : Fin 1 → IVec S16 32) a x).toNat < S512.size a)
theorem k1_idx17_inb : ∀ (v2173 : IVec S16 32) (k1_hw17 : k1_chk17 v2173), ∀ a x, ((![v2173] : Fin 1 → IVec S16 32) a x).toNat < S512.size a := fun v2173 k1_hw17 => k1_hw17

def k1_chk18 (v2181 : IVec S16 32) : Prop :=
  (∀ a x, ((![v2181] : Fin 1 → IVec S16 32) a x).toNat < S512.size a)
theorem k1_idx18_inb : ∀ (v2181 : IVec S16 32) (k1_hw18 : k1_chk18 v2181), ∀ a x, ((![v2181] : Fin 1 → IVec S16 32) a x).toNat < S512.size a := fun v2181 k1_hw18 => k1_hw18

def k1_chk19 (v2189 : IVec S16 32) : Prop :=
  (∀ a x, ((![v2189] : Fin 1 → IVec S16 32) a x).toNat < S512.size a)
theorem k1_idx19_inb : ∀ (v2189 : IVec S16 32) (k1_hw19 : k1_chk19 v2189), ∀ a x, ((![v2189] : Fin 1 → IVec S16 32) a x).toNat < S512.size a := fun v2189 k1_hw19 => k1_hw19

def k1_chk20 (v2197 : IVec S16 32) : Prop :=
  (∀ a x, ((![v2197] : Fin 1 → IVec S16 32) a x).toNat < S512.size a)
theorem k1_idx20_inb : ∀ (v2197 : IVec S16 32) (k1_hw20 : k1_chk20 v2197), ∀ a x, ((![v2197] : Fin 1 → IVec S16 32) a x).toNat < S512.size a := fun v2197 k1_hw20 => k1_hw20

def k1_chk21 (v2205 : IVec S16 32) : Prop :=
  (∀ a x, ((![v2205] : Fin 1 → IVec S16 32) a x).toNat < S512.size a)
theorem k1_idx21_inb : ∀ (v2205 : IVec S16 32) (k1_hw21 : k1_chk21 v2205), ∀ a x, ((![v2205] : Fin 1 → IVec S16 32) a x).toNat < S512.size a := fun v2205 k1_hw21 => k1_hw21

def k1_chk22 (v2215 : IVec S16 32) : Prop :=
  (∀ a x, ((![v2215] : Fin 1 → IVec S16 32) a x).toNat < S512.size a)
theorem k1_idx22_inb : ∀ (v2215 : IVec S16 32) (k1_hw22 : k1_chk22 v2215), ∀ a x, ((![v2215] : Fin 1 → IVec S16 32) a x).toNat < S512.size a := fun v2215 k1_hw22 => k1_hw22

def k1_chk23 (v2223 : IVec S16 32) : Prop :=
  (∀ a x, ((![v2223] : Fin 1 → IVec S16 32) a x).toNat < S512.size a)
theorem k1_idx23_inb : ∀ (v2223 : IVec S16 32) (k1_hw23 : k1_chk23 v2223), ∀ a x, ((![v2223] : Fin 1 → IVec S16 32) a x).toNat < S512.size a := fun v2223 k1_hw23 => k1_hw23

def k1_chk24 (v2231 : IVec S16 32) : Prop :=
  (∀ a x, ((![v2231] : Fin 1 → IVec S16 32) a x).toNat < S512.size a)
theorem k1_idx24_inb : ∀ (v2231 : IVec S16 32) (k1_hw24 : k1_chk24 v2231), ∀ a x, ((![v2231] : Fin 1 → IVec S16 32) a x).toNat < S512.size a := fun v2231 k1_hw24 => k1_hw24

def k1_chk25 (v2239 : IVec S16 32) : Prop :=
  (∀ a x, ((![v2239] : Fin 1 → IVec S16 32) a x).toNat < S512.size a)
theorem k1_idx25_inb : ∀ (v2239 : IVec S16 32) (k1_hw25 : k1_chk25 v2239), ∀ a x, ((![v2239] : Fin 1 → IVec S16 32) a x).toNat < S512.size a := fun v2239 k1_hw25 => k1_hw25

def k1_chk26 (v2247 : IVec S16 32) : Prop :=
  (∀ a x, ((![v2247] : Fin 1 → IVec S16 32) a x).toNat < S512.size a)
theorem k1_idx26_inb : ∀ (v2247 : IVec S16 32) (k1_hw26 : k1_chk26 v2247), ∀ a x, ((![v2247] : Fin 1 → IVec S16 32) a x).toNat < S512.size a := fun v2247 k1_hw26 => k1_hw26

def k1_chk27 (v2255 : IVec S16 32) : Prop :=
  (∀ a x, ((![v2255] : Fin 1 → IVec S16 32) a x).toNat < S512.size a)
theorem k1_idx27_inb : ∀ (v2255 : IVec S16 32) (k1_hw27 : k1_chk27 v2255), ∀ a x, ((![v2255] : Fin 1 → IVec S16 32) a x).toNat < S512.size a := fun v2255 k1_hw27 => k1_hw27

def k1_chk28 (v2263 : IVec S16 32) : Prop :=
  (∀ a x, ((![v2263] : Fin 1 → IVec S16 32) a x).toNat < S512.size a)
theorem k1_idx28_inb : ∀ (v2263 : IVec S16 32) (k1_hw28 : k1_chk28 v2263), ∀ a x, ((![v2263] : Fin 1 → IVec S16 32) a x).toNat < S512.size a := fun v2263 k1_hw28 => k1_hw28

def k1_chk29 (v2271 : IVec S16 32) : Prop :=
  (∀ a x, ((![v2271] : Fin 1 → IVec S16 32) a x).toNat < S512.size a)
theorem k1_idx29_inb : ∀ (v2271 : IVec S16 32) (k1_hw29 : k1_chk29 v2271), ∀ a x, ((![v2271] : Fin 1 → IVec S16 32) a x).toNat < S512.size a := fun v2271 k1_hw29 => k1_hw29

def k1_chk30 (v2279 : IVec S16 32) : Prop :=
  (∀ a x, ((![v2279] : Fin 1 → IVec S16 32) a x).toNat < S512.size a)
theorem k1_idx30_inb : ∀ (v2279 : IVec S16 32) (k1_hw30 : k1_chk30 v2279), ∀ a x, ((![v2279] : Fin 1 → IVec S16 32) a x).toNat < S512.size a := fun v2279 k1_hw30 => k1_hw30

def k1_chk31 (v2287 : IVec S16 32) : Prop :=
  (∀ a x, ((![v2287] : Fin 1 → IVec S16 32) a x).toNat < S512.size a)
theorem k1_idx31_inb : ∀ (v2287 : IVec S16 32) (k1_hw31 : k1_chk31 v2287), ∀ a x, ((![v2287] : Fin 1 → IVec S16 32) a x).toNat < S512.size a := fun v2287 k1_hw31 => k1_hw31

def k1_chk32 (v2295 : IVec S16 32) : Prop :=
  (∀ a x, ((![v2295] : Fin 1 → IVec S16 32) a x).toNat < S512.size a)
theorem k1_idx32_inb : ∀ (v2295 : IVec S16 32) (k1_hw32 : k1_chk32 v2295), ∀ a x, ((![v2295] : Fin 1 → IVec S16 32) a x).toNat < S512.size a := fun v2295 k1_hw32 => k1_hw32

def k1_chk33 (v2303 : IVec S16 32) : Prop :=
  (∀ a x, ((![v2303] : Fin 1 → IVec S16 32) a x).toNat < S512.size a)
theorem k1_idx33_inb : ∀ (v2303 : IVec S16 32) (k1_hw33 : k1_chk33 v2303), ∀ a x, ((![v2303] : Fin 1 → IVec S16 32) a x).toNat < S512.size a := fun v2303 k1_hw33 => k1_hw33

def k1_chk34 (v2311 : IVec S16 32) : Prop :=
  (∀ a x, ((![v2311] : Fin 1 → IVec S16 32) a x).toNat < S512.size a)
theorem k1_idx34_inb : ∀ (v2311 : IVec S16 32) (k1_hw34 : k1_chk34 v2311), ∀ a x, ((![v2311] : Fin 1 → IVec S16 32) a x).toNat < S512.size a := fun v2311 k1_hw34 => k1_hw34

def k1_chk35 (v2319 : IVec S16 32) : Prop :=
  (∀ a x, ((![v2319] : Fin 1 → IVec S16 32) a x).toNat < S512.size a)
theorem k1_idx35_inb : ∀ (v2319 : IVec S16 32) (k1_hw35 : k1_chk35 v2319), ∀ a x, ((![v2319] : Fin 1 → IVec S16 32) a x).toNat < S512.size a := fun v2319 k1_hw35 => k1_hw35

def k1_chk36 (v2327 : IVec S16 32) : Prop :=
  (∀ a x, ((![v2327] : Fin 1 → IVec S16 32) a x).toNat < S512.size a)
theorem k1_idx36_inb : ∀ (v2327 : IVec S16 32) (k1_hw36 : k1_chk36 v2327), ∀ a x, ((![v2327] : Fin 1 → IVec S16 32) a x).toNat < S512.size a := fun v2327 k1_hw36 => k1_hw36

def k1_chk37 (v2335 : IVec S16 32) : Prop :=
  (∀ a x, ((![v2335] : Fin 1 → IVec S16 32) a x).toNat < S512.size a)
theorem k1_idx37_inb : ∀ (v2335 : IVec S16 32) (k1_hw37 : k1_chk37 v2335), ∀ a x, ((![v2335] : Fin 1 → IVec S16 32) a x).toNat < S512.size a := fun v2335 k1_hw37 => k1_hw37
def k1_off26 (i : grid1.Coords) : Fin 1 → Nat :=
  let arg1 : BitVec 32 := BitVec.ofNat 32 (i 1).val
  let c32_i32 : BitVec 32 := 32#32
  let v1 : BitVec 32 := Scalar.muli arg1 c32_i32
  ![v1.toNat]
abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x32000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![1, 16], ![false, false]⟩

def k3_off1 (i : grid3.Coords) : Fin 1 → Nat :=
  let arg1 : BitVec 32 := BitVec.ofNat 32 (i 1).val
  let c10000_i32 : BitVec 32 := 10000#32
  let v2 : BitVec 32 := Scalar.muli arg1 c10000_i32
  ![v2.toNat]
def k3_off2 (i : grid3.Coords) : Fin 1 → Nat :=
  let arg1 : BitVec 32 := BitVec.ofNat 32 (i 1).val
  let c32_i32 : BitVec 32 := 32#32
  let v1 : BitVec 32 := Scalar.muli arg1 c32_i32
  ![v1.toNat]
@[reducible] def k3_t1_loop : Scf.Loop 32 :=
  let c0_i32_0 : BitVec 32 := 0#32
  let c512_i32 : BitVec 32 := 512#32
  let v8 : BitVec 32 := Scalar.addi c0_i32_0 c512_i32
  let c1_i32 : BitVec 32 := 1#32
  ⟨c0_i32_0, v8, c1_i32⟩
def k3_off3 (k3_t1 : Fin k3_t1_loop.trips) : Fin 1 → Nat :=
  let c0_i32_0 : BitVec 32 := 0#32
  let c1_i32 : BitVec 32 := 1#32
  let arg16 : BitVec 32 := Scf.iv c0_i32_0 c1_i32 k3_t1
  let c16_i32_1633 : BitVec 32 := 16#32
  let v2339 : BitVec 32 := Scalar.muli arg16 c16_i32_1633
  let v2340 : Index := Scalar.indexCast v2339
  ![v2340.toNat]
@[reducible] def k3_t2_loop : Scf.Loop 32 :=
  let c0_i32_3 : BitVec 32 := 0#32
  let c125_i32 : BitVec 32 := 125#32
  let v13 : BitVec 32 := Scalar.addi c0_i32_3 c125_i32
  let c1_i32_4 : BitVec 32 := 1#32
  ⟨c0_i32_3, v13, c1_i32_4⟩
def k3_off4 (k3_t2 : Fin k3_t2_loop.trips) : Fin 1 → Nat :=
  let c0_i32_3 : BitVec 32 := 0#32
  let c1_i32_4 : BitVec 32 := 1#32
  let arg16 : BitVec 32 := Scf.iv c0_i32_3 c1_i32_4 k3_t2
  let c5_i32_1633 : BitVec 32 := 5#32
  let v2339 : BitVec 32 := Scalar.muli arg16 c5_i32_1633
  let c0_i32_1634 : BitVec 32 := 0#32
  let v2340 : BitVec 32 := Scalar.addi v2339 c0_i32_1634
  let c16_i32_1635 : BitVec 32 := 16#32
  let v2341 : BitVec 32 := Scalar.muli v2340 c16_i32_1635
  let v2342 : Index := Scalar.indexCast v2341
  ![v2342.toNat]

def k3_chk1 (v2346 : IVec S16 32) : Prop :=
  (∀ a x, ((![v2346] : Fin 1 → IVec S16 32) a x).toNat < S8192.size a)
theorem k3_idx1_inb : ∀ (v2346 : IVec S16 32) (k3_hw1 : k3_chk1 v2346), ∀ a x, ((![v2346] : Fin 1 → IVec S16 32) a x).toNat < S8192.size a := fun v2346 k3_hw1 => k3_hw1
def k3_off5 (k3_t2 : Fin k3_t2_loop.trips) : Fin 1 → Nat :=
  let c0_i32_3 : BitVec 32 := 0#32
  let c1_i32_4 : BitVec 32 := 1#32
  let arg16 : BitVec 32 := Scf.iv c0_i32_3 c1_i32_4 k3_t2
  let c5_i32_1637 : BitVec 32 := 5#32
  let v2349 : BitVec 32 := Scalar.muli arg16 c5_i32_1637
  let c1_i32_1638 : BitVec 32 := 1#32
  let v2350 : BitVec 32 := Scalar.addi v2349 c1_i32_1638
  let c16_i32_1639 : BitVec 32 := 16#32
  let v2351 : BitVec 32 := Scalar.muli v2350 c16_i32_1639
  let v2352 : Index := Scalar.indexCast v2351
  ![v2352.toNat]

def k3_chk2 (v2356 : IVec S16 32) : Prop :=
  (∀ a x, ((![v2356] : Fin 1 → IVec S16 32) a x).toNat < S8192.size a)
theorem k3_idx2_inb : ∀ (v2356 : IVec S16 32) (k3_hw2 : k3_chk2 v2356), ∀ a x, ((![v2356] : Fin 1 → IVec S16 32) a x).toNat < S8192.size a := fun v2356 k3_hw2 => k3_hw2
def k3_off6 (k3_t2 : Fin k3_t2_loop.trips) : Fin 1 → Nat :=
  let c0_i32_3 : BitVec 32 := 0#32
  let c1_i32_4 : BitVec 32 := 1#32
  let arg16 : BitVec 32 := Scf.iv c0_i32_3 c1_i32_4 k3_t2
  let c5_i32_1641 : BitVec 32 := 5#32
  let v2359 : BitVec 32 := Scalar.muli arg16 c5_i32_1641
  let c2_i32_1642 : BitVec 32 := 2#32
  let v2360 : BitVec 32 := Scalar.addi v2359 c2_i32_1642
  let c16_i32_1643 : BitVec 32 := 16#32
  let v2361 : BitVec 32 := Scalar.muli v2360 c16_i32_1643
  let v2362 : Index := Scalar.indexCast v2361
  ![v2362.toNat]

def k3_chk3 (v2366 : IVec S16 32) : Prop :=
  (∀ a x, ((![v2366] : Fin 1 → IVec S16 32) a x).toNat < S8192.size a)
theorem k3_idx3_inb : ∀ (v2366 : IVec S16 32) (k3_hw3 : k3_chk3 v2366), ∀ a x, ((![v2366] : Fin 1 → IVec S16 32) a x).toNat < S8192.size a := fun v2366 k3_hw3 => k3_hw3
def k3_off7 (k3_t2 : Fin k3_t2_loop.trips) : Fin 1 → Nat :=
  let c0_i32_3 : BitVec 32 := 0#32
  let c1_i32_4 : BitVec 32 := 1#32
  let arg16 : BitVec 32 := Scf.iv c0_i32_3 c1_i32_4 k3_t2
  let c5_i32_1645 : BitVec 32 := 5#32
  let v2369 : BitVec 32 := Scalar.muli arg16 c5_i32_1645
  let c3_i32_1646 : BitVec 32 := 3#32
  let v2370 : BitVec 32 := Scalar.addi v2369 c3_i32_1646
  let c16_i32_1647 : BitVec 32 := 16#32
  let v2371 : BitVec 32 := Scalar.muli v2370 c16_i32_1647
  let v2372 : Index := Scalar.indexCast v2371
  ![v2372.toNat]

def k3_chk4 (v2376 : IVec S16 32) : Prop :=
  (∀ a x, ((![v2376] : Fin 1 → IVec S16 32) a x).toNat < S8192.size a)
theorem k3_idx4_inb : ∀ (v2376 : IVec S16 32) (k3_hw4 : k3_chk4 v2376), ∀ a x, ((![v2376] : Fin 1 → IVec S16 32) a x).toNat < S8192.size a := fun v2376 k3_hw4 => k3_hw4
def k3_off8 (k3_t2 : Fin k3_t2_loop.trips) : Fin 1 → Nat :=
  let c0_i32_3 : BitVec 32 := 0#32
  let c1_i32_4 : BitVec 32 := 1#32
  let arg16 : BitVec 32 := Scf.iv c0_i32_3 c1_i32_4 k3_t2
  let c5_i32_1649 : BitVec 32 := 5#32
  let v2379 : BitVec 32 := Scalar.muli arg16 c5_i32_1649
  let c4_i32_1650 : BitVec 32 := 4#32
  let v2380 : BitVec 32 := Scalar.addi v2379 c4_i32_1650
  let c16_i32_1651 : BitVec 32 := 16#32
  let v2381 : BitVec 32 := Scalar.muli v2380 c16_i32_1651
  let v2382 : Index := Scalar.indexCast v2381
  ![v2382.toNat]

def k3_chk5 (v2386 : IVec S16 32) : Prop :=
  (∀ a x, ((![v2386] : Fin 1 → IVec S16 32) a x).toNat < S8192.size a)
theorem k3_idx5_inb : ∀ (v2386 : IVec S16 32) (k3_hw5 : k3_chk5 v2386), ∀ a x, ((![v2386] : Fin 1 → IVec S16 32) a x).toNat < S8192.size a := fun v2386 k3_hw5 => k3_hw5
def k3_off9 (i : grid3.Coords) : Fin 2 → Nat :=
  let arg1 : BitVec 32 := BitVec.ofNat 32 (i 1).val
  let c0_i32_1633_r1 : BitVec 32 := 0#32
  ![arg1.toNat, 0]
@[reducible] def k3_t3_loop : Scf.Loop 32 :=
  let c0_i32_7 : BitVec 32 := 0#32
  let c32_i32_8 : BitVec 32 := 32#32
  let v14 : BitVec 32 := Scalar.addi c0_i32_7 c32_i32_8
  let c1_i32_9 : BitVec 32 := 1#32
  ⟨c0_i32_7, v14, c1_i32_9⟩
def k3_off10 (k3_t3 : Fin k3_t3_loop.trips) : Fin 1 → Nat :=
  let c0_i32_7 : BitVec 32 := 0#32
  let c1_i32_9 : BitVec 32 := 1#32
  let arg16 : BitVec 32 := Scf.iv c0_i32_7 c1_i32_9 k3_t3
  let c16_i32_1633 : BitVec 32 := 16#32
  let v2339 : BitVec 32 := Scalar.muli arg16 c16_i32_1633
  let v2340 : Index := Scalar.indexCast v2339
  ![v2340.toNat]
def k3_off11 (i : grid3.Coords) : Fin 2 → Nat :=
  let c0_i32_11 : BitVec 32 := 0#32
  let arg1 : BitVec 32 := BitVec.ofNat 32 (i 1).val
  let c32_i32 : BitVec 32 := 32#32
  let v1 : BitVec 32 := Scalar.muli arg1 c32_i32
  let c16_i32 : BitVec 32 := 16#32
  let v15 : BitVec 32 := Scalar.muli v1 c16_i32
  ![0, v15.toNat]
def k3_off12 (i : grid3.Coords) : Fin 2 → Nat :=
  let c1_i32_78 : BitVec 32 := 1#32
  let arg1 : BitVec 32 := BitVec.ofNat 32 (i 1).val
  let c32_i32 : BitVec 32 := 32#32
  let v1 : BitVec 32 := Scalar.muli arg1 c32_i32
  let c16_i32_77 : BitVec 32 := 16#32
  let v144 : BitVec 32 := Scalar.muli v1 c16_i32_77
  ![1, v144.toNat]
def k3_off13 (i : grid3.Coords) : Fin 2 → Nat :=
  let c2_i32 : BitVec 32 := 2#32
  let arg1 : BitVec 32 := BitVec.ofNat 32 (i 1).val
  let c32_i32 : BitVec 32 := 32#32
  let v1 : BitVec 32 := Scalar.muli arg1 c32_i32
  let c16_i32_175 : BitVec 32 := 16#32
  let v273 : BitVec 32 := Scalar.muli v1 c16_i32_175
  ![2, v273.toNat]
def k3_off14 (i : grid3.Coords) : Fin 2 → Nat :=
  let c3_i32 : BitVec 32 := 3#32
  let arg1 : BitVec 32 := BitVec.ofNat 32 (i 1).val
  let c32_i32 : BitVec 32 := 32#32
  let v1 : BitVec 32 := Scalar.muli arg1 c32_i32
  let c16_i32_272 : BitVec 32 := 16#32
  let v402 : BitVec 32 := Scalar.muli v1 c16_i32_272
  ![3, v402.toNat]
def k3_off15 (i : grid3.Coords) : Fin 2 → Nat :=
  let c4_i32 : BitVec 32 := 4#32
  let arg1 : BitVec 32 := BitVec.ofNat 32 (i 1).val
  let c32_i32 : BitVec 32 := 32#32
  let v1 : BitVec 32 := Scalar.muli arg1 c32_i32
  let c16_i32_369 : BitVec 32 := 16#32
  let v531 : BitVec 32 := Scalar.muli v1 c16_i32_369
  ![4, v531.toNat]
def k3_off16 (i : grid3.Coords) : Fin 2 → Nat :=
  let c5_i32 : BitVec 32 := 5#32
  let arg1 : BitVec 32 := BitVec.ofNat 32 (i 1).val
  let c32_i32 : BitVec 32 := 32#32
  let v1 : BitVec 32 := Scalar.muli arg1 c32_i32
  let c16_i32_466 : BitVec 32 := 16#32
  let v660 : BitVec 32 := Scalar.muli v1 c16_i32_466
  ![5, v660.toNat]
def k3_off17 (i : grid3.Coords) : Fin 2 → Nat :=
  let c6_i32 : BitVec 32 := 6#32
  let arg1 : BitVec 32 := BitVec.ofNat 32 (i 1).val
  let c32_i32 : BitVec 32 := 32#32
  let v1 : BitVec 32 := Scalar.muli arg1 c32_i32
  let c16_i32_563 : BitVec 32 := 16#32
  let v789 : BitVec 32 := Scalar.muli v1 c16_i32_563
  ![6, v789.toNat]
def k3_off18 (i : grid3.Coords) : Fin 2 → Nat :=
  let c7_i32 : BitVec 32 := 7#32
  let arg1 : BitVec 32 := BitVec.ofNat 32 (i 1).val
  let c32_i32 : BitVec 32 := 32#32
  let v1 : BitVec 32 := Scalar.muli arg1 c32_i32
  let c16_i32_660 : BitVec 32 := 16#32
  let v918 : BitVec 32 := Scalar.muli v1 c16_i32_660
  ![7, v918.toNat]
def k3_off19 (i : grid3.Coords) : Fin 2 → Nat :=
  let c8_i32 : BitVec 32 := 8#32
  let arg1 : BitVec 32 := BitVec.ofNat 32 (i 1).val
  let c32_i32 : BitVec 32 := 32#32
  let v1 : BitVec 32 := Scalar.muli arg1 c32_i32
  let c16_i32_757 : BitVec 32 := 16#32
  let v1047 : BitVec 32 := Scalar.muli v1 c16_i32_757
  ![8, v1047.toNat]
def k3_off20 (i : grid3.Coords) : Fin 2 → Nat :=
  let c9_i32 : BitVec 32 := 9#32
  let arg1 : BitVec 32 := BitVec.ofNat 32 (i 1).val
  let c32_i32 : BitVec 32 := 32#32
  let v1 : BitVec 32 := Scalar.muli arg1 c32_i32
  let c16_i32_854 : BitVec 32 := 16#32
  let v1176 : BitVec 32 := Scalar.muli v1 c16_i32_854
  ![9, v1176.toNat]
def k3_off21 (i : grid3.Coords) : Fin 2 → Nat :=
  let c10_i32 : BitVec 32 := 10#32
  let arg1 : BitVec 32 := BitVec.ofNat 32 (i 1).val
  let c32_i32 : BitVec 32 := 32#32
  let v1 : BitVec 32 := Scalar.muli arg1 c32_i32
  let c16_i32_951 : BitVec 32 := 16#32
  let v1305 : BitVec 32 := Scalar.muli v1 c16_i32_951
  ![10, v1305.toNat]
def k3_off22 (i : grid3.Coords) : Fin 2 → Nat :=
  let c11_i32 : BitVec 32 := 11#32
  let arg1 : BitVec 32 := BitVec.ofNat 32 (i 1).val
  let c32_i32 : BitVec 32 := 32#32
  let v1 : BitVec 32 := Scalar.muli arg1 c32_i32
  let c16_i32_1048 : BitVec 32 := 16#32
  let v1434 : BitVec 32 := Scalar.muli v1 c16_i32_1048
  ![11, v1434.toNat]
def k3_off23 (i : grid3.Coords) : Fin 2 → Nat :=
  let c12_i32 : BitVec 32 := 12#32
  let arg1 : BitVec 32 := BitVec.ofNat 32 (i 1).val
  let c32_i32 : BitVec 32 := 32#32
  let v1 : BitVec 32 := Scalar.muli arg1 c32_i32
  let c16_i32_1145 : BitVec 32 := 16#32
  let v1563 : BitVec 32 := Scalar.muli v1 c16_i32_1145
  ![12, v1563.toNat]
def k3_off24 (i : grid3.Coords) : Fin 2 → Nat :=
  let c13_i32 : BitVec 32 := 13#32
  let arg1 : BitVec 32 := BitVec.ofNat 32 (i 1).val
  let c32_i32 : BitVec 32 := 32#32
  let v1 : BitVec 32 := Scalar.muli arg1 c32_i32
  let c16_i32_1242 : BitVec 32 := 16#32
  let v1692 : BitVec 32 := Scalar.muli v1 c16_i32_1242
  ![13, v1692.toNat]
def k3_off25 (i : grid3.Coords) : Fin 2 → Nat :=
  let c14_i32 : BitVec 32 := 14#32
  let arg1 : BitVec 32 := BitVec.ofNat 32 (i 1).val
  let c32_i32 : BitVec 32 := 32#32
  let v1 : BitVec 32 := Scalar.muli arg1 c32_i32
  let c16_i32_1339 : BitVec 32 := 16#32
  let v1821 : BitVec 32 := Scalar.muli v1 c16_i32_1339
  ![14, v1821.toNat]
def k3_off26 (i : grid3.Coords) : Fin 2 → Nat :=
  let c15_i32 : BitVec 32 := 15#32
  let arg1 : BitVec 32 := BitVec.ofNat 32 (i 1).val
  let c32_i32 : BitVec 32 := 32#32
  let v1 : BitVec 32 := Scalar.muli arg1 c32_i32
  let c16_i32_1436 : BitVec 32 := 16#32
  let v1950 : BitVec 32 := Scalar.muli v1 c16_i32_1436
  ![15, v1950.toNat]

def k3_chk6 (v2085 : IVec S16 32) : Prop :=
  (∀ a x, ((![v2085] : Fin 1 → IVec S16 32) a x).toNat < S512.size a)
theorem k3_idx6_inb : ∀ (v2085 : IVec S16 32) (k3_hw6 : k3_chk6 v2085), ∀ a x, ((![v2085] : Fin 1 → IVec S16 32) a x).toNat < S512.size a := fun v2085 k3_hw6 => k3_hw6

def k3_chk7 (v2093 : IVec S16 32) : Prop :=
  (∀ a x, ((![v2093] : Fin 1 → IVec S16 32) a x).toNat < S512.size a)
theorem k3_idx7_inb : ∀ (v2093 : IVec S16 32) (k3_hw7 : k3_chk7 v2093), ∀ a x, ((![v2093] : Fin 1 → IVec S16 32) a x).toNat < S512.size a := fun v2093 k3_hw7 => k3_hw7

def k3_chk8 (v2101 : IVec S16 32) : Prop :=
  (∀ a x, ((![v2101] : Fin 1 → IVec S16 32) a x).toNat < S512.size a)
theorem k3_idx8_inb : ∀ (v2101 : IVec S16 32) (k3_hw8 : k3_chk8 v2101), ∀ a x, ((![v2101] : Fin 1 → IVec S16 32) a x).toNat < S512.size a := fun v2101 k3_hw8 => k3_hw8

def k3_chk9 (v2109 : IVec S16 32) : Prop :=
  (∀ a x, ((![v2109] : Fin 1 → IVec S16 32) a x).toNat < S512.size a)
theorem k3_idx9_inb : ∀ (v2109 : IVec S16 32) (k3_hw9 : k3_chk9 v2109), ∀ a x, ((![v2109] : Fin 1 → IVec S16 32) a x).toNat < S512.size a := fun v2109 k3_hw9 => k3_hw9

def k3_chk10 (v2117 : IVec S16 32) : Prop :=
  (∀ a x, ((![v2117] : Fin 1 → IVec S16 32) a x).toNat < S512.size a)
theorem k3_idx10_inb : ∀ (v2117 : IVec S16 32) (k3_hw10 : k3_chk10 v2117), ∀ a x, ((![v2117] : Fin 1 → IVec S16 32) a x).toNat < S512.size a := fun v2117 k3_hw10 => k3_hw10

def k3_chk11 (v2125 : IVec S16 32) : Prop :=
  (∀ a x, ((![v2125] : Fin 1 → IVec S16 32) a x).toNat < S512.size a)
theorem k3_idx11_inb : ∀ (v2125 : IVec S16 32) (k3_hw11 : k3_chk11 v2125), ∀ a x, ((![v2125] : Fin 1 → IVec S16 32) a x).toNat < S512.size a := fun v2125 k3_hw11 => k3_hw11

def k3_chk12 (v2133 : IVec S16 32) : Prop :=
  (∀ a x, ((![v2133] : Fin 1 → IVec S16 32) a x).toNat < S512.size a)
theorem k3_idx12_inb : ∀ (v2133 : IVec S16 32) (k3_hw12 : k3_chk12 v2133), ∀ a x, ((![v2133] : Fin 1 → IVec S16 32) a x).toNat < S512.size a := fun v2133 k3_hw12 => k3_hw12

def k3_chk13 (v2141 : IVec S16 32) : Prop :=
  (∀ a x, ((![v2141] : Fin 1 → IVec S16 32) a x).toNat < S512.size a)
theorem k3_idx13_inb : ∀ (v2141 : IVec S16 32) (k3_hw13 : k3_chk13 v2141), ∀ a x, ((![v2141] : Fin 1 → IVec S16 32) a x).toNat < S512.size a := fun v2141 k3_hw13 => k3_hw13

def k3_chk14 (v2149 : IVec S16 32) : Prop :=
  (∀ a x, ((![v2149] : Fin 1 → IVec S16 32) a x).toNat < S512.size a)
theorem k3_idx14_inb : ∀ (v2149 : IVec S16 32) (k3_hw14 : k3_chk14 v2149), ∀ a x, ((![v2149] : Fin 1 → IVec S16 32) a x).toNat < S512.size a := fun v2149 k3_hw14 => k3_hw14

def k3_chk15 (v2157 : IVec S16 32) : Prop :=
  (∀ a x, ((![v2157] : Fin 1 → IVec S16 32) a x).toNat < S512.size a)
theorem k3_idx15_inb : ∀ (v2157 : IVec S16 32) (k3_hw15 : k3_chk15 v2157), ∀ a x, ((![v2157] : Fin 1 → IVec S16 32) a x).toNat < S512.size a := fun v2157 k3_hw15 => k3_hw15

def k3_chk16 (v2165 : IVec S16 32) : Prop :=
  (∀ a x, ((![v2165] : Fin 1 → IVec S16 32) a x).toNat < S512.size a)
theorem k3_idx16_inb : ∀ (v2165 : IVec S16 32) (k3_hw16 : k3_chk16 v2165), ∀ a x, ((![v2165] : Fin 1 → IVec S16 32) a x).toNat < S512.size a := fun v2165 k3_hw16 => k3_hw16

def k3_chk17 (v2173 : IVec S16 32) : Prop :=
  (∀ a x, ((![v2173] : Fin 1 → IVec S16 32) a x).toNat < S512.size a)
theorem k3_idx17_inb : ∀ (v2173 : IVec S16 32) (k3_hw17 : k3_chk17 v2173), ∀ a x, ((![v2173] : Fin 1 → IVec S16 32) a x).toNat < S512.size a := fun v2173 k3_hw17 => k3_hw17

def k3_chk18 (v2181 : IVec S16 32) : Prop :=
  (∀ a x, ((![v2181] : Fin 1 → IVec S16 32) a x).toNat < S512.size a)
theorem k3_idx18_inb : ∀ (v2181 : IVec S16 32) (k3_hw18 : k3_chk18 v2181), ∀ a x, ((![v2181] : Fin 1 → IVec S16 32) a x).toNat < S512.size a := fun v2181 k3_hw18 => k3_hw18

def k3_chk19 (v2189 : IVec S16 32) : Prop :=
  (∀ a x, ((![v2189] : Fin 1 → IVec S16 32) a x).toNat < S512.size a)
theorem k3_idx19_inb : ∀ (v2189 : IVec S16 32) (k3_hw19 : k3_chk19 v2189), ∀ a x, ((![v2189] : Fin 1 → IVec S16 32) a x).toNat < S512.size a := fun v2189 k3_hw19 => k3_hw19

def k3_chk20 (v2197 : IVec S16 32) : Prop :=
  (∀ a x, ((![v2197] : Fin 1 → IVec S16 32) a x).toNat < S512.size a)
theorem k3_idx20_inb : ∀ (v2197 : IVec S16 32) (k3_hw20 : k3_chk20 v2197), ∀ a x, ((![v2197] : Fin 1 → IVec S16 32) a x).toNat < S512.size a := fun v2197 k3_hw20 => k3_hw20

def k3_chk21 (v2205 : IVec S16 32) : Prop :=
  (∀ a x, ((![v2205] : Fin 1 → IVec S16 32) a x).toNat < S512.size a)
theorem k3_idx21_inb : ∀ (v2205 : IVec S16 32) (k3_hw21 : k3_chk21 v2205), ∀ a x, ((![v2205] : Fin 1 → IVec S16 32) a x).toNat < S512.size a := fun v2205 k3_hw21 => k3_hw21

def k3_chk22 (v2215 : IVec S16 32) : Prop :=
  (∀ a x, ((![v2215] : Fin 1 → IVec S16 32) a x).toNat < S512.size a)
theorem k3_idx22_inb : ∀ (v2215 : IVec S16 32) (k3_hw22 : k3_chk22 v2215), ∀ a x, ((![v2215] : Fin 1 → IVec S16 32) a x).toNat < S512.size a := fun v2215 k3_hw22 => k3_hw22

def k3_chk23 (v2223 : IVec S16 32) : Prop :=
  (∀ a x, ((![v2223] : Fin 1 → IVec S16 32) a x).toNat < S512.size a)
theorem k3_idx23_inb : ∀ (v2223 : IVec S16 32) (k3_hw23 : k3_chk23 v2223), ∀ a x, ((![v2223] : Fin 1 → IVec S16 32) a x).toNat < S512.size a := fun v2223 k3_hw23 => k3_hw23

def k3_chk24 (v2231 : IVec S16 32) : Prop :=
  (∀ a x, ((![v2231] : Fin 1 → IVec S16 32) a x).toNat < S512.size a)
theorem k3_idx24_inb : ∀ (v2231 : IVec S16 32) (k3_hw24 : k3_chk24 v2231), ∀ a x, ((![v2231] : Fin 1 → IVec S16 32) a x).toNat < S512.size a := fun v2231 k3_hw24 => k3_hw24

def k3_chk25 (v2239 : IVec S16 32) : Prop :=
  (∀ a x, ((![v2239] : Fin 1 → IVec S16 32) a x).toNat < S512.size a)
theorem k3_idx25_inb : ∀ (v2239 : IVec S16 32) (k3_hw25 : k3_chk25 v2239), ∀ a x, ((![v2239] : Fin 1 → IVec S16 32) a x).toNat < S512.size a := fun v2239 k3_hw25 => k3_hw25

def k3_chk26 (v2247 : IVec S16 32) : Prop :=
  (∀ a x, ((![v2247] : Fin 1 → IVec S16 32) a x).toNat < S512.size a)
theorem k3_idx26_inb : ∀ (v2247 : IVec S16 32) (k3_hw26 : k3_chk26 v2247), ∀ a x, ((![v2247] : Fin 1 → IVec S16 32) a x).toNat < S512.size a := fun v2247 k3_hw26 => k3_hw26

def k3_chk27 (v2255 : IVec S16 32) : Prop :=
  (∀ a x, ((![v2255] : Fin 1 → IVec S16 32) a x).toNat < S512.size a)
theorem k3_idx27_inb : ∀ (v2255 : IVec S16 32) (k3_hw27 : k3_chk27 v2255), ∀ a x, ((![v2255] : Fin 1 → IVec S16 32) a x).toNat < S512.size a := fun v2255 k3_hw27 => k3_hw27

def k3_chk28 (v2263 : IVec S16 32) : Prop :=
  (∀ a x, ((![v2263] : Fin 1 → IVec S16 32) a x).toNat < S512.size a)
theorem k3_idx28_inb : ∀ (v2263 : IVec S16 32) (k3_hw28 : k3_chk28 v2263), ∀ a x, ((![v2263] : Fin 1 → IVec S16 32) a x).toNat < S512.size a := fun v2263 k3_hw28 => k3_hw28

def k3_chk29 (v2271 : IVec S16 32) : Prop :=
  (∀ a x, ((![v2271] : Fin 1 → IVec S16 32) a x).toNat < S512.size a)
theorem k3_idx29_inb : ∀ (v2271 : IVec S16 32) (k3_hw29 : k3_chk29 v2271), ∀ a x, ((![v2271] : Fin 1 → IVec S16 32) a x).toNat < S512.size a := fun v2271 k3_hw29 => k3_hw29

def k3_chk30 (v2279 : IVec S16 32) : Prop :=
  (∀ a x, ((![v2279] : Fin 1 → IVec S16 32) a x).toNat < S512.size a)
theorem k3_idx30_inb : ∀ (v2279 : IVec S16 32) (k3_hw30 : k3_chk30 v2279), ∀ a x, ((![v2279] : Fin 1 → IVec S16 32) a x).toNat < S512.size a := fun v2279 k3_hw30 => k3_hw30

def k3_chk31 (v2287 : IVec S16 32) : Prop :=
  (∀ a x, ((![v2287] : Fin 1 → IVec S16 32) a x).toNat < S512.size a)
theorem k3_idx31_inb : ∀ (v2287 : IVec S16 32) (k3_hw31 : k3_chk31 v2287), ∀ a x, ((![v2287] : Fin 1 → IVec S16 32) a x).toNat < S512.size a := fun v2287 k3_hw31 => k3_hw31

def k3_chk32 (v2295 : IVec S16 32) : Prop :=
  (∀ a x, ((![v2295] : Fin 1 → IVec S16 32) a x).toNat < S512.size a)
theorem k3_idx32_inb : ∀ (v2295 : IVec S16 32) (k3_hw32 : k3_chk32 v2295), ∀ a x, ((![v2295] : Fin 1 → IVec S16 32) a x).toNat < S512.size a := fun v2295 k3_hw32 => k3_hw32

def k3_chk33 (v2303 : IVec S16 32) : Prop :=
  (∀ a x, ((![v2303] : Fin 1 → IVec S16 32) a x).toNat < S512.size a)
theorem k3_idx33_inb : ∀ (v2303 : IVec S16 32) (k3_hw33 : k3_chk33 v2303), ∀ a x, ((![v2303] : Fin 1 → IVec S16 32) a x).toNat < S512.size a := fun v2303 k3_hw33 => k3_hw33

def k3_chk34 (v2311 : IVec S16 32) : Prop :=
  (∀ a x, ((![v2311] : Fin 1 → IVec S16 32) a x).toNat < S512.size a)
theorem k3_idx34_inb : ∀ (v2311 : IVec S16 32) (k3_hw34 : k3_chk34 v2311), ∀ a x, ((![v2311] : Fin 1 → IVec S16 32) a x).toNat < S512.size a := fun v2311 k3_hw34 => k3_hw34

def k3_chk35 (v2319 : IVec S16 32) : Prop :=
  (∀ a x, ((![v2319] : Fin 1 → IVec S16 32) a x).toNat < S512.size a)
theorem k3_idx35_inb : ∀ (v2319 : IVec S16 32) (k3_hw35 : k3_chk35 v2319), ∀ a x, ((![v2319] : Fin 1 → IVec S16 32) a x).toNat < S512.size a := fun v2319 k3_hw35 => k3_hw35

def k3_chk36 (v2327 : IVec S16 32) : Prop :=
  (∀ a x, ((![v2327] : Fin 1 → IVec S16 32) a x).toNat < S512.size a)
theorem k3_idx36_inb : ∀ (v2327 : IVec S16 32) (k3_hw36 : k3_chk36 v2327), ∀ a x, ((![v2327] : Fin 1 → IVec S16 32) a x).toNat < S512.size a := fun v2327 k3_hw36 => k3_hw36

def k3_chk37 (v2335 : IVec S16 32) : Prop :=
  (∀ a x, ((![v2335] : Fin 1 → IVec S16 32) a x).toNat < S512.size a)
theorem k3_idx37_inb : ∀ (v2335 : IVec S16 32) (k3_hw37 : k3_chk37 v2335), ∀ a x, ((![v2335] : Fin 1 → IVec S16 32) a x).toNat < S512.size a := fun v2335 k3_hw37 => k3_hw37
def k3_off27 (i : grid3.Coords) : Fin 1 → Nat :=
  let arg1 : BitVec 32 := BitVec.ofNat 32 (i 1).val
  let c32_i32 : BitVec 32 := 32#32
  let v1 : BitVec 32 := Scalar.muli arg1 c32_i32
  ![v1.toNat]
abbrev scKind : Fin 2 → Kind := fun | 0 => .scVector | 1 => .scVector | ⟨_ + 2, h⟩ => absurd h (Nat.not_lt.2 (Nat.le_add_left _ _))
abbrev scNCore : Fin 2 → Nat := fun | 0 => 1 | 1 => 1 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S320000x128 : Shape := ⟨2, ![320000, 128]⟩
abbrev S320000 : Shape := ⟨1, ![320000]⟩
abbrev S128x1 : Shape := ⟨2, ![128, 1]⟩
abbrev S1 : Shape := ⟨1, ![1]⟩
abbrev S320000x1 : Shape := ⟨2, ![320000, 1]⟩
abbrev S1x1 : Shape := ⟨2, ![1, 1]⟩
abbrev S_ : Shape := ⟨0, ![]⟩
abbrev S512x1 : Shape := ⟨2, ![512, 1]⟩
abbrev S512 : Shape := ⟨1, ![512]⟩

abbrev nBuf : Space → Nat
  | .hbm => 13
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x1, .f32⟩
  | .hbm, ⟨3, _⟩ => ⟨S1, .f32⟩
  | .hbm, ⟨4, _⟩ => ⟨S320000x1, .f32⟩
  | .hbm, ⟨5, _⟩ => ⟨S1x1, .f32⟩
  | .hbm, ⟨6, _⟩ => ⟨S320000x1, .f32⟩
  | .hbm, ⟨7, _⟩ => ⟨S320000x1, .f32⟩
  | .hbm, ⟨8, _⟩ => ⟨S_, .f32⟩
  | .hbm, ⟨9, _⟩ => ⟨S512x1, .f32⟩
  | .hbm, ⟨10, _⟩ => ⟨S320000x1, .i32⟩
  | .hbm, ⟨11, _⟩ => ⟨S512x1, .f32⟩
  | .hbm, ⟨12, _⟩ => ⟨S512, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.SegProg.lean ====
module
public import Idealize.ShloMosaic.Lib.Pipeline
public import Idealize.ShloMosaic.Lib.Scf
public import Idealize.ShloMosaic.Lib.Sig
public import Idealize.ShloMosaic.Lib.SparseCore
public import Idealize.ShloMosaic.PureOps

@[expose] public section

/-! # One tile's program of the segment sum, written as a recursion

The kernel's text for one vector subcore unrolls everything: sixteen copies of a block of the shared
table, thirty-two sixteen-lane additions after each, thirty-two gathers at the end. Here the same
program is written once, by recursion on the block and on the lane group, over any memory signature
and any memrefs. Every piece takes the rest of the program as its last argument, so that the text's
own windows, which stop in the middle of a step, can be met at any point. -/

noncomputable section

namespace Seg

open Idealize.ShloMosaic Idealize.SL.Sem

abbrev T16 : Shape := ⟨1, ![16]⟩
abbrev T32 : Shape := ⟨1, ![32]⟩
abbrev T512 : Shape := ⟨1, ![512]⟩
abbrev T8192 : Shape := ⟨1, ![8192]⟩
abbrev T10000 : Shape := ⟨1, ![10000]⟩
abbrev T160000 : Shape := ⟨1, ![160000]⟩
abbrev T16x8192 : Shape := ⟨2, ![16, 8192]⟩
abbrev T1x8192 : Shape := ⟨2, ![1, 8192]⟩
abbrev T1x512 : Shape := ⟨2, ![1, 512]⟩

/-- What one tile's program works on: the array of summands, the array of segment numbers and the
    output in HBM; the tile's own buffers for its chunk of each, its table, a block of another tile's
    table, the running sums and the finished sums; the table every tile writes its row of; and one
    semaphore for each copy. -/
structure Args (sig : RefSig) where
  vals : Memref sig .scVector .hbm T160000 .f32
  ids : Memref sig .scVector .hbm T160000 .i32
  out : Memref sig .scVector .hbm T512 .f32
  valsV : Memref sig .scVector .vmem T10000 .f32
  idsV : Memref sig .scVector .vmem T10000 .i32
  tbl : Memref sig .scVector .vmem T8192 .f32
  blk : Memref sig .scVector .vmem T512 .f32
  acc : Memref sig .scVector .vmem T512 .f32
  outV : Memref sig .scVector .vmem T32 .f32
  shared : Memref sig .scVector .shared T16x8192 .f32
  hvalsV : valsV.IsWhole
  hidsV : idsV.IsWhole
  htbl : tbl.IsWhole
  hblk : blk.IsWhole
  hacc : acc.IsWhole
  houtV : outV.IsWhole
  semVals : DmaSems sig ⟨0, ![]⟩
  semIds : DmaSems sig ⟨0, ![]⟩
  semTbl : DmaSems sig ⟨0, ![]⟩
  semBlk : Fin 16 → DmaSems sig ⟨0, ![]⟩
  semOut : DmaSems sig ⟨0, ![]⟩

/-- The partial sums a second call starts from: the array in HBM, the tile's own buffer for its
    thirty-two of them, and the copy's semaphore. -/
structure PartArgs (sig : RefSig) where
  part : Memref sig .scVector .hbm T512 .f32
  partV : Memref sig .scVector .vmem T32 .f32
  hpartV : partV.IsWhole
  semPart : DmaSems sig ⟨0, ![]⟩

/-! ## The offsets, and that they are in range -/

/-- The sixteen trips clearing loops make. -/
@[reducible] def loop512 : Scf.Loop 32 := ⟨0#32, Scalar.addi 0#32 512#32, 1#32⟩
@[reducible] def loop125 : Scf.Loop 32 := ⟨0#32, Scalar.addi 0#32 125#32, 1#32⟩
@[reducible] def loop32 : Scf.Loop 32 := ⟨0#32, Scalar.addi 0#32 32#32, 1#32⟩

/-- The three kinds of loop run 512, -/
theorem trips512 : loop512.trips = 512 := by decide
/-- 125 -/
theorem trips125 : loop125.trips = 125 := by decide
/-- and 32 times. -/
theorem trips32 : loop32.trips = 32 := by decide
/-- Their steps are positive: -/
theorem ok512 : loop512.OK := by decide
/-- of the second, -/
theorem ok125 : loop125.OK := by decide
/-- and of the third. -/
theorem ok32 : loop32.OK := by decide

/-- Where trip `t` of a clearing loop starts: element `16 t`. -/
def offClear (t : Nat) : Fin 1 → Nat := ![(Scalar.indexCast (Scalar.muli (Scf.iv 0#32 1#32 t) 16#32)).toNat]
/-- Where step `u` of trip `t` of the scatter loop starts: element `16 (5 t + u)`. -/
def offScat (u : Nat) (t : Nat) : Fin 1 → Nat :=
  ![(Scalar.indexCast (Scalar.muli (Scalar.addi (Scalar.muli (Scf.iv 0#32 1#32 t) 5#32) (BitVec.ofNat 32 u)) 16#32)).toNat]
/-- Where tile `w`'s chunk of the summands starts. -/
def offChunk (w : Fin 16) : Fin 1 → Nat := ![(Scalar.muli (BitVec.ofNat 32 w.val) 10000#32).toNat]
/-- Where tile `w`'s thirty-two outputs start. -/
def offOut (w : Fin 16) : Fin 1 → Nat := ![(Scalar.muli (BitVec.ofNat 32 w.val) 32#32).toNat]
/-- Tile `w`'s row of the shared table. -/
def offRow (w : Fin 16) : Fin 2 → Nat := ![(BitVec.ofNat 32 w.val).toNat, 0]
/-- Tile `w`'s block of row `src` of the shared table. -/
def offBlk (src : Nat) (w : Fin 16) : Fin 2 → Nat :=
  ![(BitVec.ofNat 32 src).toNat, (Scalar.muli (Scalar.muli (BitVec.ofNat 32 w.val) 32#32) 16#32).toNat]

/-- The offsets as numbers: a clearing loop's, -/
theorem offClear_eq {t : Nat} (ht : t < 512) : offClear t = ![16 * t] := by
  unfold offClear
  congr 1
  simp [IntOp.muli, IntOp.addi, Scalar.muli, Scalar.indexCast, Scf.iv]
  omega

/-- the scatter loop's, -/
theorem offScat_eq {u t : Nat} (hu : u < 5) (ht : t < 125) : offScat u t = ![16 * (5 * t + u)] := by
  unfold offScat
  congr 1
  simp [IntOp.muli, IntOp.addi, Scalar.muli, Scalar.addi, Scalar.indexCast, Scf.iv]
  omega

/-- a tile's chunk's, -/
theorem offChunk_eq (w : Fin 16) : offChunk w = ![10000 * w.val] := by
  unfold offChunk
  have := w.isLt
  congr 1
  simp [IntOp.muli, IntOp.addi, Scalar.muli]
  omega

/-- its outputs', -/
theorem offOut_eq (w : Fin 16) : offOut w = ![32 * w.val] := by
  unfold offOut
  have := w.isLt
  congr 1
  simp [IntOp.muli, IntOp.addi, Scalar.muli]
  omega

/-- its row's, -/
theorem offRow_eq (w : Fin 16) : offRow w = ![w.val, 0] := by
  unfold offRow
  have := w.isLt
  congr 1
  simp
  omega

/-- and its blocks'. -/
theorem offBlk_eq {src : Nat} (hs : src < 16) (w : Fin 16) : offBlk src w = ![src, 512 * w.val] := by
  unfold offBlk
  have := w.isLt
  have h1 : (BitVec.ofNat 32 src).toNat = src := by simp; omega
  have h2 : (Scalar.muli (Scalar.muli (BitVec.ofNat 32 w.val) 32#32) 16#32).toNat = 512 * w.val := by
    simp [IntOp.muli, IntOp.addi, Scalar.muli]
    omega
  rw [h1, h2]

/-- Every access is inside its buffer: the clearing of the table, -/
theorem inbClear8192 (t : Fin loop512.trips) : ∀ a, offClear t.val a + T16.size a ≤ T8192.size a := by
  have ht : t.val < 512 := lt_of_lt_of_eq t.isLt trips512
  intro a; fin_cases a; rw [offClear_eq ht]; show 16 * t.val + 16 ≤ 8192; omega

/-- of the running sums, -/
theorem inbClear512 (t : Fin loop32.trips) : ∀ a, offClear t.val a + T16.size a ≤ T512.size a := by
  have ht : t.val < 32 := lt_of_lt_of_eq t.isLt trips32
  intro a; fin_cases a; rw [offClear_eq (by omega)]; show 16 * t.val + 16 ≤ 512; omega

/-- the reads of the summands, -/
theorem inbScat (u : Fin 5) (t : Fin loop125.trips) : ∀ a, offScat u.val t.val a + T16.size a ≤ T10000.size a := by
  have ht : t.val < 125 := lt_of_lt_of_eq t.isLt trips125
  have hu := u.isLt
  intro a; fin_cases a; rw [offScat_eq hu ht]; show 16 * (5 * t.val + u.val) + 16 ≤ 10000; omega

/-- the chunk, -/
theorem inbChunk (w : Fin 16) : ∀ a, offChunk w a + T10000.size a ≤ T160000.size a := by
  have := w.isLt
  intro a; fin_cases a; rw [offChunk_eq]; show 10000 * w.val + 10000 ≤ 160000; omega

/-- the outputs, -/
theorem inbOut (w : Fin 16) : ∀ a, offOut w a + T32.size a ≤ T512.size a := by
  have := w.isLt
  intro a; fin_cases a; rw [offOut_eq]; show 32 * w.val + 32 ≤ 512; omega

/-- the row, -/
theorem inbRow (w : Fin 16) : ∀ a, offRow w a + T1x8192.size a ≤ T16x8192.size a := by
  have := w.isLt
  intro a; rw [offRow_eq]; fin_cases a
  · show w.val + 1 ≤ 16; omega
  · show 0 + 8192 ≤ 8192; omega

/-- the blocks, -/
theorem inbBlk (src : Fin 16) (w : Fin 16) : ∀ a, offBlk src.val w a + T1x512.size a ≤ T16x8192.size a := by
  have := w.isLt
  have := src.isLt
  intro a; rw [offBlk_eq src.isLt]; fin_cases a
  · show src.val + 1 ≤ 16; omega
  · show 512 * w.val + 512 ≤ 8192; omega

/-- the running sums, -/
theorem inbAcc (n : Fin 32) : ∀ a, (![16 * n.val] : Fin 1 → Nat) a + T16.size a ≤ T512.size a := by
  have := n.isLt
  intro a; fin_cases a; show 16 * n.val + 16 ≤ 512; omega

/-- and the halves of the outputs. -/
theorem inbHalf (g : Fin 2) : ∀ a, (![16 * g.val] : Fin 1 → Nat) a + T16.size a ≤ T32.size a := by
  have := g.isLt
  intro a; fin_cases a; show 16 * g.val + 16 ≤ 32; omega

/-- The shapes are not empty: sixteen lanes, -/
theorem pos16 : 0 < T16.numel := by decide
/-- the running sums, -/
theorem pos512 : 0 < T512.numel := by decide
/-- the table. -/
theorem pos8192 : 0 < T8192.numel := by decide
/-- A row is a table, -/
theorem sqRow : T1x8192.Squeezes T8192 := by decide
/-- a block is an array of running sums, -/
theorem sqBlk : T1x512.Squeezes T512 := by decide
/-- and lanes can be numbered. -/
theorem iota16 : T16.Iotas .scVector 32 [0] := by decide

/-- The lane numbers `0 … 15`. -/
def lanes : IVec T16 32 := iota .scVector T16 32 [0] iota16

/-- Every lane's index is a place of the running sums. -/
def Chk512 (v : IVec T16 32) : Prop := ∀ a x, ((![v] : Fin 1 → IVec T16 32) a x).toNat < T512.size a
instance Chk512.dec : ∀ v : IVec T16 32, Decidable (Chk512 v) := fun v => decidable_of_iff' _ (Iff.of_eq (Chk512.eq_1 v))

/-- Every lane's index is a place of the table. -/
def Chk8192 (v : IVec T16 32) : Prop := ∀ a x, ((![v] : Fin 1 → IVec T16 32) a x).toNat < T8192.size a
instance Chk8192.dec : ∀ v : IVec T16 32, Decidable (Chk8192 v) := fun v => decidable_of_iff' _ (Iff.of_eq (Chk8192.eq_1 v))

/-- The table places of sixteen segment numbers: sixteen times the segment number plus the lane. -/
def scatIdx (b : IVec T16 32) : IVec T16 32 := addi (muli b (broadcast T16 16#32)) lanes

/-- The places of the running sums that gather `c` of output group `g` reads: lane `l` reads place
    `16 (16 g + l) + c`. -/
def gathIdx (g c : Nat) : IVec T16 32 :=
  addi (muli (addi lanes (broadcast T16 (BitVec.ofNat 32 (16 * g)))) (broadcast T16 16#32)) (broadcast T16 (BitVec.ofNat 32 c))

section Prog

variable {nD : Nat} {τ : Topo} {sig : RefSig} {F : FTy → Type} [FloatOps F] {Λ : Labels}
variable {c : Fin τ.nSC} {j : Fin τ.nSub}

/-- The zero vector a clearing loop stores. -/
def zeros : FVec F T16 .f32 := broadcast T16 (Scalar.ofBits .f32 0x00000000#32)

abbrev TileProg (nD : Nat) (τ : Topo) (sig : RefSig) (F : FTy → Type) (Λ : Labels) (c : Fin τ.nSC) (j : Fin τ.nSub) :=
  Prog (TpuEff nD τ sig (Elt F) Λ (.scVector c j)) PUnit

variable (A : Args sig) (w : Fin 16)

/-! ## One lane group's addition -/

abbrev accRect (n : Fin 32) : Rect T512 := Rect.unit (s := T512) ![16 * n.val] T16.size (inbAcc n)

/-- The last instruction of lane group `n`'s addition: write the sum back. -/
def addStore (n : Fin 32) (v : FVec F T16 .f32) (K : TileProg nD τ sig F Λ c j) : TileProg nD τ sig F Λ c j :=
  Prog.lift (.store A.acc (accRect n) v Finset.univ (View.stores_vmem_bits_univ pos16 rfl) (.inl rfl)) >>= fun _ => K

/-- The sum is formed; the kernel reads the running sums once more, to no use, and writes back. -/
def addSum (n : Fin 32) (v : FVec F T16 .f32) (K : TileProg nD τ sig F Λ c j) : TileProg nD τ sig F Λ c j :=
  Prog.lift (.load A.acc (accRect n).toLoadRect (View.loadsAt_vmem pos16)) >>= fun _ => addStore A n v K

/-- The running sums are read: read the block's lanes and add. -/
def addBlk (n : Fin 32) (v : FVec F T16 .f32) (K : TileProg nD τ sig F Λ c j) : TileProg nD τ sig F Λ c j :=
  Prog.lift (.load A.blk (accRect n).toLoadRect (View.loadsAt_vmem pos16)) >>= fun (u : Vec F T16 .f32) => addSum A n (addf v u) K

/-- Lane group `n`'s addition of the block to the running sums. -/
def addStep (n : Fin 32) (K : TileProg nD τ sig F Λ c j) : TileProg nD τ sig F Λ c j :=
  Prog.lift (.load A.acc (accRect n).toLoadRect (View.loadsAt_vmem pos16)) >>= fun (v : Vec F T16 .f32) => addBlk A n v K

/-- The last `k` lane groups' additions. -/
def addFrom : (k : Nat) → k ≤ 32 → TileProg nD τ sig F Λ c j → TileProg nD τ sig F Λ c j
  | 0, _, K => K
  | k + 1, h, K => addStep A ⟨32 - (k + 1), by omega⟩ (addFrom k (by omega) K)

/-! ## The sixteen blocks -/

/-- Block `src`: tile `w`'s columns of row `src` of the shared table. -/
abbrev blkSrc (src : Fin 16) : Memref sig .scVector .shared T512 .f32 :=
  (A.shared.slice (Rect.unit (s := T16x8192) (offBlk src.val w) T1x512.size (inbBlk src w)) (fun _ => rfl)).squeeze T512 sqBlk

/-- Wait for block `src`'s copy. -/
def blkWait (src : Fin 16) (K : TileProg nD τ sig F Λ c j) : TileProg nD τ sig F Λ c j :=
  Prog.lift (.waitDma2 (A.semBlk src).sem (blkSrc A w src) A.blk ((View.wordExact_bits rfl).reshape _ _) A.hblk.wordExact) >>= fun _ => K

/-- Copy block `src` in and wait for it. -/
def blkCopy (src : Fin 16) (K : TileProg nD τ sig F Λ c j) : TileProg nD τ sig F Λ c j :=
  Prog.lift (.enqueueDma (blkSrc A w src) (.here A.blk) (.dma (A.semBlk src).sem) ((View.wordExact_bits rfl).reshape _ _)
    A.hblk.wordExact ⟨Or.inl rfl, trivial⟩) >>= fun _ => blkWait A w src K

/-- The last `k` blocks: copy each in and add it to the running sums. -/
def blkFrom : (k : Nat) → k ≤ 16 → TileProg nD τ sig F Λ c j → TileProg nD τ sig F Λ c j
  | 0, _, K => K
  | k + 1, h, K => blkCopy A w ⟨16 - (k + 1), by omega⟩ (addFrom A 32 (by omega) (blkFrom k (by omega) K))

/-! ## The gathers -/

/-- The index is in range: gather and add. -/
def gathTake (v : IVec T16 32) (h : Chk512 v) (u : FVec F T16 .f32) (K : FVec F T16 .f32 → TileProg nD τ sig F Λ c j) :
    TileProg nD τ sig F Λ c j :=
  SparseCore.vectorLoadIdx A.acc ![v] h (View.loads_vmem pos512) >>= fun (x : Vec F T16 .f32) => K (addf u x)

/-- One gather: assume the index in range, gather and add. -/
def gathStep (v : IVec T16 32) (u : FVec F T16 .f32) (K : FVec F T16 .f32 → TileProg nD τ sig F Λ c j) :
    TileProg nD τ sig F Λ c j :=
  Prog.lift (.assume (Chk512 v) (Chk512.dec v)) >>= fun h => gathTake A v h.down u K

/-- The last `k` gathers of output group `g`, added to `u`. -/
def gathFrom (g : Nat) : (k : Nat) → FVec F T16 .f32 → (FVec F T16 .f32 → TileProg nD τ sig F Λ c j) → TileProg nD τ sig F Λ c j
  | 0, u, K => K u
  | k + 1, u, K => gathStep A (gathIdx g (16 - (k + 1))) u fun u' => gathFrom g k u' K

abbrev halfRect (g : Fin 2) : Rect T32 := Rect.unit (s := T32) ![16 * g.val] T16.size (inbHalf g)

/-- Write output group `g` (reading it first, to no use). -/
def outStore (g : Fin 2) (u : FVec F T16 .f32) (K : TileProg nD τ sig F Λ c j) : TileProg nD τ sig F Λ c j :=
  Prog.lift (.load A.outV (halfRect g).toLoadRect (View.loadsAt_vmem pos16)) >>= fun _ =>
  Prog.lift (.store A.outV (halfRect g) u Finset.univ (View.stores_vmem_bits_univ pos16 rfl) (.inl rfl)) >>= fun _ => K

/-- Output group `g`, from the starting value `u`. -/
def group (g : Fin 2) (u : FVec F T16 .f32) (K : TileProg nD τ sig F Λ c j) : TileProg nD τ sig F Λ c j :=
  gathFrom A g.val 16 u fun u' => outStore A g u' K

/-! ## The copies of HBM chunks -/

abbrev valsSrc : Memref sig .scVector .hbm T10000 .f32 :=
  A.vals.slice (Rect.unit (s := T160000) (offChunk w) T10000.size (inbChunk w)) (fun _ => rfl)
abbrev idsSrc : Memref sig .scVector .hbm T10000 .i32 :=
  A.ids.slice (Rect.unit (s := T160000) (offChunk w) T10000.size (inbChunk w)) (fun _ => rfl)
abbrev outDst : Memref sig .scVector .hbm T32 .f32 :=
  A.out.slice (Rect.unit (s := T512) (offOut w) T32.size (inbOut w)) (fun _ => rfl)
abbrev rowDst : Memref sig .scVector .shared T8192 .f32 :=
  (A.shared.slice (Rect.unit (s := T16x8192) (offRow w) T1x8192.size (inbRow w)) (fun _ => rfl)).squeeze T8192 sqRow
abbrev partSrc (B : PartArgs sig) : Memref sig .scVector .hbm T32 .f32 :=
  B.part.slice (Rect.unit (s := T512) (offOut w) T32.size (inbOut w)) (fun _ => rfl)

/-- Start both chunks' copies. -/
def startChunks (K : TileProg nD τ sig F Λ c j) : TileProg nD τ sig F Λ c j :=
  Prog.lift (.enqueueDma (valsSrc A w) (.here A.valsV) (.dma A.semVals.sem) (View.wordExact_bits rfl) A.hvalsV.wordExact ⟨Or.inl rfl, trivial⟩) >>= fun _ =>
  Prog.lift (.enqueueDma (idsSrc A w) (.here A.idsV) (.dma A.semIds.sem) (View.wordExact_bits rfl) A.hidsV.wordExact ⟨Or.inl rfl, trivial⟩) >>= fun _ => K

/-- Wait for both chunks' copies. -/
def waitChunks (K : TileProg nD τ sig F Λ c j) : TileProg nD τ sig F Λ c j :=
  Prog.lift (.waitDma2 A.semVals.sem (valsSrc A w) A.valsV (View.wordExact_bits rfl) A.hvalsV.wordExact) >>= fun _ =>
  Prog.lift (.waitDma2 A.semIds.sem (idsSrc A w) A.idsV (View.wordExact_bits rfl) A.hidsV.wordExact) >>= fun _ => K

/-- Copy the tile's partial sums in. -/
def copyPart (B : PartArgs sig) (K : TileProg nD τ sig F Λ c j) : TileProg nD τ sig F Λ c j :=
  Prog.lift (.enqueueDma (partSrc w B) (.here B.partV) (.dma B.semPart.sem) (View.wordExact_bits rfl) B.hpartV.wordExact ⟨Or.inl rfl, trivial⟩) >>= fun _ =>
  Prog.lift (.waitDma2 B.semPart.sem (partSrc w B) B.partV (View.wordExact_bits rfl) B.hpartV.wordExact) >>= fun _ => K

/-- Copy the table to the tile's row of the shared table. -/
def copyRow (K : TileProg nD τ sig F Λ c j) : TileProg nD τ sig F Λ c j :=
  Prog.lift (.enqueueDma A.tbl (.here (rowDst A w)) (.dma A.semTbl.sem) A.htbl.wordExact ((View.wordExact_bits rfl).reshape _ _) ⟨Or.inl rfl, trivial⟩) >>= fun _ =>
  Prog.lift (.waitDma2 A.semTbl.sem A.tbl (rowDst A w) A.htbl.wordExact ((View.wordExact_bits rfl).reshape _ _)) >>= fun _ => K

/-- Copy the tile's sums to the output. -/
def copyOut (K : TileProg nD τ sig F Λ c j) : TileProg nD τ sig F Λ c j :=
  Prog.lift (.enqueueDma A.outV (.here (outDst A w)) (.dma A.semOut.sem) A.houtV.wordExact (View.wordExact_bits rfl) ⟨Or.inl rfl, trivial⟩) >>= fun _ =>
  Prog.lift (.waitDma2 A.semOut.sem A.outV (outDst A w) A.houtV.wordExact (View.wordExact_bits rfl)) >>= fun _ => K

/-! ## The loops -/

/-- Clear the table. -/
def clearTbl : TileProg nD τ sig F Λ c j :=
  Scf.Loop.for loop512 ok512 ⟨⟩ fun t _ =>
    Prog.lift (.load A.tbl (Rect.unit (s := T8192) (offClear t.val) T16.size (inbClear8192 t)).toLoadRect (View.loadsAt_vmem pos16)) >>= fun _ =>
    Prog.lift (.store A.tbl (Rect.unit (s := T8192) (offClear t.val) T16.size (inbClear8192 t)) zeros Finset.univ (View.stores_vmem_bits_univ pos16 rfl) (.inl rfl)) >>= fun _ => .ret ⟨⟩

/-- Clear the running sums. -/
def clearAcc : TileProg nD τ sig F Λ c j :=
  Scf.Loop.for loop32 ok32 ⟨⟩ fun t _ =>
    Prog.lift (.load A.acc (Rect.unit (s := T512) (offClear t.val) T16.size (inbClear512 t)).toLoadRect (View.loadsAt_vmem pos16)) >>= fun _ =>
    Prog.lift (.store A.acc (Rect.unit (s := T512) (offClear t.val) T16.size (inbClear512 t)) zeros Finset.univ (View.stores_vmem_bits_univ pos16 rfl) (.inl rfl)) >>= fun _ => .ret ⟨⟩

/-- The places are known: assume them in range, read the summands and add them into the table. -/
def scatTake (u : Fin 5) (t : Fin loop125.trips) (v : IVec T16 32) (K : TileProg nD τ sig F Λ c j) : TileProg nD τ sig F Λ c j :=
  Prog.lift (.assume (Chk8192 v) (Chk8192.dec v)) >>= fun h =>
  Prog.lift (.load A.valsV (Rect.unit (s := T10000) (offScat u.val t.val) T16.size (inbScat u t)).toLoadRect (View.loadsAt_vmem pos16)) >>= fun (x : Vec F T16 .f32) =>
  SparseCore.vectorStoreIdx A.tbl ![v] x (fun _ => 1#1) true h.down (View.stores_vmem_bits_univ pos8192 rfl) >>= fun _ => K

/-- Step `u` of trip `t` of the scatter loop: read sixteen segment numbers and add the sixteen
    summands into the table at their places. -/
def scatStep (u : Fin 5) (t : Fin loop125.trips) (K : TileProg nD τ sig F Λ c j) : TileProg nD τ sig F Λ c j :=
  Prog.lift (.load A.idsV (Rect.unit (s := T10000) (offScat u.val t.val) T16.size (inbScat u t)).toLoadRect (View.loadsAt_vmem pos16)) >>= fun (b : Vec F T16 .i32) =>
  scatTake A u t (scatIdx b) K

/-- The scatter loop. -/
def scatter : TileProg nD τ sig F Λ c j :=
  Scf.Loop.for loop125 ok125 ⟨⟩ fun t _ =>
    scatStep A 0 t <| scatStep A 1 t <| scatStep A 2 t <| scatStep A 3 t <| scatStep A 4 t <| .ret ⟨⟩

/-! ## The whole program -/

/-- After the table is clear: wait for the chunks, scatter them, publish the row, meet the other
    tiles, and clear the running sums. -/
def middle (bar : Sem sig) (hn : 16 ≤ τ.nSub) (K : TileProg nD τ sig F Λ c j) : TileProg nD τ sig F Λ c j :=
  clearTbl A >>= fun _ => waitChunks A w <| scatter A >>= fun _ => copyRow A w <|
    SparseCore.subcoreBarrier bar 16 hn >>= fun _ => clearAcc A >>= fun _ => K

/-- The tile's program of a call without partial sums. -/
def body (bar : Sem sig) (hn : 16 ≤ τ.nSub) : TileProg nD τ sig F Λ c j :=
  startChunks A w <| middle A w bar hn <| blkFrom A w 16 (by omega) <|
    group A 0 zeros <| group A 1 zeros <| copyOut A w <| .ret ⟨⟩

/-- Output group `g`, from the partial sums. -/
def groupPart (B : PartArgs sig) (g : Fin 2) (K : TileProg nD τ sig F Λ c j) : TileProg nD τ sig F Λ c j :=
  Prog.lift (.load B.partV (halfRect g).toLoadRect (View.loadsAt_vmem pos16)) >>= fun (u : Vec F T16 .f32) => group A g u K

/-- The tile's program of a call that starts from partial sums. -/
def bodyPart (B : PartArgs sig) (bar : Sem sig) (hn : 16 ≤ τ.nSub) : TileProg nD τ sig F Λ c j :=
  startChunks A w <| copyPart w B <| middle A w bar hn <| blkFrom A w 16 (by omega) <|
    groupPart A B 0 <| groupPart A B 1 <| copyOut A w <| .ret ⟨⟩

end Prog

end Seg

end
-- ==== Proof.SegCut.lean ====
module
public import proofs.«01_k».proof.Proof.SegProg

@[expose] public section

/-! # The tile program from any of its middles

The kernel's text is cut into windows of equal length, which stop anywhere. Each name below is the
rest of the tile's program from one kind of stopping place, to be met by a window's end. -/

noncomputable section

namespace Seg

open Idealize.ShloMosaic Idealize.SL.Sem

variable {nD : Nat} {τ : Topo} {sig : RefSig} {F : FTy → Type} [FloatOps F] {Λ : Labels}
variable {c : Fin τ.nSC} {j : Fin τ.nSub}
variable (A : Args sig) (w : Fin 16) (T : TileProg nD τ sig F Λ c j)

/-- Before block `s`'s copy. -/
def fromBlk (s : Fin 17) : TileProg nD τ sig F Λ c j := blkFrom A w (16 - s.val) (by omega) T
/-- After lane group `n - 1` of block `s`. -/
def fromAdd (s : Fin 16) (n : Fin 33) : TileProg nD τ sig F Λ c j :=
  addFrom A (32 - n.val) (by omega) (blkFrom A w (15 - s.val) (by omega) T)
/-- Block `s`'s copy is under way. -/
def fromWait (s : Fin 16) : TileProg nD τ sig F Λ c j := blkWait A w s (fromAdd A w T s 0)
/-- In lane group `n` of block `s`, the running sums `v` are read. -/
def fromVal (s : Fin 16) (n : Fin 32) (v : FVec F T16 .f32) : TileProg nD τ sig F Λ c j :=
  addBlk A n v (fromAdd A w T s n.succ)
/-- In lane group `n` of block `s`, the sum `v` is formed. -/
def fromSum (s : Fin 16) (n : Fin 32) (v : FVec F T16 .f32) : TileProg nD τ sig F Λ c j :=
  addSum A n v (fromAdd A w T s n.succ)
/-- In lane group `n` of block `s`, the sum `v` is about to be written. -/
def fromStore (s : Fin 16) (n : Fin 32) (v : FVec F T16 .f32) : TileProg nD τ sig F Λ c j :=
  addStore A n v (fromAdd A w T s n.succ)

/-- A program met window by window: if the rest after the first window is `g`, and the first window
    followed by `g` is `q`, the whole is `q`. -/
theorem window {E : Type → Type} {α β : Type} {p : Prog E α} {f g : α → Prog E β} {q : Prog E β}
    (hq : p >>= g = q) (hf : ∀ x, f x = g x) : p >>= f = q := by
  rw [show f = g from funext hf]; exact hq

/-- Two programs whose first parts agree and whose rests agree are the same. -/
theorem bind_congr2 {E : Type → Type} {α β : Type} {p p' : Prog E α} {f g : α → Prog E β}
    (hp : p = p') (hf : ∀ x, f x = g x) : p >>= f = p' >>= g := by
  rw [hp, show f = g from funext hf]

end Seg

end
-- ==== Proof.SegStep.lean ====
module
public import Idealize.ShloMosaic.Lib.SparseCore.Ops
public import Idealize.ShloMosaic.Lib.Memref
public import Idealize.ShloMosaic.Lib.Transfers
public import Idealize.ShloMosaic.Lib.Scf
public import proofs.«01_k».proof.Proof.SegProg

@[expose] public section

/-! # One operation of a tile, over memrefs owned at known contents

Each rule says what one operation of the tile's program does to the contents of the memrefs it
touches, the contents being functions of the memref's own index. -/

noncomputable section

namespace Seg

open Idealize.ShloMosaic
open Idealize.SL
open Idealize.SL.BI (sProp)
open scoped Idealize.SL.BI
open Idealize.SL.BI.BIBase Idealize.SL.BI.Laws Idealize.SL.Sem Idealize.SL.ProofMode
open Idealize.SL.RA

section Step

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp sp' : Space} {cs : CoreSpace} {s t : Shape} {e : EltTy} {α : Type} {Q : α → sProp (MT nD τ sig Ix (Elt F) Name U Lvl)}

local notation "𝕄" => MT nD τ sig Ix (Elt F) Name U Lvl

/-- A load of a rectangle continues at the owned contents there. -/
theorem wp_loadOwned {m : Memref sig c.2.kind cs s e} {r : Rect s} {hl : m.view.LoadsAt r.toLoadRect}
    {k : (r.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) Set.univ (k fun x => X (r.emb x)) Q)
        -∗ wp frame (wpE defs 𝒱 c bd) Set.univ (.op (.load m r.toLoadRect hl) k) Q) := by
  have hS : (m.access r).set ⊆ m.view.set := by exact View.set_slice_subset _ _
  unfold owns
  iintro ⟨%f, %hf, H⟩ HK
  iapply (wp_load_rect 𝒱 c bd Set.univ (m := m) (r := r) (hl := hl) hS) $$ H
  iintro H
  rw [show (m.access r).read (Elt F) f = fun x => X (r.emb x) from by rw [← hf]; rfl]
  iapply HK
  iexists f
  isplitr
  · ipureintro; exact hf
  · iexact H

/-- A store of a rectangle leaves the owned contents overlaid with what is stored. -/
theorem wp_storeOwned {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {X : s.Idx → Elt F e} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  have hS : (m.access r).setOn Finset.univ ⊆ m.view.set := by
    exact View.set_slice_subset _ _
  unfold owns
  iintro ⟨%f, %hf, H⟩ HK
  iapply (wp_store 𝒱 c bd Set.univ (m := m) (r := r) (w := w) (hx := hx) (hm := hm) hS) $$ H
  iintro H
  iapply HK
  iexists _
  isplitr
  swap
  · iexact H
  · ipureintro
    funext y
    by_cases hy : y ∈ r.set
    · rw [← Rect.map_emb_univ] at hy
      obtain ⟨x, -, rfl⟩ := Finset.mem_map.mp hy
      rw [Rect.overlay_emb]; exact View.read_slice_write_emb _ _ _ (Finset.mem_univ x)
    · rw [Rect.overlay_of_not_mem _ _ _ hy, ← hf]
      exact View.read_slice_write_of_not_mem _ _ _ _ (by rwa [Rect.map_emb_univ])

/-- A gather continues at the owned contents of the lanes' places. -/
theorem wp_gatherOwned {m : Memref sig c.2.kind .vmem s e} {idxs : Fin s.rank → IVec t 32}
    {h : ∀ a x, (idxs a x).toNat < s.size a} {hl : m.view.Loads} {k : Vec F t e → Prog (TpuEff nD τ sig (Elt F) Λ c.2) α}
    {q : PosShare TreeShare} {X : s.Idx → Elt F e} :
    (owns c m q X : sProp 𝕄)
      ⊢ iprop((owns c m q X -∗ wp frame (wpE defs 𝒱 c bd) Set.univ (k (loadIdx X idxs h)) Q)
        -∗ wp frame (wpE defs 𝒱 c bd) Set.univ (SparseCore.vectorLoadIdx m idxs h hl >>= k) Q) := by
  rw [SparseCore.vectorLoadIdx_bind]
  have hX : (fun x => X ((Rect.whole s).emb x)) = X := funext fun x => congrArg X (Rect.emb_whole_apply s x)
  iintro H HK
  iapply (wp_loadOwned 𝒱 c bd (m := m) (r := Rect.whole s)) $$ H
  rw [hX]
  iexact HK

/-- A scatter leaves the owned contents with the lanes' values at the lanes' places. -/
theorem wp_scatterOwned {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} {X : s.Idx → Elt F e} :
    (owns c m fullShare X : sProp 𝕄)
      ⊢ iprop((owns c m fullShare (storeIdx X idxs v mask add h) -∗ wp frame (wpE defs 𝒱 c bd) Set.univ (k ⟨⟩) Q)
        -∗ wp frame (wpE defs 𝒱 c bd) Set.univ (SparseCore.vectorStoreIdx m idxs v mask add h hs >>= k) Q) := by
  rw [SparseCore.vectorStoreIdx_bind]
  have hX : (fun x => X ((Rect.whole s).emb x)) = X := funext fun x => congrArg X (Rect.emb_whole_apply s x)
  iintro H HK
  iapply (wp_loadOwned 𝒱 c bd (m := m) (r := Rect.whole s)) $$ H
  rw [hX]
  iintro H
  iapply (wp_storeOwned 𝒱 c bd (m := m) (r := Rect.whole s)) $$ H
  rw [show (Rect.whole s).overlay X (storeIdx X idxs v mask add h) = storeIdx X idxs v mask add h from by
    funext x
    have := Rect.overlay_emb (Rect.whole s) X (storeIdx X idxs v mask add h) x
    rwa [Rect.emb_whole_apply] at this]
  iexact HK

section Copy

variable (EC : UEmb Counters (MT nD τ sig Ix (Elt F) Name U Lvl)) [Infinite Name]
  [EC.LandsIn (upEmb : UEmb _ (MT nD τ sig Ix (Elt F) Name U Lvl))]

/-- What a tile has waited for and what it owes: its debt, and waits at index `ι` beside those of
    `W₀`. -/
def Owing (ι : Ix) (O : CellTallies nD τ sig Ix) (W₀ : Waits sig Ix) : sProp 𝕄 :=
  iprop(∃ W, ⌜∀ p ∈ W, p ∈ W₀ ∨ p.2 = ι⌝ ∗ owes c O W)

/-- Starting a copy from one owned memref to another: both are out, and come back, the target at the
    source's contents, with the copy's wait. -/
theorem wp_startOwned {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig (Elt F) Λ c.2) α} {q : PosShare TreeShare} {X Y : s.Idx → Elt F e}
    (ι : Ix) (hN : 0 < dst.view.dmaCredit) :
    iprop(owns c src q X ∗ owns c dst fullShare Y ∗ semVal (c, .dma sm) 0 : sProp 𝕄)
      ⊢ iprop((Transfers.Flight EC c (.dma sm) ι dst.view.dmaCredit iprop(owns c dst fullShare X ∗ owns c src q X)
              -∗ wp frame (wpE defs 𝒱 c bd) Set.univ (k ⟨⟩) Q)
          -∗ wp frame (wpE defs 𝒱 c bd) Set.univ (.op (.enqueueDma src (.here dst) (.dma sm) hsrc hdst hsem) k) Q) := by
  iintro ⟨Hs, Hd, Hv⟩ HK
  unfold owns
  icases Hs with ⟨%f, %hf, Hs⟩
  icases Hd with ⟨%g, %hg, Hd⟩
  iapply (Transfers.wp_dmaLocal EC 𝒱 c bd ι dst.view.dmaCredit rfl hN (le_refl _)) $$ [Hs Hd Hv]
  · isplitl [Hs]; · iexact Hs
    isplitl [Hd]; · iexact Hd
    iexact Hv
  iintro H
  iapply HK
  iapply (Transfers.Flight_mono EC c ?_) $$ H
  iintro ⟨Hd, Hs⟩
  isplitl [Hd]
  · iexists _
    isplitr
    swap
    · iexact Hd
    · ipureintro
      rw [View.read_write_univ, ← hf]
  · iexists f
    isplitr
    · ipureintro; exact hf
    · iexact Hs

/-- Waiting for a copy gives back what it delivers. -/
theorem wp_waitOwned {s' : Shape} {e' : EltTy} {sm : DmaSem sig} {src : Memref sig c.2.kind sp s' e'} {dst : Memref sig c.2.kind sp' s e}
    {hsrc : src.view.WordExact} {hdst : dst.view.WordExact}
    {k : PUnit → Prog (TpuEff nD τ sig (Elt F) Λ c.2) α} (ι : Ix) {D : sProp 𝕄} {O : CellTallies nD τ sig Ix} {W₀ : Waits sig Ix} :
    iprop(Transfers.Flight EC c (.dma sm) ι dst.view.dmaCredit D ∗ Owing c ι O W₀ ∗ Transfers.MayWaits c ι O)
      ⊢ iprop((iprop(D ∗ semVal (c, .dma sm) 0 ∗ Owing c ι O W₀) -∗ wp frame (wpE defs 𝒱 c bd) Set.univ (k ⟨⟩) Q)
          -∗ wp frame (wpE defs 𝒱 c bd) Set.univ (.op (.waitDma2 sm src dst hsrc hdst) k) Q) := by
  unfold Owing
  iintro ⟨HF, ⟨%W, %hW, HO⟩, HM⟩ HK
  ihave HM' := (Transfers.MayWaits.elim (.dma sm)) $$ HM
  iapply (Transfers.wp_waitLocalO EC 𝒱 c bd ι rfl) $$ [HF HO HM']
  · isplitl [HF]; · iexact HF
    isplitl [HO]; · iexact HO
    iexact HM'
  iintro ⟨HD, Hv, HO⟩
  iapply HK
  isplitl [HD]; · iexact HD
  isplitl [Hv]; · iexact Hv
  iexists _
  isplitr
  swap
  · iexact HO
  · ipureintro
    intro p hp
    rcases Finset.mem_insert.mp hp with rfl | hp
    · exact .inr rfl
    · exact hW p hp

end Copy

end Step

end Seg

end
-- ==== Proof.SegVals.lean ====
module
public import Idealize.ShloMosaic.Lib.Memref
public import proofs.«01_k».proof.Proof.SegProg

@[expose] public section

/-! # What a tile's program computes, as plain functions -/

noncomputable section

namespace Seg

open Idealize.ShloMosaic

/-- The place number `i` of a one-axis shape. -/
abbrev at1 (N : Nat) (i : Nat) (h : i < N) : (⟨1, ![N]⟩ : Shape).Idx := Shape.ofLane (d := ![N]) ⟨i, h⟩

/-! ## Arrays filled in from the front, sixteen elements at a time -/

/-- `R` on the first `16 n` elements, `O` on the others. -/
def fillTo {N : Nat} {α : Type} (n : Nat) (O R : (⟨1, ![N]⟩ : Shape).Idx → α) : (⟨1, ![N]⟩ : Shape).Idx → α :=
  fun y => if (y 0).val < 16 * n then R y else O y

/-- After no sixteen nothing is filled, -/
theorem fillTo_zero {N : Nat} {α : Type} (O R : (⟨1, ![N]⟩ : Shape).Idx → α) : fillTo 0 O R = O :=
  funext fun y => if_neg (by omega)

/-- and after enough of them everything. -/
theorem fillTo_all {N n : Nat} {α : Type} (h : N ≤ 16 * n) (O R : (⟨1, ![N]⟩ : Shape).Idx → α) : fillTo n O R = R :=
  funext fun y => if_pos (lt_of_lt_of_le (show (y 0).val < N from (y 0).isLt) h)

/-- Overlaying the next sixteen elements with `R`'s fills in sixteen more. -/
theorem fillTo_step {N : Nat} {α : Type} {off : Fin 1 → Nat} {inb : ∀ a, off a + T16.size a ≤ (⟨1, ![N]⟩ : Shape).size a} (n : Nat) (hoff : off 0 = 16 * n)
    (O R : (⟨1, ![N]⟩ : Shape).Idx → α) (G : T16.Idx → α)
    (hG : ∀ x : T16.Idx, G x = R ((Rect.unit (s := ⟨1, ![N]⟩) off T16.size inb).emb x)) :
    (Rect.unit (s := ⟨1, ![N]⟩) off T16.size inb).overlay (fillTo n O R) G = fillTo (n + 1) O R := by
  funext y
  by_cases hy : y ∈ (Rect.unit (s := ⟨1, ![N]⟩) off T16.size inb).set
  · have hm := Rect.mem_set_unit.mp hy 0
    rw [← Rect.map_emb_univ] at hy
    obtain ⟨x, -, rfl⟩ := Finset.mem_map.mp hy
    rw [Rect.overlay_emb, hG x]
    refine (if_pos ?_).symm
    have h2 : (((Rect.unit (s := ⟨1, ![N]⟩) off T16.size inb).emb x) 0).val < off 0 + 16 := hm.2
    omega
  · rw [Rect.overlay_of_not_mem _ _ _ hy]
    have hm : ¬ (off 0 ≤ (y 0).val ∧ (y 0).val < off 0 + 16) := fun h => hy (Rect.mem_set_unit.mpr fun a => by
      have : a = 0 := Subsingleton.elim _ _
      subst this; exact h)
    unfold fillTo
    by_cases h1 : (y 0).val < 16 * n
    · rw [if_pos h1, if_pos (by omega)]
    · rw [if_neg h1, if_neg (by omega)]

/-- Beyond what is filled in, the old contents. -/
theorem fillTo_rest {N : Nat} {α : Type} {off : Fin 1 → Nat} {inb : ∀ a, off a + T16.size a ≤ (⟨1, ![N]⟩ : Shape).size a} (n : Nat) (hoff : off 0 = 16 * n)
    (O R : (⟨1, ![N]⟩ : Shape).Idx → α) (x : T16.Idx) :
    fillTo n O R ((Rect.unit (s := ⟨1, ![N]⟩) off T16.size inb).emb x) = O ((Rect.unit (s := ⟨1, ![N]⟩) off T16.size inb).emb x) := by
  refine if_neg ?_
  have : (((Rect.unit (s := ⟨1, ![N]⟩) off T16.size inb).emb x) 0).val = off 0 + 1 * (x 0).val := rfl
  omega

section Float

variable {F : FTy → Type} [FloatOps F]

/-- The zero the kernel clears with. -/
abbrev zero : F .f32 := Scalar.ofBits .f32 0x00000000#32

/-! ## The table -/

/-- Element `k` of the `n`-th sixteen of a chunk. -/
def grp {α : Type} (a : T10000.Idx → α) (n : Nat) : T16.Idx → α :=
  fun l => a (at1 10000 ((16 * n + (l 0).val) % 10000) (Nat.mod_lt _ (by omega)))

/-- The table with sixteen summands added in at the places `v`, if the places are in range. -/
def scatAdd (X : Vec F T8192 .f32) (v : IVec T16 32) (x : Vec F T16 .f32) : Vec F T8192 .f32 :=
  if h : Chk8192 v then storeIdx X ![v] x (fun _ => 1#1) true h else X

/-- The table after the first `n` sixteens of the chunk. -/
def tblAt (a : Vec F T10000 .f32) (b : Vec F T10000 .i32) : Nat → Vec F T8192 .f32
  | 0 => fun _ => zero
  | n + 1 => scatAdd (tblAt a b n) (scatIdx (grp b n)) (grp a n)

/-- A tile's table: its whole chunk added in. -/
def tableOf (a : Vec F T10000 .f32) (b : Vec F T10000 .i32) : Vec F T8192 .f32 := tblAt a b 625

/-! ## The running sums -/

/-- Block `src` of the tables: columns `512 w …` of tile `src`'s. -/
def blkVal (T : Fin 16 → Vec F T8192 .f32) (w : Fin 16) (src : Fin 16) : Vec F T512 .f32 :=
  fun x => T src (at1 8192 (512 * w.val + (x 0).val) (by
    have h1 : (x 0).val < 512 := (x 0).isLt
    have h2 := w.isLt
    omega))

/-- The running sums after the first `n` blocks. -/
def accAt (Y : Fin 16 → Vec F T512 .f32) : Nat → Vec F T512 .f32
  | 0 => fun _ => zero
  | n + 1 => addf (accAt Y n) (Y ⟨n % 16, Nat.mod_lt _ (by omega)⟩)

/-! ## The finished sums -/

/-- Output `x` after `n` of the sixteen running sums of its segment are added. -/
def outAt (P : Vec F T32 .f32) (X : Vec F T512 .f32) : Nat → Vec F T32 .f32
  | 0 => P
  | n + 1 => fun x => addf (outAt P X n) (fun x => X (at1 512 ((16 * (x 0).val + n) % 512) (Nat.mod_lt _ (by omega)))) x

/-- What tile `w` writes: from the starting values `P`, all sixteen tables' blocks, all sixteen places
    of each segment. -/
def outOf (P : Vec F T32 .f32) (T : Fin 16 → Vec F T8192 .f32) (w : Fin 16) : Vec F T32 .f32 :=
  outAt P (accAt (blkVal T w) 16) 16

end Float

/-! ## The places are in range -/

/-- Lane `l`'s number is `l`. -/
theorem lanes_val (l : T16.Idx) : (lanes l).toNat = (l 0).val := by
  revert l; decide

/-- Sixteen segment numbers below 512 name places of the table. -/
theorem chk_scat {b : IVec T16 32} (h : ∀ x, (b x).toNat < 512) : Chk8192 (scatIdx b) := by
  intro a x
  have ha : a = 0 := Subsingleton.elim _ _
  subst ha
  show (scatIdx b x).toNat < 8192
  have h1 := h x
  have h2 := lanes_val x
  have h3 : (x 0).val < 16 := (x 0).isLt
  have h4 : scatIdx b x = b x * 16#32 + lanes x := rfl
  rw [h4, BitVec.toNat_add, BitVec.toNat_mul, h2]
  simp only [BitVec.toNat_ofNat]
  omega

/-- A summand of segment `s` in lane `l` goes to place `16 s + l`. -/
theorem scat_val {b : IVec T16 32} (h : ∀ x, (b x).toNat < 512) (x : T16.Idx) : (scatIdx b x).toNat = 16 * (b x).toNat + (x 0).val := by
  have h1 := h x
  have h2 := lanes_val x
  have h3 : (x 0).val < 16 := (x 0).isLt
  have h4 : scatIdx b x = b x * 16#32 + lanes x := rfl
  rw [h4, BitVec.toNat_add, BitVec.toNat_mul, h2]
  simp only [BitVec.toNat_ofNat]
  omega

/-- Lane `l` of the gather reads lane `c` of segment `16 g + l`. -/
theorem gath_val {g c : Nat} (hg : g < 2) (hc : c < 16) (x : T16.Idx) : (gathIdx g c x).toNat = 16 * (16 * g + (x 0).val) + c := by
  have h2 := lanes_val x
  have h3 : (x 0).val < 16 := (x 0).isLt
  have h4 : gathIdx g c x = (lanes x + BitVec.ofNat 32 (16 * g)) * 16#32 + BitVec.ofNat 32 c := rfl
  rw [h4, BitVec.toNat_add, BitVec.toNat_mul, BitVec.toNat_add, h2]
  simp only [BitVec.toNat_ofNat]
  omega

/-- The gathers' places are places of the running sums. -/
theorem chk_gath {g c : Nat} (hg : g < 2) (hc : c < 16) : Chk512 (gathIdx g c) := by
  intro a x
  have ha : a = 0 := Subsingleton.elim _ _
  subst ha
  show (gathIdx g c x).toNat < 512
  rw [gath_val hg hc]
  have h3 : (x 0).val < 16 := (x 0).isLt
  omega

end Seg

end
-- ==== Proof.SegTile.lean ====
module
public import proofs.«01_k».proof.Proof.SegStep
public import proofs.«01_k».proof.Proof.SegVals
public import Idealize.ShloMosaic.Lib.Tactic

@[expose] public section

/-! # One tile's program, piece by piece

For every piece of the tile's program a rule: from what the piece needs, running it reduces to running
the rest of the program from what it leaves, with the contents of every memref it touches known. -/

noncomputable section

namespace Seg

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA

section Tile

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (d : Dev nD) (c : Fin τ.nSC) (j : Fin τ.nSub) (bd : Option 𝒱.V)
variable {Q : PUnit → sProp (MT nD τ sig Ix (Elt F) Name U Lvl)}
variable (A : Args sig) (w : Fin 16) {K : TileProg nD τ sig F Λ c j}

local notation "𝕄" => MT nD τ sig Ix (Elt F) Name U Lvl
local notation "𝕥" => ((d, Proc.scVector c j) : Thread nD τ)
local notation "𝕨" p => wp frame (wpE defs 𝒱 ((d, Proc.scVector c j) : Thread nD τ) bd) Set.univ p Q

/-- The memref's elements, at some contents. -/
def some_ (t : Thread nD τ) {sp : Space} {s : Shape} {e : EltTy} (m : Memref sig t.2.kind sp s e) : sProp 𝕄 :=
  iprop(∃ X : s.Idx → Elt F e, owns t m fullShare X)

/-! ## The additions -/

/-- Lane group `n`'s addition. -/
theorem wp_addStep (n : Fin 32) {X Y : Vec F T512 .f32} :
    iprop(owns 𝕥 A.acc fullShare (fillTo n.val X (addf X Y)) ∗ owns 𝕥 A.blk fullShare Y : sProp 𝕄)
      ⊢ iprop((iprop(owns 𝕥 A.acc fullShare (fillTo (n.val + 1) X (addf X Y)) ∗ owns 𝕥 A.blk fullShare Y) -∗ 𝕨 K)
        -∗ 𝕨 addStep A n K) := by
  unfold addStep addBlk addSum addStore
  simp only [Prog.bind_lift]
  iintro ⟨HX, HY⟩ HK
  iapply (wp_loadOwned 𝒱 𝕥 bd (m := A.acc) (r := accRect n)) $$ HX
  iintro HX
  iapply (wp_loadOwned 𝒱 𝕥 bd (m := A.blk) (r := accRect n)) $$ HY
  iintro HY
  iapply (wp_loadOwned 𝒱 𝕥 bd (m := A.acc) (r := accRect n)) $$ HX
  iintro HX
  iapply (wp_storeOwned 𝒱 𝕥 bd (m := A.acc) (r := accRect n)) $$ HX
  rw [fillTo_step n.val rfl X (addf X Y) _ fun x => by
    exact congrArg (fun z => FloatOps.addf z (Y ((accRect n).emb x))) (fillTo_rest (inb := inbAcc n) n.val rfl X (addf X Y) x)]
  iintro HX
  iapply HK
  isplitl [HX]; · iexact HX
  iexact HY

/-- The last `k` lane groups' additions. -/
theorem wp_addFrom {X Y : Vec F T512 .f32} : ∀ (k : Nat) (hk : k ≤ 32),
    iprop(owns 𝕥 A.acc fullShare (fillTo (32 - k) X (addf X Y)) ∗ owns 𝕥 A.blk fullShare Y : sProp 𝕄)
      ⊢ iprop((iprop(owns 𝕥 A.acc fullShare (addf X Y) ∗ owns 𝕥 A.blk fullShare Y) -∗ 𝕨 K)
        -∗ 𝕨 addFrom A k hk K)
  | 0, _ => by
    rw [fillTo_all (by omega)]
    iintro H HK
    iapply HK
    iexact H
  | k + 1, hk => by
    iintro H HK
    iapply (wp_addStep 𝒱 d c j bd A ⟨32 - (k + 1), by omega⟩) $$ H
    iintro H
    rw [show 32 - (k + 1) + 1 = 32 - k by omega]
    iapply (wp_addFrom k _) $$ H
    iexact HK

/-! ## The gathers -/

/-- The last `k` gathers of output group `g`: from the sixteen lanes of the sums so far to those of the
    finished sums. -/
theorem wp_gathFrom (g : Fin 2) {X : Vec F T512 .f32} (P : Vec F T32 .f32) {KK : FVec F T16 .f32 → TileProg nD τ sig F Λ c j} :
    ∀ (k : Nat) (hk : k ≤ 16),
    (owns 𝕥 A.acc fullShare X : sProp 𝕄)
      ⊢ iprop((owns 𝕥 A.acc fullShare X -∗ 𝕨 KK fun x => outAt P X 16 ((halfRect g).emb x))
        -∗ 𝕨 gathFrom A g.val k (fun x => outAt P X (16 - k) ((halfRect g).emb x)) KK)
  | 0, _ => by
    iintro H HK
    iapply HK
    iexact H
  | k + 1, hk => by
    have hc : Chk512 (gathIdx g.val (16 - (k + 1))) := chk_gath g.isLt (by omega)
    unfold gathFrom gathStep gathTake
    simp only [Prog.bind_lift]
    iintro H HK
    iapply (wp_assume 𝒱 𝕥 bd Set.univ hc)
    iapply (wp_gatherOwned 𝒱 𝕥 bd (m := A.acc)) $$ H
    iintro H
    rw [show (addf (fun x => outAt P X (16 - (k + 1)) ((halfRect g).emb x)) (loadIdx X ![gathIdx g.val (16 - (k + 1))] hc) : FVec F T16 .f32)
        = fun x => outAt P X (16 - k) ((halfRect g).emb x) from by
      funext x
      rw [show 16 - k = 16 - (k + 1) + 1 by omega, outAt]
      refine congrArg (FloatOps.addf (outAt P X (16 - (k + 1)) ((halfRect g).emb x))) ?_
      refine congrArg X (funext fun a => Fin.ext ?_)
      have ha : a = 0 := Subsingleton.elim _ _
      subst ha
      show (gathIdx g.val (16 - (k + 1)) x).toNat = (16 * (16 * g.val + 1 * (x 0).val) + (16 - (k + 1))) % 512
      rw [gath_val g.isLt (by omega)]
      have := g.isLt
      have h3 : (x 0).val < 16 := (x 0).isLt
      omega]
    iapply (wp_gathFrom g P k (by omega)) $$ H
    iexact HK

/-- Output group `g`. -/
theorem wp_group (g : Fin 2) {X : Vec F T512 .f32} {R : Vec F T32 .f32} (P : Vec F T32 .f32) :
    iprop(owns 𝕥 A.acc fullShare X ∗ owns 𝕥 A.outV fullShare (fillTo g.val R (outAt P X 16)) : sProp 𝕄)
      ⊢ iprop((iprop(owns 𝕥 A.acc fullShare X ∗ owns 𝕥 A.outV fullShare (fillTo (g.val + 1) R (outAt P X 16))) -∗ 𝕨 K)
        -∗ 𝕨 group A g (fun x => P ((halfRect g).emb x)) K) := by
  unfold group
  iintro ⟨HX, HO⟩ HK
  iapply (wp_gathFrom 𝒱 d c j bd A g P 16 (le_refl _)) $$ HX
  iintro HX
  unfold outStore
  simp only [Prog.bind_lift]
  iapply (wp_loadOwned 𝒱 𝕥 bd (m := A.outV) (r := halfRect g)) $$ HO
  iintro HO
  iapply (wp_storeOwned 𝒱 𝕥 bd (m := A.outV) (r := halfRect g)) $$ HO
  rw [fillTo_step g.val rfl R (outAt P X 16) _ fun x => rfl]
  iintro HO
  iapply HK
  isplitl [HX]; · iexact HX
  iexact HO

/-- Both output groups of a call without partial sums. -/
theorem wp_groups {X : Vec F T512 .f32} :
    iprop(owns 𝕥 A.acc fullShare X ∗ some_ 𝕥 A.outV : sProp 𝕄)
      ⊢ iprop((iprop(owns 𝕥 A.acc fullShare X ∗ owns 𝕥 A.outV fullShare (outAt (fun _ => zero) X 16)) -∗ 𝕨 K)
        -∗ 𝕨 group A 0 zeros (group A 1 zeros K)) := by
  unfold some_
  iintro ⟨HX, ⟨%R, HO⟩⟩ HK
  iapply (wp_group 𝒱 d c j bd A 0 (X := X) (R := R) (fun _ => zero)) $$ [HX HO]
  · rw [show ((0 : Fin 2).val) = 0 from rfl, fillTo_zero]
    isplitl [HX]; · iexact HX
    iexact HO
  rw [show (0 : Fin 2).val + 1 = (1 : Fin 2).val from rfl]
  iintro H
  iapply (wp_group 𝒱 d c j bd A 1 (X := X) (R := R) (fun _ => zero)) $$ H
  rw [show (1 : Fin 2).val + 1 = 2 from rfl, fillTo_all (by omega)]
  iexact HK

/-- Both output groups of a call that starts from partial sums. -/
theorem wp_groupsPart (B : PartArgs sig) {X : Vec F T512 .f32} {P : Vec F T32 .f32} :
    iprop(owns 𝕥 A.acc fullShare X ∗ some_ 𝕥 A.outV ∗ owns 𝕥 B.partV fullShare P : sProp 𝕄)
      ⊢ iprop((iprop(owns 𝕥 A.acc fullShare X ∗ owns 𝕥 A.outV fullShare (outAt P X 16) ∗ owns 𝕥 B.partV fullShare P) -∗ 𝕨 K)
        -∗ 𝕨 groupPart A B 0 (groupPart A B 1 K)) := by
  unfold some_ groupPart
  simp only [Prog.bind_lift]
  iintro ⟨HX, ⟨%R, HO⟩, HP⟩ HK
  iapply (wp_loadOwned 𝒱 𝕥 bd (m := B.partV) (r := halfRect 0)) $$ HP
  iintro HP
  iapply (wp_group 𝒱 d c j bd A 0 (X := X) (R := R) P) $$ [HX HO]
  · rw [show ((0 : Fin 2).val) = 0 from rfl, fillTo_zero]
    isplitl [HX]; · iexact HX
    iexact HO
  rw [show (0 : Fin 2).val + 1 = (1 : Fin 2).val from rfl]
  iintro H
  iapply (wp_loadOwned 𝒱 𝕥 bd (m := B.partV) (r := halfRect 1)) $$ HP
  iintro HP
  iapply (wp_group 𝒱 d c j bd A 1 (X := X) (R := R) P) $$ H
  rw [show (1 : Fin 2).val + 1 = 2 from rfl, fillTo_all (by omega)]
  iintro ⟨HX, HO⟩
  iapply HK
  isplitl [HX]; · iexact HX
  isplitl [HO]; · iexact HO
  iexact HP

/-! ## The loops -/

/-- Clearing the table. -/
theorem wp_clearTbl {KK : PUnit → TileProg nD τ sig F Λ c j} :
    (some_ 𝕥 A.tbl : sProp 𝕄)
      ⊢ iprop((owns 𝕥 A.tbl fullShare (fun _ => (zero : F .f32)) -∗ 𝕨 KK ⟨⟩) -∗ 𝕨 clearTbl A >>= KK) := by
  unfold some_ clearTbl
  simp only [Prog.bind_lift]
  iintro ⟨%X, H⟩ HK
  iapply (Scf.wp_for_bind frame (wpE defs 𝒱 𝕥 bd) Set.univ _ _ _ _ _ _
    (fun n (_ : PUnit) => (owns 𝕥 A.tbl fullShare (fillTo n X (fun _ => (zero : F .f32))) : sProp 𝕄)) (fun n _ => by
      have hn : n.val < 512 := lt_of_lt_of_eq n.isLt trips512
      have hr : ∀ a, offClear n.val a + T16.size a ≤ T8192.size a := inbClear8192 n
      iintro H
      iapply (wp_loadOwned 𝒱 𝕥 bd (m := A.tbl) (r := Rect.unit (s := T8192) (offClear n.val) T16.size hr)) $$ H
      iintro H
      iapply (wp_storeOwned 𝒱 𝕥 bd (m := A.tbl) (r := Rect.unit (s := T8192) (offClear n.val) T16.size hr)) $$ H
      rw [fillTo_step n.val (congrFun (offClear_eq hn) 0) X (fun _ => (zero : F .f32)) zeros fun x => rfl]
      iintro H
      sl_step
      iexact H)) $$ [H]
  · rw [fillTo_zero]; iexact H
  iintro %_ H
  rw [fillTo_all (show 8192 ≤ 16 * loop512.trips by rw [trips512])]
  iapply HK
  iexact H

/-- Clearing the running sums. -/
theorem wp_clearAcc {KK : PUnit → TileProg nD τ sig F Λ c j} :
    (some_ 𝕥 A.acc : sProp 𝕄)
      ⊢ iprop((owns 𝕥 A.acc fullShare (fun _ => (zero : F .f32)) -∗ 𝕨 KK ⟨⟩) -∗ 𝕨 clearAcc A >>= KK) := by
  unfold some_ clearAcc
  simp only [Prog.bind_lift]
  iintro ⟨%X, H⟩ HK
  iapply (Scf.wp_for_bind frame (wpE defs 𝒱 𝕥 bd) Set.univ _ _ _ _ _ _
    (fun n (_ : PUnit) => (owns 𝕥 A.acc fullShare (fillTo n X (fun _ => (zero : F .f32))) : sProp 𝕄)) (fun n _ => by
      have hn : n.val < 32 := lt_of_lt_of_eq n.isLt trips32
      have hr : ∀ a, offClear n.val a + T16.size a ≤ T512.size a := inbClear512 n
      iintro H
      iapply (wp_loadOwned 𝒱 𝕥 bd (m := A.acc) (r := Rect.unit (s := T512) (offClear n.val) T16.size hr)) $$ H
      iintro H
      iapply (wp_storeOwned 𝒱 𝕥 bd (m := A.acc) (r := Rect.unit (s := T512) (offClear n.val) T16.size hr)) $$ H
      rw [fillTo_step n.val (congrFun (offClear_eq (by omega)) 0) X (fun _ => (zero : F .f32)) zeros fun x => rfl]
      iintro H
      sl_step
      iexact H)) $$ [H]
  · rw [fillTo_zero]; iexact H
  iintro %_ H
  rw [fillTo_all (show 512 ≤ 16 * loop32.trips by rw [trips32])]
  iapply HK
  iexact H

/-- What a sixteen of a chunk reads. -/
theorem read_grp {α : Type} (a : T10000.Idx → α) {u t : Nat} (hu : u < 5) (ht : t < 125) (h : ∀ a, offScat u t a + T16.size a ≤ T10000.size a) :
    (fun x : (Rect.unit (s := T10000) (offScat u t) T16.size h).shape.Idx => a ((Rect.unit (s := T10000) (offScat u t) T16.size h).emb x)) = grp a (5 * t + u) := by
  funext x
  refine congrArg a (funext fun b => Fin.ext ?_)
  have hb : b = 0 := Subsingleton.elim _ _
  subst hb
  show offScat u t 0 + 1 * (x 0).val = (16 * (5 * t + u) + (x 0).val) % 10000
  have h1 : offScat u t 0 = 16 * (5 * t + u) := congrFun (offScat_eq hu ht) 0
  have h3 : (x 0).val < 16 := (x 0).isLt
  omega

/-- One step of the scatter loop: the next sixteen summands added into the table. -/
theorem wp_scatStep (u : Fin 5) (t : Fin loop125.trips) {a : Vec F T10000 .f32} {b : Vec F T10000 .i32} (hb : ∀ x, (b x : BitVec 32).toNat < 512) :
    iprop(owns 𝕥 A.valsV fullShare a ∗ owns 𝕥 A.idsV fullShare b ∗ owns 𝕥 A.tbl fullShare (tblAt a b (5 * t.val + u.val)) : sProp 𝕄)
      ⊢ iprop((iprop(owns 𝕥 A.valsV fullShare a ∗ owns 𝕥 A.idsV fullShare b ∗ owns 𝕥 A.tbl fullShare (tblAt a b (5 * t.val + u.val + 1))) -∗ 𝕨 K)
        -∗ 𝕨 scatStep A u t K) := by
  have ht : t.val < 125 := lt_of_lt_of_eq t.isLt trips125
  have hc : Chk8192 (scatIdx (grp b (5 * t.val + u.val))) := chk_scat fun x => hb _
  unfold scatStep scatTake
  simp only [Prog.bind_lift]
  iintro ⟨Ha, Hb, HT⟩ HK
  iapply (wp_loadOwned 𝒱 𝕥 bd (m := A.idsV) (r := Rect.unit (s := T10000) (offScat u.val t.val) T16.size (inbScat u t))) $$ Hb
  rw [read_grp b u.isLt ht (inbScat u t)]
  iintro Hb
  iapply (wp_assume 𝒱 𝕥 bd Set.univ hc)
  iapply (wp_loadOwned 𝒱 𝕥 bd (m := A.valsV) (r := Rect.unit (s := T10000) (offScat u.val t.val) T16.size (inbScat u t))) $$ Ha
  rw [read_grp a u.isLt ht (inbScat u t)]
  iintro Ha
  iapply (wp_scatterOwned 𝒱 𝕥 bd (m := A.tbl)) $$ HT
  iintro HT
  iapply HK
  isplitl [Ha]; · iexact Ha
  isplitl [Hb]; · iexact Hb
  rw [tblAt, scatAdd, dif_pos hc]
  iexact HT

/-- The scatter loop: the whole chunk added into the cleared table. -/
theorem wp_scatter {a : Vec F T10000 .f32} {b : Vec F T10000 .i32} (hb : ∀ x, (b x : BitVec 32).toNat < 512) {KK : PUnit → TileProg nD τ sig F Λ c j} :
    iprop(owns 𝕥 A.valsV fullShare a ∗ owns 𝕥 A.idsV fullShare b ∗ owns 𝕥 A.tbl fullShare (fun _ => (zero : F .f32)) : sProp 𝕄)
      ⊢ iprop((iprop(owns 𝕥 A.valsV fullShare a ∗ owns 𝕥 A.idsV fullShare b ∗ owns 𝕥 A.tbl fullShare (tableOf a b)) -∗ 𝕨 KK ⟨⟩)
        -∗ 𝕨 scatter A >>= KK) := by
  unfold scatter
  iintro H HK
  iapply (Scf.wp_for_bind frame (wpE defs 𝒱 𝕥 bd) Set.univ _ _ _ _ _ _
    (fun n (_ : PUnit) => (iprop(owns 𝕥 A.valsV fullShare a ∗ owns 𝕥 A.idsV fullShare b ∗ owns 𝕥 A.tbl fullShare (tblAt a b (5 * n))) : sProp 𝕄)) (fun n _ => by
      iintro H
      iapply (wp_scatStep 𝒱 d c j bd A 0 n hb) $$ H
      iintro H
      iapply (wp_scatStep 𝒱 d c j bd A 1 n hb) $$ H
      iintro H
      iapply (wp_scatStep 𝒱 d c j bd A 2 n hb) $$ H
      iintro H
      iapply (wp_scatStep 𝒱 d c j bd A 3 n hb) $$ H
      iintro H
      iapply (wp_scatStep 𝒱 d c j bd A 4 n hb) $$ H
      iintro H
      sl_step
      rw [show 5 * (n.val + 1) = 5 * n.val + (4 : Fin 5).val + 1 from by show _ = 5 * n.val + 4 + 1; omega]
      iexact H)) $$ [H]
  · iexact H
  iintro %_ H
  iapply HK
  rw [show 5 * loop125.trips = 625 by rw [trips125]]
  iexact H

/-! ## The blocks -/

section Copies

variable (EC : UEmb Counters (MT nD τ sig Ix (Elt F) Name U Lvl)) [Infinite Name]
  [EC.LandsIn (upEmb : UEmb _ (MT nD τ sig Ix (Elt F) Name U Lvl))]
variable (ι : Ix) (O : CellTallies nD τ sig Ix) (W₀ : Waits sig Ix)

include EC in
/-- A copy of one owned memref onto another, started and waited for. -/
theorem wp_copyOwned {sp sp' : Space} {s : Shape} {e : EltTy} {src : Memref sig .scVector sp s e} {dst : Memref sig .scVector sp' s e} {sm : DmaSem sig}
    {hsrc hsrc' : src.view.WordExact} {hdst hdst' : dst.view.WordExact} {hsem : DmaTarget.Typed (nD := nD) (p := Proc.scVector c j) sp (.dma sm) (.here dst)}
    {q : PosShare TreeShare} {X : s.Idx → Elt F e} (hs : 0 < s.numel) :
    iprop(owns 𝕥 src q X ∗ some_ 𝕥 dst ∗ semVal (𝕥, .dma sm) 0 ∗ Owing 𝕥 ι O W₀ ∗ Transfers.MayWaits 𝕥 ι O : sProp 𝕄)
      ⊢ iprop((iprop(owns 𝕥 src q X ∗ owns 𝕥 dst fullShare X ∗ semVal (𝕥, .dma sm) 0 ∗ Owing 𝕥 ι O W₀) -∗ 𝕨 K)
        -∗ 𝕨 Prog.lift (.enqueueDma src (.here dst) (.dma sm) hsrc hdst hsem) >>= fun _ =>
            Prog.lift (.waitDma2 sm src dst hsrc' hdst') >>= fun _ => K) := by
  simp only [Prog.bind_lift]
  unfold some_
  iintro ⟨Hs, ⟨%Y, Hd⟩, Hv, HO, HM⟩ HK
  iapply (wp_startOwned 𝒱 𝕥 bd EC (src := src) (dst := dst) ι (dst.view.dmaCredit_pos hs)) $$ [Hs Hd Hv]
  · isplitl [Hs]; · iexact Hs
    isplitl [Hd]; · iexact Hd
    iexact Hv
  iintro HF
  iapply (wp_waitOwned 𝒱 𝕥 bd EC (src := src) (dst := dst) ι (O := O) (W₀ := W₀)) $$ [HF HO HM]
  · isplitl [HF]; · iexact HF
    isplitl [HO]; · iexact HO
    iexact HM
  iintro ⟨⟨Hd, Hs⟩, Hv, HO⟩
  iapply HK
  isplitl [Hs]; · iexact Hs
  isplitl [Hd]; · iexact Hd
  isplitl [Hv]; · iexact Hv
  iexact HO

/-- What the sixteen blocks' pieces keep: the blocks at `Y`, and their semaphores at zero. -/
def blocks (Y : Fin 16 → Vec F T512 .f32) : sProp 𝕄 :=
  iprop((bigSep Finset.univ fun src => owns 𝕥 (blkSrc A w src) fullShare (Y src))
    ∗ bigSep Finset.univ fun src => semVal (𝕥, .dma (A.semBlk src).sem) 0)

include EC in
/-- Block `src` copied in. -/
theorem wp_blkCopy (src : Fin 16) (Y : Fin 16 → Vec F T512 .f32) :
    iprop(blocks d c j A w Y ∗ some_ 𝕥 A.blk ∗ Owing 𝕥 ι O W₀ ∗ Transfers.MayWaits 𝕥 ι O : sProp 𝕄)
      ⊢ iprop((iprop(blocks d c j A w Y ∗ owns 𝕥 A.blk fullShare (Y src) ∗ Owing 𝕥 ι O W₀) -∗ 𝕨 K)
        -∗ 𝕨 blkCopy A w src K) := by
  unfold blocks blkCopy blkWait
  rw [SparseCore.bigSep_erase' (Finset.mem_univ src), SparseCore.bigSep_erase' (Φ := fun src => semVal (𝕥, .dma (A.semBlk src).sem) 0) (Finset.mem_univ src)]
  iintro ⟨⟨⟨Hs, Hss⟩, Hv, Hvs⟩, Hd, HO, HM⟩ HK
  iapply (wp_copyOwned 𝒱 d c j bd EC ι O W₀ pos512) $$ [Hs Hd Hv HO HM]
  · isplitl [Hs]; · iexact Hs
    isplitl [Hd]; · iexact Hd
    isplitl [Hv]; · iexact Hv
    isplitl [HO]; · iexact HO
    iexact HM
  iintro ⟨Hs, Hd, Hv, HO⟩
  iapply HK
  isplitl [Hs Hss Hv Hvs]
  · isplitl [Hs Hss]
    · isplitl [Hs]; · iexact Hs
      iexact Hss
    · isplitl [Hv]; · iexact Hv
      iexact Hvs
  isplitl [Hd]; · iexact Hd
  iexact HO

include EC in
/-- The last `k` blocks, each copied in and added. -/
theorem wp_blkFrom (Y : Fin 16 → Vec F T512 .f32) : ∀ (k : Nat) (hk : k ≤ 16),
    iprop(blocks d c j A w Y ∗ some_ 𝕥 A.blk ∗ owns 𝕥 A.acc fullShare (accAt Y (16 - k)) ∗ Owing 𝕥 ι O W₀ ∗ Transfers.MayWaits 𝕥 ι O : sProp 𝕄)
      ⊢ iprop((iprop(blocks d c j A w Y ∗ some_ 𝕥 A.blk ∗ owns 𝕥 A.acc fullShare (accAt Y 16) ∗ Owing 𝕥 ι O W₀) -∗ 𝕨 K)
        -∗ 𝕨 blkFrom A w k hk K)
  | 0, _ => by
    iintro ⟨HB, Hb, Ha, HO, -⟩ HK
    iapply HK
    isplitl [HB]; · iexact HB
    isplitl [Hb]; · iexact Hb
    isplitl [Ha]; · iexact Ha
    iexact HO
  | k + 1, hk => by
    iintro ⟨HB, Hb, Ha, HO, #HM⟩ HK
    iapply (wp_blkCopy 𝒱 d c j bd A w EC ι O W₀ ⟨16 - (k + 1), by omega⟩ Y) $$ [HB Hb HO]
    · isplitl [HB]; · iexact HB
      isplitl [Hb]; · iexact Hb
      isplitl [HO]; · iexact HO
      iexact HM
    iintro ⟨HB, Hb, HO⟩
    iapply (wp_addFrom 𝒱 d c j bd A (X := accAt Y (16 - (k + 1))) (Y := Y ⟨16 - (k + 1), by omega⟩) 32 (le_refl _)) $$ [Ha Hb]
    · rw [fillTo_zero]
      isplitl [Ha]; · iexact Ha
      iexact Hb
    iintro ⟨Ha, Hb⟩
    iapply (wp_blkFrom Y k _) $$ [HB Hb Ha HO]
    · isplitl [HB]; · iexact HB
      isplitl [Hb]; · unfold some_; iexists _; iexact Hb
      isplitl [Ha]
      · rw [show 16 - k = 16 - (k + 1) + 1 by omega, accAt]
        rw [show (⟨(16 - (k + 1)) % 16, Nat.mod_lt _ (by omega)⟩ : Fin 16) = ⟨16 - (k + 1), by omega⟩ from Fin.ext (Nat.mod_eq_of_lt (by omega))]
        iexact Ha
      isplitl [HO]; · iexact HO
      iexact HM
    iexact HK

/-! ## The two halves of the program, before and after the tiles meet -/

/-- The chunks' copies under way. -/
def chunksOut (q : PosShare TreeShare) (a : Vec F T10000 .f32) (b : Vec F T10000 .i32) : sProp 𝕄 :=
  iprop(Transfers.Flight EC 𝕥 (.dma A.semVals.sem) ι A.valsV.view.dmaCredit iprop(owns 𝕥 A.valsV fullShare a ∗ owns 𝕥 (valsSrc A w) q a)
    ∗ Transfers.Flight EC 𝕥 (.dma A.semIds.sem) ι A.idsV.view.dmaCredit iprop(owns 𝕥 A.idsV fullShare b ∗ owns 𝕥 (idsSrc A w) q b))

/-- The tile's chunk of the summands and of the segment numbers. -/
def chunks (q : PosShare TreeShare) (a : Vec F T10000 .f32) (b : Vec F T10000 .i32) : sProp 𝕄 :=
  iprop(owns 𝕥 (valsSrc A w) q a ∗ owns 𝕥 (idsSrc A w) q b)

/-- The buffers and semaphores the chunks are copied with. -/
def chunkBufs : sProp 𝕄 :=
  iprop(some_ 𝕥 A.valsV ∗ some_ 𝕥 A.idsV ∗ semVal (𝕥, .dma A.semVals.sem) 0 ∗ semVal (𝕥, .dma A.semIds.sem) 0)

/-- Starting the chunks' copies. -/
theorem wp_startChunks {q : PosShare TreeShare} {a : Vec F T10000 .f32} {b : Vec F T10000 .i32} :
    iprop(chunks d c j A w q a b ∗ chunkBufs d c j A : sProp 𝕄)
      ⊢ iprop((chunksOut d c j A w EC ι q a b -∗ 𝕨 K) -∗ 𝕨 startChunks A w K) := by
  unfold chunks chunkBufs chunksOut startChunks some_
  simp only [Prog.bind_lift]
  iintro ⟨⟨Ha, Hb⟩, ⟨%X, HX⟩, ⟨%Y, HY⟩, Hv, Hw⟩ HK
  iapply (wp_startOwned 𝒱 𝕥 bd EC (src := valsSrc A w) (dst := A.valsV) ι (A.valsV.view.dmaCredit_pos (by decide))) $$ [Ha HX Hv]
  · isplitl [Ha]; · iexact Ha
    isplitl [HX]; · iexact HX
    iexact Hv
  iintro HF
  iapply (wp_startOwned 𝒱 𝕥 bd EC (src := idsSrc A w) (dst := A.idsV) ι (A.idsV.view.dmaCredit_pos (by decide))) $$ [Hb HY Hw]
  · isplitl [Hb]; · iexact Hb
    isplitl [HY]; · iexact HY
    iexact Hw
  iintro HG
  iapply HK
  isplitl [HF]; · iexact HF
  iexact HG

/-- Waiting for the chunks' copies. -/
theorem wp_waitChunks {q : PosShare TreeShare} {a : Vec F T10000 .f32} {b : Vec F T10000 .i32} :
    iprop(chunksOut d c j A w EC ι q a b ∗ Owing 𝕥 ι O W₀ ∗ Transfers.MayWaits 𝕥 ι O : sProp 𝕄)
      ⊢ iprop((iprop(chunks d c j A w q a b ∗ owns 𝕥 A.valsV fullShare a ∗ owns 𝕥 A.idsV fullShare b
          ∗ semVal (𝕥, .dma A.semVals.sem) 0 ∗ semVal (𝕥, .dma A.semIds.sem) 0 ∗ Owing 𝕥 ι O W₀) -∗ 𝕨 K) -∗ 𝕨 waitChunks A w K) := by
  unfold chunks chunksOut waitChunks
  simp only [Prog.bind_lift]
  iintro ⟨⟨HF, HG⟩, HO, #HM⟩ HK
  iapply (wp_waitOwned 𝒱 𝕥 bd EC (src := valsSrc A w) (dst := A.valsV) ι (O := O) (W₀ := W₀)) $$ [HF HO]
  · isplitl [HF]; · iexact HF
    isplitl [HO]; · iexact HO
    iexact HM
  iintro ⟨⟨HX, Ha⟩, Hv, HO⟩
  iapply (wp_waitOwned 𝒱 𝕥 bd EC (src := idsSrc A w) (dst := A.idsV) ι (O := O) (W₀ := W₀)) $$ [HG HO]
  · isplitl [HG]; · iexact HG
    isplitl [HO]; · iexact HO
    iexact HM
  iintro ⟨⟨HY, Hb⟩, Hw, HO⟩
  iapply HK
  isplitl [Ha Hb]
  · isplitl [Ha]; · iexact Ha
    iexact Hb
  isplitl [HX]; · iexact HX
  isplitl [HY]; · iexact HY
  isplitl [Hv]; · iexact Hv
  isplitl [Hw]; · iexact Hw
  iexact HO

/-- Up to the barrier: the tile's row of the shared table holds its table. -/
theorem wp_middle {q : PosShare TreeShare} {a : Vec F T10000 .f32} {b : Vec F T10000 .i32} (hb : ∀ x, (b x : BitVec 32).toNat < 512)
    (bar : Sem sig) (hn : 16 ≤ τ.nSub) :
    iprop(chunksOut d c j A w EC ι q a b ∗ some_ 𝕥 A.tbl ∗ some_ 𝕥 (rowDst A w) ∗ semVal (𝕥, .dma A.semTbl.sem) 0
        ∗ Owing 𝕥 ι O W₀ ∗ Transfers.MayWaits 𝕥 ι O : sProp 𝕄)
      ⊢ iprop((iprop(chunks d c j A w q a b ∗ chunkBufs d c j A ∗ some_ 𝕥 A.tbl ∗ owns 𝕥 (rowDst A w) fullShare (tableOf a b)
            ∗ semVal (𝕥, .dma A.semTbl.sem) 0 ∗ Owing 𝕥 ι O W₀)
          -∗ 𝕨 SparseCore.subcoreBarrier bar 16 hn >>= fun _ => clearAcc A >>= fun _ => K)
        -∗ 𝕨 middle A w bar hn K) := by
  unfold middle
  iintro ⟨HF, HT, HR, Hs, HO, #HM⟩ HK
  iapply (wp_clearTbl 𝒱 d c j bd A) $$ HT
  iintro HT
  iapply (wp_waitChunks 𝒱 d c j bd A w EC ι O W₀) $$ [HF HO]
  · isplitl [HF]; · iexact HF
    isplitl [HO]; · iexact HO
    iexact HM
  iintro ⟨HC, HX, HY, Hv, Hw, HO⟩
  iapply (wp_scatter 𝒱 d c j bd A hb) $$ [HX HY HT]
  · isplitl [HX]; · iexact HX
    isplitl [HY]; · iexact HY
    iexact HT
  iintro ⟨HX, HY, HT⟩
  unfold copyRow
  iapply (wp_copyOwned 𝒱 d c j bd EC ι O W₀ (src := A.tbl) (dst := rowDst A w) pos8192) $$ [HT HR Hs HO]
  · isplitl [HT]; · iexact HT
    isplitl [HR]; · iexact HR
    isplitl [Hs]; · iexact Hs
    isplitl [HO]; · iexact HO
    iexact HM
  iintro ⟨HT, HR, Hs, HO⟩
  iapply HK
  isplitl [HC]; · iexact HC
  isplitl [HX HY Hv Hw]
  · unfold chunkBufs some_
    isplitl [HX]; · iexists _; iexact HX
    isplitl [HY]; · iexists _; iexact HY
    isplitl [Hv]; · iexact Hv
    iexact Hw
  isplitl [HT]; · unfold some_; iexists _; iexact HT
  isplitl [HR]; · iexact HR
  isplitl [Hs]; · iexact Hs
  iexact HO

include EC in
/-- The partial sums copied in. -/
theorem wp_copyPart (B : PartArgs sig) {q : PosShare TreeShare} {P : Vec F T32 .f32} :
    iprop(owns 𝕥 (partSrc w B) q P ∗ some_ 𝕥 B.partV ∗ semVal (𝕥, .dma B.semPart.sem) 0 ∗ Owing 𝕥 ι O W₀ ∗ Transfers.MayWaits 𝕥 ι O : sProp 𝕄)
      ⊢ iprop((iprop(owns 𝕥 (partSrc w B) q P ∗ owns 𝕥 B.partV fullShare P ∗ semVal (𝕥, .dma B.semPart.sem) 0 ∗ Owing 𝕥 ι O W₀) -∗ 𝕨 K)
        -∗ 𝕨 copyPart w B K) :=
  wp_copyOwned 𝒱 d c j bd EC ι O W₀ (src := partSrc w B) (dst := B.partV) (by decide)

/-- What the tile works on after the barrier, beside the blocks: the block buffer, the running sums,
    the finished sums and their copy's semaphore. -/
def endBufs : sProp 𝕄 :=
  iprop(some_ 𝕥 A.blk ∗ some_ 𝕥 A.acc ∗ some_ 𝕥 A.outV ∗ semVal (𝕥, .dma A.semOut.sem) 0)

include EC in
/-- After the barrier, in a call without partial sums. -/
theorem wp_end (Y : Fin 16 → Vec F T512 .f32) :
    iprop(blocks d c j A w Y ∗ endBufs d c j A ∗ some_ 𝕥 (outDst A w) ∗ Owing 𝕥 ι O W₀ ∗ Transfers.MayWaits 𝕥 ι O : sProp 𝕄)
      ⊢ iprop((iprop(blocks d c j A w Y ∗ endBufs d c j A ∗ owns 𝕥 (outDst A w) fullShare (outAt (fun _ => zero) (accAt Y 16) 16) ∗ Owing 𝕥 ι O W₀) -∗ Q ⟨⟩)
        -∗ 𝕨 clearAcc A >>= fun _ => blkFrom A w 16 (by omega) <| group A 0 zeros <| group A 1 zeros <| copyOut A w <| .ret ⟨⟩) := by
  unfold endBufs
  iintro ⟨HB, ⟨Hb, Ha, Ho, Hs⟩, HD, HO, #HM⟩ HK
  iapply (wp_clearAcc 𝒱 d c j bd A) $$ Ha
  iintro Ha
  iapply (wp_blkFrom 𝒱 d c j bd A w EC ι O W₀ Y 16 (le_refl _)) $$ [HB Hb Ha HO]
  · isplitl [HB]; · iexact HB
    isplitl [Hb]; · iexact Hb
    isplitl [Ha]; · iexact Ha
    isplitl [HO]; · iexact HO
    iexact HM
  iintro ⟨HB, Hb, Ha, HO⟩
  iapply (wp_groups 𝒱 d c j bd A) $$ [Ha Ho]
  · isplitl [Ha]; · iexact Ha
    iexact Ho
  iintro ⟨Ha, Ho⟩
  unfold copyOut
  iapply (wp_copyOwned 𝒱 d c j bd EC ι O W₀ (src := A.outV) (dst := outDst A w) (by decide)) $$ [Ho HD Hs HO]
  · isplitl [Ho]; · iexact Ho
    isplitl [HD]; · iexact HD
    isplitl [Hs]; · iexact Hs
    isplitl [HO]; · iexact HO
    iexact HM
  iintro ⟨Ho, HD, Hs, HO⟩
  sl_step
  iapply HK
  isplitl [HB]; · iexact HB
  isplitl [Hb Ha Ho Hs]
  · isplitl [Hb]; · iexact Hb
    unfold some_
    isplitl [Ha]; · iexists _; iexact Ha
    isplitl [Ho]; · iexists _; iexact Ho
    iexact Hs
  isplitl [HD]; · iexact HD
  iexact HO

include EC in
/-- After the barrier, in a call that starts from partial sums. -/
theorem wp_endPart (B : PartArgs sig) (Y : Fin 16 → Vec F T512 .f32) {P : Vec F T32 .f32} :
    iprop(blocks d c j A w Y ∗ endBufs d c j A ∗ owns 𝕥 B.partV fullShare P ∗ some_ 𝕥 (outDst A w) ∗ Owing 𝕥 ι O W₀ ∗ Transfers.MayWaits 𝕥 ι O : sProp 𝕄)
      ⊢ iprop((iprop(blocks d c j A w Y ∗ endBufs d c j A ∗ some_ 𝕥 B.partV ∗ owns 𝕥 (outDst A w) fullShare (outAt P (accAt Y 16) 16) ∗ Owing 𝕥 ι O W₀) -∗ Q ⟨⟩)
        -∗ 𝕨 clearAcc A >>= fun _ => blkFrom A w 16 (by omega) <| groupPart A B 0 <| groupPart A B 1 <| copyOut A w <| .ret ⟨⟩) := by
  unfold endBufs
  iintro ⟨HB, ⟨Hb, Ha, Ho, Hs⟩, HP, HD, HO, #HM⟩ HK
  iapply (wp_clearAcc 𝒱 d c j bd A) $$ Ha
  iintro Ha
  iapply (wp_blkFrom 𝒱 d c j bd A w EC ι O W₀ Y 16 (le_refl _)) $$ [HB Hb Ha HO]
  · isplitl [HB]; · iexact HB
    isplitl [Hb]; · iexact Hb
    isplitl [Ha]; · iexact Ha
    isplitl [HO]; · iexact HO
    iexact HM
  iintro ⟨HB, Hb, Ha, HO⟩
  iapply (wp_groupsPart 𝒱 d c j bd A B) $$ [Ha Ho HP]
  · isplitl [Ha]; · iexact Ha
    isplitl [Ho]; · iexact Ho
    iexact HP
  iintro ⟨Ha, Ho, HP⟩
  unfold copyOut
  iapply (wp_copyOwned 𝒱 d c j bd EC ι O W₀ (src := A.outV) (dst := outDst A w) (by decide)) $$ [Ho HD Hs HO]
  · isplitl [Ho]; · iexact Ho
    isplitl [HD]; · iexact HD
    isplitl [Hs]; · iexact Hs
    isplitl [HO]; · iexact HO
    iexact HM
  iintro ⟨Ho, HD, Hs, HO⟩
  sl_step
  iapply HK
  isplitl [HB]; · iexact HB
  isplitl [Hb Ha Ho Hs]
  · isplitl [Hb]; · iexact Hb
    unfold some_
    isplitl [Ha]; · iexists _; iexact Ha
    isplitl [Ho]; · iexists _; iexact Ho
    iexact Hs
  isplitl [HP]; · unfold some_; iexists _; iexact HP
  isplitl [HD]; · iexact HD
  iexact HO

end Copies

end Tile

end Seg

end
-- ==== Proof.SegMem.lean ====
module
public import proofs.«01_k».proof.Proof.SegTile

@[expose] public section

/-! # How the arrays of a call are divided among its sixteen tiles -/

noncomputable section

namespace Seg

open Idealize.ShloMosaic
open Idealize.SL
open Idealize.SL.BI (sProp bigSep bigSep_mono bigSep_exists_pi bigSep_univ_prod)
open scoped Idealize.SL.BI
open Idealize.SL.BI.BIBase Idealize.SL.BI.Laws Idealize.SL.Sem Idealize.SL.ProofMode
open Idealize.SL.RA

/-! ## The parts, as functions -/

abbrev chunkRect (w : Fin 16) : Rect T160000 := Rect.unit (s := T160000) (offChunk w) T10000.size (inbChunk w)
abbrev outRect (w : Fin 16) : Rect T512 := Rect.unit (s := T512) (offOut w) T32.size (inbOut w)
abbrev rowRect (w : Fin 16) : Rect T16x8192 := Rect.unit (s := T16x8192) (offRow w) T1x8192.size (inbRow w)
abbrev blkRect (src w : Fin 16) : Rect T16x8192 := Rect.unit (s := T16x8192) (offBlk src.val w) T1x512.size (inbBlk src w)

/-- Tile `w`'s ten thousand elements. -/
def chunkOf {α : Type} (a : T160000.Idx → α) (w : Fin 16) : T10000.Idx → α := fun j => a ((chunkRect w).emb j)

/-- Tile `w`'s thirty-two elements. -/
def partOf {α : Type} (a : T512.Idx → α) (w : Fin 16) : T32.Idx → α := fun j => a ((outRect w).emb j)

/-- The array whose parts the tiles' results are. -/
def wholeOf {α : Type} (R : Fin 16 → T32.Idx → α) : T512.Idx → α :=
  fun x => R ⟨(x 0).val / 32, by have : (x 0).val < 512 := (x 0).isLt; omega⟩ (at1 32 ((x 0).val % 32) (Nat.mod_lt _ (by decide)))

/-- Element `j` of tile `w`'s chunk is element `10000 w + j`. -/
theorem chunkOf_apply {α : Type} (a : T160000.Idx → α) (w : Fin 16) (j : T10000.Idx) :
    chunkOf a w j = a (at1 160000 (10000 * w.val + (j 0).val) (by have := w.isLt; have h : (j 0).val < 10000 := (j 0).isLt; omega)) := by
  refine congrArg a (funext fun b => Fin.ext ?_)
  have hb : b = 0 := Subsingleton.elim _ _
  subst hb
  show offChunk w 0 + 1 * (j 0).val = 10000 * w.val + (j 0).val
  rw [offChunk_eq]; show 10000 * w.val + 1 * (j 0).val = _; omega

/-- Element `j` of tile `w`'s part is element `32 w + j`. -/
theorem partOf_apply {α : Type} (a : T512.Idx → α) (w : Fin 16) (j : T32.Idx) :
    partOf a w j = a (at1 512 (32 * w.val + (j 0).val) (by have := w.isLt; have h : (j 0).val < 32 := (j 0).isLt; omega)) := by
  refine congrArg a (funext fun b => Fin.ext ?_)
  have hb : b = 0 := Subsingleton.elim _ _
  subst hb
  show offOut w 0 + 1 * (j 0).val = 32 * w.val + (j 0).val
  rw [offOut_eq]; show 32 * w.val + 1 * (j 0).val = _; omega

/-- A tile's part of the joined sums is its own. -/
theorem partOf_wholeOf {α : Type} (R : Fin 16 → T32.Idx → α) (w : Fin 16) : partOf (wholeOf R) w = R w := by
  funext j
  have h : (j 0).val < 32 := (j 0).isLt
  rw [partOf_apply]
  unfold wholeOf
  show R ⟨(32 * w.val + (j 0).val) / 32, _⟩ (at1 32 ((32 * w.val + (j 0).val) % 32) _) = _
  have h1 : (32 * w.val + (j 0).val) / 32 = w.val := by omega
  have h2 : (32 * w.val + (j 0).val) % 32 = (j 0).val := by omega
  rw [show (⟨(32 * w.val + (j 0).val) / 32, by have := w.isLt; omega⟩ : Fin 16) = w from Fin.ext h1]
  refine congrArg (R w) (funext fun b => ?_)
  have hb : b = 0 := Subsingleton.elim _ _
  subst hb
  exact Fin.ext h2

/-! ## What the two calls compute -/

/-- The summands and segment numbers of the two calls. -/
structure Calls (F : FTy → Type) where
  s : Fin 2 → Vec F T160000 .f32
  ids : Fin 2 → Vec F T160000 .i32
  hid : ∀ q x, (ids q x : BitVec 32).toNat < 512

variable {F : FTy → Type} [FloatOps F]

/-- Tile `i`'s table in call `q`. -/
def Calls.tables (C : Calls F) (q : Fin 2) (i : Fin 16) : Vec F T8192 .f32 := tableOf (chunkOf (C.s q) i) (chunkOf (C.ids q) i)
/-- The first call's result. -/
def Calls.res0 (C : Calls F) : Vec F T512 .f32 := wholeOf fun w => outOf (fun _ => zero) (C.tables 0) w
/-- The second call's result. -/
def Calls.res1 (C : Calls F) : Vec F T512 .f32 := wholeOf fun w => outOf (partOf C.res0 w) (C.tables 1) w

/-- The segment numbers of a tile's chunk are below 512. -/
theorem Calls.chunk_lt (C : Calls F) (q : Fin 2) (i : Fin 16) (x : T10000.Idx) : (chunkOf (C.ids q) i x : BitVec 32).toNat < 512 := C.hid q _

/-! ## The rectangles cover, and do not meet -/

/-- An element is of chunk `w` when it is the `w`-th ten thousand, -/
theorem mem_chunk {w : Fin 16} {x : T160000.Idx} : x ∈ (chunkRect w).set ↔ (x 0).val / 10000 = w.val := by
  rw [Rect.mem_set_unit]
  have hx : (x 0).val < 160000 := (x 0).isLt
  constructor
  · intro h
    have h0 := h 0
    rw [offChunk_eq] at h0
    have h1 : 10000 * w.val ≤ (x 0).val := h0.1
    have h2 : (x 0).val < 10000 * w.val + 10000 := h0.2
    omega
  · intro h a
    have ha : a = 0 := Subsingleton.elim _ _
    subst ha
    rw [offChunk_eq]
    exact ⟨show 10000 * w.val ≤ (x 0).val by omega, show (x 0).val < 10000 * w.val + 10000 by omega⟩

/-- a sum of part `w` when it is the `w`-th thirty-two, -/
theorem mem_out {w : Fin 16} {x : T512.Idx} : x ∈ (outRect w).set ↔ (x 0).val / 32 = w.val := by
  rw [Rect.mem_set_unit]
  have hx : (x 0).val < 512 := (x 0).isLt
  constructor
  · intro h
    have h0 := h 0
    rw [offOut_eq] at h0
    have h1 : 32 * w.val ≤ (x 0).val := h0.1
    have h2 : (x 0).val < 32 * w.val + 32 := h0.2
    omega
  · intro h a
    have ha : a = 0 := Subsingleton.elim _ _
    subst ha
    rw [offOut_eq]
    exact ⟨show 32 * w.val ≤ (x 0).val by omega, show (x 0).val < 32 * w.val + 32 by omega⟩

/-- a word of the shared table of row `w` when its row is `w`, -/
theorem mem_row {w : Fin 16} {x : T16x8192.Idx} : x ∈ (rowRect w).set ↔ (x 0).val = w.val := by
  rw [Rect.mem_set_unit]
  have hx : (x 1).val < 8192 := (x 1).isLt
  rw [offRow_eq]
  constructor
  · intro h
    have h1 : w.val ≤ (x 0).val := (h 0).1
    have h2 : (x 0).val < w.val + 1 := (h 0).2
    omega
  · intro h a
    fin_cases a
    · exact ⟨show w.val ≤ (x 0).val by omega, show (x 0).val < w.val + 1 by omega⟩
    · exact ⟨show 0 ≤ (x 1).val by omega, show (x 1).val < 0 + 8192 by omega⟩

/-- and of block `w` of row `src` when it is the `w`-th 512 of that row. -/
theorem mem_blk {src w : Fin 16} {x : T16x8192.Idx} : x ∈ (blkRect src w).set ↔ (x 0).val = src.val ∧ (x 1).val / 512 = w.val := by
  rw [Rect.mem_set_unit]
  have hx : (x 1).val < 8192 := (x 1).isLt
  rw [offBlk_eq src.isLt]
  constructor
  · intro h
    have h1 : src.val ≤ (x 0).val := (h 0).1
    have h2 : (x 0).val < src.val + 1 := (h 0).2
    have h3 : 512 * w.val ≤ (x 1).val := (h 1).1
    have h4 : (x 1).val < 512 * w.val + 512 := (h 1).2
    omega
  · rintro ⟨h, h'⟩ a
    fin_cases a
    · exact ⟨show src.val ≤ (x 0).val by omega, show (x 0).val < src.val + 1 by omega⟩
    · exact ⟨show 512 * w.val ≤ (x 1).val by omega, show (x 1).val < 512 * w.val + 512 by omega⟩

/-- Different chunks do not meet, -/
theorem chunk_disj : ∀ t t' : Fin 16, t ≠ t' → Disjoint (chunkRect t).set (chunkRect t').set := fun t t' h =>
  Finset.disjoint_left.mpr fun _ h1 h2 => h (Fin.ext ((mem_chunk.mp h1).symm.trans (mem_chunk.mp h2)))
/-- nor do different parts, -/
theorem out_disj : ∀ t t' : Fin 16, t ≠ t' → Disjoint (outRect t).set (outRect t').set := fun t t' h =>
  Finset.disjoint_left.mpr fun _ h1 h2 => h (Fin.ext ((mem_out.mp h1).symm.trans (mem_out.mp h2)))
/-- different rows -/
theorem row_disj : ∀ t t' : Fin 16, t ≠ t' → Disjoint (rowRect t).set (rowRect t').set := fun t t' h =>
  Finset.disjoint_left.mpr fun _ h1 h2 => h (Fin.ext ((mem_row.mp h1).symm.trans (mem_row.mp h2)))
/-- or different blocks. -/
theorem blk_disj : ∀ t t' : Fin 16 × Fin 16, t ≠ t' → Disjoint (blkRect t.2 t.1).set (blkRect t'.2 t'.1).set := fun t t' h =>
  Finset.disjoint_left.mpr fun _ h1 h2 => h (Prod.ext
    (Fin.ext ((mem_blk.mp h1).2.symm.trans (mem_blk.mp h2).2)) (Fin.ext ((mem_blk.mp h1).1.symm.trans (mem_blk.mp h2).1)))

/-- The chunks are the whole array, -/
theorem chunk_cover : (Finset.univ : Finset (Fin 16)).biUnion (fun t => (chunkRect t).set) = Finset.univ :=
  Finset.eq_univ_of_forall fun x => Finset.mem_biUnion.mpr ⟨⟨(x 0).val / 10000, by have : (x 0).val < 160000 := (x 0).isLt; omega⟩, Finset.mem_univ _, mem_chunk.mpr rfl⟩
/-- the parts are, -/
theorem out_cover : (Finset.univ : Finset (Fin 16)).biUnion (fun t => (outRect t).set) = Finset.univ :=
  Finset.eq_univ_of_forall fun x => Finset.mem_biUnion.mpr ⟨⟨(x 0).val / 32, by have : (x 0).val < 512 := (x 0).isLt; omega⟩, Finset.mem_univ _, mem_out.mpr rfl⟩
/-- the rows are, -/
theorem row_cover : (Finset.univ : Finset (Fin 16)).biUnion (fun t => (rowRect t).set) = Finset.univ :=
  Finset.eq_univ_of_forall fun x => Finset.mem_biUnion.mpr ⟨x 0, Finset.mem_univ _, mem_row.mpr rfl⟩
/-- and the blocks are. -/
theorem blk_cover : (Finset.univ : Finset (Fin 16 × Fin 16)).biUnion (fun t => (blkRect t.2 t.1).set) = Finset.univ :=
  Finset.eq_univ_of_forall fun x => Finset.mem_biUnion.mpr
    ⟨(⟨(x 1).val / 512, by have : (x 1).val < 8192 := (x 1).isLt; omega⟩, x 0), Finset.mem_univ _, mem_blk.mpr ⟨rfl, rfl⟩⟩
/-- A row is its sixteen blocks. -/
theorem row_eq_blks (src : Fin 16) : (rowRect src).set = (Finset.univ : Finset (Fin 16)).biUnion fun w => (blkRect src w).set := by
  ext x
  rw [mem_row, Finset.mem_biUnion]
  constructor
  · intro h
    exact ⟨⟨(x 1).val / 512, by have : (x 1).val < 8192 := (x 1).isLt; omega⟩, Finset.mem_univ _, mem_blk.mpr ⟨h, rfl⟩⟩
  · rintro ⟨w, -, h⟩
    exact (mem_blk.mp h).1

/-! ## The arrays divided -/

section Own

variable {nD : Nat} {τ : Topo} {sig : RefSig} {Ix : Type} [DecidableEq Ix]
variable {F : FTy → Type} [FloatOps F] {Name : Type} [DecidableEq Name]
variable {U : Type} [URA U] {Lvl : Type}

local notation "𝕄" => MT nD τ sig Ix (Elt F) Name U Lvl

/-- Owning a memref with unit axes dropped is owning it. -/
theorem owns_squeeze (t : Thread nD τ) {sp : Space} {s s' : Shape} {e : EltTy} (m : Memref sig t.2.kind sp s e) (q : PosShare TreeShare)
    (h : s.Squeezes s') (X : s.Idx → Elt F e) :
    (owns t (m.squeeze s' h) q (fun y => X (Shape.reshapeEquiv h.numel_eq y)) : sProp 𝕄) = owns t m q X := by
  have hs : (m.squeeze s' h).view.set = m.view.set := View.set_reshape _ _
  unfold owns
  rw [hs]
  have hiff : ∀ f : m.view.ty.Contents (Elt F), ((m.squeeze s' h).view.read (Elt F) f = fun y => X (Shape.reshapeEquiv h.numel_eq y))
      ↔ m.view.read (Elt F) f = X := fun f => by
    have hr : (m.squeeze s' h).view.read (Elt F) f = fun y => m.view.read (Elt F) f (Shape.reshapeEquiv h.numel_eq y) := rfl
    rw [hr]
    constructor
    · intro h'
      funext x
      have := congrFun h' ((Shape.reshapeEquiv h.numel_eq).symm x)
      simpa using this
    · rintro rfl; rfl
  have h1 : iprop(∃ f, ⌜(m.squeeze s' h).view.read (Elt F) f = fun y => X (Shape.reshapeEquiv h.numel_eq y)⌝ ∗ (m.squeeze s' h).view.loc t ↦[m.view.set]{q} f)
      ⊢ (iprop(∃ f, ⌜m.view.read (Elt F) f = X⌝ ∗ m.view.loc t ↦[m.view.set]{q} f) : sProp 𝕄) := by
    iintro ⟨%f, %hf, H⟩
    iexists f
    isplitr
    · ipureintro; exact (hiff f).mp hf
    · iexact H
  have h2 : (iprop(∃ f, ⌜m.view.read (Elt F) f = X⌝ ∗ m.view.loc t ↦[m.view.set]{q} f) : sProp 𝕄)
      ⊢ iprop(∃ f, ⌜(m.squeeze s' h).view.read (Elt F) f = fun y => X (Shape.reshapeEquiv h.numel_eq y)⌝ ∗ (m.squeeze s' h).view.loc t ↦[m.view.set]{q} f) := by
    iintro ⟨%f, %hf, H⟩
    iexists f
    isplitr
    · ipureintro; exact (hiff f).mpr hf
    · iexact H
  exact BI.equiv_iff.mp ⟨h1, h2⟩

variable (t : Thread nD τ) (q : PosShare TreeShare)

/-- An array of summands is its sixteen chunks. -/
theorem chunks_split {sp : Space} {e : EltTy} (m : Memref sig t.2.kind sp T160000 e) (a : T160000.Idx → Elt F e) :
    (owns t m q a : sProp 𝕄) ⊢ bigSep Finset.univ fun w => owns t (m.slice (chunkRect w) (fun _ => rfl)) q (chunkOf a w) :=
  owns_rects t m q chunkRect (fun _ _ => rfl) chunk_disj chunk_cover a
/-- Sixteen chunks are the array of summands. -/
theorem chunks_join [∀ e, Nonempty (Elt F e)] {sp : Space} {e : EltTy} (m : Memref sig t.2.kind sp T160000 e) (a : T160000.Idx → Elt F e) :
    bigSep Finset.univ (fun w => owns t (m.slice (chunkRect w) (fun _ => rfl)) q (chunkOf a w)) ⊢ (owns t m q a : sProp 𝕄) :=
  owns_of_rects t m q chunkRect (fun _ _ => rfl) chunk_disj chunk_cover a
/-- An array of sums is its sixteen parts. -/
theorem parts_split {sp : Space} {e : EltTy} (m : Memref sig t.2.kind sp T512 e) (a : T512.Idx → Elt F e) :
    (owns t m q a : sProp 𝕄) ⊢ bigSep Finset.univ fun w => owns t (m.slice (outRect w) (fun _ => rfl)) q (partOf a w) :=
  owns_rects t m q outRect (fun _ _ => rfl) out_disj out_cover a
/-- Sixteen parts are the array of sums. -/
theorem parts_join [∀ e, Nonempty (Elt F e)] {sp : Space} {e : EltTy} (m : Memref sig t.2.kind sp T512 e) (a : T512.Idx → Elt F e) :
    bigSep Finset.univ (fun w => owns t (m.slice (outRect w) (fun _ => rfl)) q (partOf a w)) ⊢ (owns t m q a : sProp 𝕄) :=
  owns_of_rects t m q outRect (fun _ _ => rfl) out_disj out_cover a

end Own

section Shared

variable {nD : Nat} {τ : Topo} {sig : RefSig} {Ix : Type} [DecidableEq Ix]
variable {F : FTy → Type} [FloatOps F] {Name : Type} [DecidableEq Name]
variable {U : Type} [URA U] {Lvl : Type}
variable (d : Dev nD) (c : Fin τ.nSC) (j : Fin τ.nSub) (A : Args sig)

local notation "𝕄" => MT nD τ sig Ix (Elt F) Name U Lvl
local notation "𝕥" => ((d, Proc.scVector c j) : Thread nD τ)

/-- The shared table, at some contents, is its sixteen rows at some contents. -/
theorem rows_split : (some_ 𝕥 A.shared : sProp 𝕄) ⊢ bigSep Finset.univ fun w => some_ 𝕥 (rowDst A w) := by
  unfold some_
  iintro ⟨%X, H⟩
  iapply (show (owns 𝕥 A.shared fullShare X : sProp 𝕄) ⊢ _ from (owns_rects 𝕥 A.shared fullShare rowRect (fun _ _ => rfl) row_disj row_cover X).trans
    (bigSep_mono (Φ := fun w => (owns 𝕥 (A.shared.slice (rowRect w) (fun _ => rfl)) fullShare fun k => X ((rowRect w).emb k) : sProp 𝕄)) fun w _ => ?_)) $$ H
  rw [← owns_squeeze 𝕥 (A.shared.slice (rowRect w) (fun _ => rfl)) fullShare sqRow]
  exact BI.BIClass.exists_intro (Φ := fun X => (owns 𝕥 (rowDst A w) fullShare X : sProp 𝕄)) _

/-- The place of the shared table that block `src` of tile `w` puts its element `x` at. -/
theorem blk_place (src w : Fin 16) (x : T512.Idx) (a : Fin 2) :
    ((blkRect src w).emb (Shape.reshapeEquiv sqBlk.numel_eq x) a).val = (![src.val, 512 * w.val + (x 0).val] : Fin 2 → Nat) a := by
  have hr : Shape.reshapeEquiv sqBlk.numel_eq x = (fun b => match b with | 0 => ⟨0, by decide⟩ | 1 => x 0 : T1x512.Idx) :=
    Shape.reshapeEquiv_eq_of_rowMajor _ (by rw [Shape.rowMajor_val_two, Shape.rowMajor_val_one]; show 0 * 512 + (x 0).val = (x 0).val; omega)
  rw [hr]
  show offBlk src.val w a + 1 * _ = _
  rw [offBlk_eq src.isLt]
  fin_cases a
  · show src.val + 1 * 0 = src.val; omega
  · show 512 * w.val + 1 * (x 0).val = 512 * w.val + (x 0).val; omega

/-- The place of the shared table that row `w` puts its element `x` at. -/
theorem row_place (w : Fin 16) (x : T8192.Idx) (a : Fin 2) :
    ((rowRect w).emb (Shape.reshapeEquiv sqRow.numel_eq x) a).val = (![w.val, (x 0).val] : Fin 2 → Nat) a := by
  have hr : Shape.reshapeEquiv sqRow.numel_eq x = (fun b => match b with | 0 => ⟨0, by decide⟩ | 1 => x 0 : T1x8192.Idx) :=
    Shape.reshapeEquiv_eq_of_rowMajor _ (by rw [Shape.rowMajor_val_two, Shape.rowMajor_val_one]; show 0 * 8192 + (x 0).val = (x 0).val; omega)
  rw [hr]
  show offRow w a + 1 * _ = _
  rw [offRow_eq]
  fin_cases a
  · show w.val + 1 * 0 = w.val; omega
  · show 0 + 1 * (x 0).val = (x 0).val; omega

/-- A tile's row of the shared table, holding its table, is the row's sixteen blocks, one for every tile. -/
theorem row_blocks (T : Fin 16 → Vec F T8192 .f32) (i : Fin 16) :
    (owns 𝕥 (rowDst A i) fullShare (T i) : sProp 𝕄) ⊢ bigSep Finset.univ fun w => owns 𝕥 (blkSrc A w i) fullShare (blkVal T w i) := by
  have hset : (rowDst A i).view.set = (Finset.univ : Finset (Fin 16)).biUnion fun w => (A.shared.view.slice (blkRect i w)).set := by
    refine (View.set_reshape _ _).trans ?_
    show (A.shared.view.slice (rowRect i)).set = _
    rw [View.set_slice, row_eq_blks]
    ext x
    simp only [Finset.mem_map, Finset.mem_biUnion, View.set_slice, Finset.mem_univ, true_and]
    constructor
    · rintro ⟨y, ⟨w, hw⟩, rfl⟩; exact ⟨w, y, hw, rfl⟩
    · rintro ⟨w, y, hw, rfl⟩; exact ⟨y, ⟨w, hw⟩, rfl⟩
  have key : ∀ g, (rowDst A i).view.read (Elt F) g = T i → ((A.shared.view.loc 𝕥 ↦[(rowDst A i).view.set]{fullShare} g : sProp 𝕄)
      ⊢ bigSep Finset.univ fun w => owns 𝕥 (blkSrc A w i) fullShare (blkVal T w i)) := fun g hg => by
    rw [hset, pointsTo_biUnion (ℓ := A.shared.view.loc 𝕥) Finset.univ (fun w => (A.shared.view.slice (blkRect i w)).set) fun w _ w' _ hne => by
      rw [View.set_slice, View.set_slice]
      exact (Finset.disjoint_map _).mpr (blk_disj (w, i) (w', i) fun e => hne (Prod.mk.inj e).1)]
    refine bigSep_mono fun w _ => ?_
    rw [← owns_slice_read 𝕥 A.shared fullShare (blkRect i w) (fun _ => rfl) g,
      ← owns_squeeze 𝕥 (A.shared.slice (blkRect i w) (fun _ => rfl)) fullShare sqBlk]
    exact (congrArg (fun X => (owns 𝕥 (blkSrc A w i) fullShare X : sProp 𝕄)) (funext fun x => by
      show A.shared.view.read (Elt F) g ((blkRect i w).emb (Shape.reshapeEquiv sqBlk.numel_eq x)) = blkVal T w i x
      unfold blkVal
      rw [← hg]
      show _ = A.shared.view.read (Elt F) g ((rowRect i).emb (Shape.reshapeEquiv sqRow.numel_eq _))
      refine congrArg (A.shared.view.read (Elt F) g) (funext fun a => Fin.ext ?_)
      rw [blk_place, row_place]
      fin_cases a <;> rfl)) ▸ BI.Entails.refl _
  iintro H
  ihave H' := (show (owns 𝕥 (rowDst A i) fullShare (T i) : sProp 𝕄)
    ⊢ iprop(∃ g, ⌜(rowDst A i).view.read (Elt F) g = T i⌝ ∗ A.shared.view.loc 𝕥 ↦[(rowDst A i).view.set]{fullShare} g) from .rfl) $$ H
  icases H' with ⟨%g, %hg, H⟩
  iapply (key g hg)
  iexact H

/-- The blocks of all tiles are the shared table. -/
theorem blocks_join [∀ e, Nonempty (Elt F e)] (Y : Fin 16 → Fin 16 → Vec F T512 .f32) :
    (bigSep Finset.univ fun w => bigSep Finset.univ fun src => owns 𝕥 (blkSrc A w src) fullShare (Y w src)) ⊢ (some_ 𝕥 A.shared : sProp 𝕄) := by
  let X : T16x8192.Idx → Elt F .f32 := fun x =>
    Y ⟨(x 1).val / 512, by have : (x 1).val < 8192 := (x 1).isLt; omega⟩ (x 0) (at1 512 ((x 1).val % 512) (Nat.mod_lt _ (by decide)))
  have hY : ∀ w src : Fin 16, (owns 𝕥 (blkSrc A w src) fullShare (Y w src) : sProp 𝕄)
      = owns 𝕥 (A.shared.slice (blkRect src w) (fun _ => rfl)) fullShare fun k => X ((blkRect src w).emb k) := fun w src => by
    rw [← owns_squeeze 𝕥 (A.shared.slice (blkRect src w) (fun _ => rfl)) fullShare sqBlk]
    refine congrArg (fun X => (owns 𝕥 (blkSrc A w src) fullShare X : sProp 𝕄)) (funext fun x => ?_)
    have h0 : ((blkRect src w).emb (Shape.reshapeEquiv sqBlk.numel_eq x) 0).val = src.val := blk_place src w x 0
    have h1 : ((blkRect src w).emb (Shape.reshapeEquiv sqBlk.numel_eq x) 1).val = 512 * w.val + (x 0).val := blk_place src w x 1
    have hx : (x 0).val < 512 := (x 0).isLt
    generalize (blkRect src w).emb (Shape.reshapeEquiv sqBlk.numel_eq x) = y at h0 h1
    show Y w src x = Y ⟨(y 1).val / 512, _⟩ (y 0) (at1 512 ((y 1).val % 512) _)
    have e1 : ∀ h, (⟨(y 1).val / 512, h⟩ : Fin 16) = w := fun h => Fin.ext (by show (y 1).val / 512 = w.val; omega)
    have e2 : y 0 = src := Fin.ext h0
    have e3 : ∀ h, at1 512 ((y 1).val % 512) h = x := fun h => funext fun b => by
      have hb : b = 0 := Subsingleton.elim _ _
      subst hb
      exact Fin.ext (by show (y 1).val % 512 = (x 0).val; omega)
    rw [e1, e2, e3]
  simp only [hY]
  rw [← bigSep_univ_prod (fun p : Fin 16 × Fin 16 => (owns 𝕥 (A.shared.slice (blkRect p.2 p.1) (fun _ => rfl)) fullShare fun k => X ((blkRect p.2 p.1).emb k) : sProp 𝕄))]
  refine (owns_of_rects 𝕥 A.shared fullShare (fun p : Fin 16 × Fin 16 => blkRect p.2 p.1) (fun _ _ => rfl) blk_disj blk_cover X).trans ?_
  exact BI.BIClass.exists_intro (Φ := fun X => (owns 𝕥 A.shared fullShare X : sProp 𝕄)) _

end Shared

end Seg
-- ==== Proof.KernelIdealTile.lean ====
module
public import proofs.«01_k».proof.KernelIdeal
public import proofs.«01_k».proof.Proof.SegCut

@[expose] public section

/-! # The printed tile programs are the recursive ones

Each call's printed text, sixty statements to a window, is met window by window with the recursive
program of `Seg`: the rest after a window is named, and the window followed by that name is, by
computation alone, the name of the rest before it. -/

noncomputable section

namespace Cert.KernelIdeal

open Idealize.ShloMosaic Idealize.SL.Sem Seg
open Facts₀ Facts

variable {F : FTy → Type} [FloatOps F] [Facts]

set_option maxHeartbeats 1000000 in
/-- The printed tile program of the first call is the recursive one without partial sums. -/
theorem cc1_body_eq (i : grid1.Coords) (A : Args sig) (pv : Memref sig .scVector .vmem S32 .f32) (hv : A.vals.IsWhole) (hi : A.ids.IsWhole) (ho : A.out.IsWhole) (hpv : pv.IsWhole) (hs : A.shared.IsWhole) :
    cc1_body (F := F) i A.vals hv A.ids hi A.out ho A.valsV A.hvalsV A.idsV A.hidsV A.tbl A.htbl A.blk A.hblk A.acc A.hacc A.outV A.houtV pv hpv A.shared hs A.semVals A.semIds A.semTbl (A.semBlk 0) (A.semBlk 1) (A.semBlk 2) (A.semBlk 3) (A.semBlk 4) (A.semBlk 5) (A.semBlk 6) (A.semBlk 7) (A.semBlk 8) (A.semBlk 9) (A.semBlk 10) (A.semBlk 11) (A.semBlk 12) (A.semBlk 13) (A.semBlk 14) (A.semBlk 15) A.semOut = body A (i 1) sc_bar0 hsub1 := by
  unfold cc1_body k1_part81 k1_part2
  unfold body startChunks middle waitChunks copyRow
  simp only [Prog.bind_assoc, Prog.pure_eq_ret, Prog.bind_ret]
  generalize hT : (group A 0 zeros <| group A 1 zeros <| copyOut A (i 1) <| .ret ⟨⟩ : TileProg nD τ sig F Λ₀ ((i 0).castLE hcore1) ((i 1).castLE hsub1)) = T
  refine bind_congr2 rfl fun _ => bind_congr2 rfl fun _ => bind_congr2 rfl fun _ => bind_congr2 rfl fun _ =>
    bind_congr2 rfl fun _ => bind_congr2 (congrArg _ (funext fun t => funext fun _ => rfl)) fun _ => bind_congr2 rfl fun _ =>
    bind_congr2 rfl fun _ => bind_congr2 rfl fun _ => bind_congr2 rfl fun _ => ?_
  change _ = fromBlk A (i 1) T 0
  refine window (g := fun _ => fromAdd A (i 1) T 0 6) rfl fun _ => ?_
  refine window (g := fun v => fromSum A (i 1) T 0 13 v) rfl fun v => ?_
  refine window (g := fun _ => fromAdd A (i 1) T 0 21) rfl fun _ => ?_
  refine window (g := fun v => fromSum A (i 1) T 0 28 v) rfl fun v => ?_
  refine window (g := fun v => fromSum A (i 1) T 1 2 (addf v.1 v.2)) rfl fun v => ?_
  refine window (g := fun _ => fromAdd A (i 1) T 1 10) rfl fun _ => ?_
  refine window (g := fun v => fromSum A (i 1) T 1 17 (addf v.1 v.2)) rfl fun v => ?_
  refine window (g := fun _ => fromAdd A (i 1) T 1 25) rfl fun _ => ?_
  refine window (g := fun _ => fromBlk A (i 1) T 2) rfl fun _ => ?_
  refine window (g := fun v => fromVal A (i 1) T 2 6 v) rfl fun v => ?_
  refine window (g := fun v => fromStore A (i 1) T 2 13 v) rfl fun v => ?_
  refine window (g := fun v => fromVal A (i 1) T 2 21 v) rfl fun v => ?_
  refine window (g := fun v => fromStore A (i 1) T 2 28 v) rfl fun v => ?_
  refine window (g := fun v => fromSum A (i 1) T 3 2 v) rfl fun v => ?_
  refine window (g := fun v => fromVal A (i 1) T 3 10 v) rfl fun v => ?_
  refine window (g := fun v => fromSum A (i 1) T 3 17 v) rfl fun v => ?_
  refine window (g := fun v => fromVal A (i 1) T 3 25 v) rfl fun v => ?_
  refine window (g := fun _ => fromBlk A (i 1) T 4) rfl fun _ => ?_
  refine window (g := fun v => fromSum A (i 1) T 4 6 v) rfl fun v => ?_
  refine window (g := fun _ => fromAdd A (i 1) T 4 14) rfl fun _ => ?_
  refine window (g := fun v => fromSum A (i 1) T 4 21 v) rfl fun v => ?_
  refine window (g := fun _ => fromAdd A (i 1) T 4 29) rfl fun _ => ?_
  refine window (g := fun _ => fromAdd A (i 1) T 5 3) rfl fun _ => ?_
  refine window (g := fun v => fromSum A (i 1) T 5 10 (addf v.1 v.2)) rfl fun v => ?_
  refine window (g := fun _ => fromAdd A (i 1) T 5 18) rfl fun _ => ?_
  refine window (g := fun v => fromSum A (i 1) T 5 25 (addf v.1 v.2)) rfl fun v => ?_
  refine window (g := fun _ => fromWait A (i 1) T 6) rfl fun _ => ?_
  refine window (g := fun v => fromStore A (i 1) T 6 6 v) rfl fun v => ?_
  refine window (g := fun v => fromVal A (i 1) T 6 14 v) rfl fun v => ?_
  refine window (g := fun v => fromStore A (i 1) T 6 21 v) rfl fun v => ?_
  refine window (g := fun v => fromVal A (i 1) T 6 29 v) rfl fun v => ?_
  refine window (g := fun v => fromVal A (i 1) T 7 3 v) rfl fun v => ?_
  refine window (g := fun v => fromSum A (i 1) T 7 10 v) rfl fun v => ?_
  refine window (g := fun v => fromVal A (i 1) T 7 18 v) rfl fun v => ?_
  refine window (g := fun v => fromSum A (i 1) T 7 25 v) rfl fun v => ?_
  refine window (g := fun _ => fromWait A (i 1) T 8) rfl fun _ => ?_
  refine window (g := fun _ => fromAdd A (i 1) T 8 7) rfl fun _ => ?_
  refine window (g := fun v => fromSum A (i 1) T 8 14 v) rfl fun v => ?_
  refine window (g := fun _ => fromAdd A (i 1) T 8 22) rfl fun _ => ?_
  refine window (g := fun v => fromSum A (i 1) T 8 29 v) rfl fun v => ?_
  refine window (g := fun v => fromSum A (i 1) T 9 3 (addf v.1 v.2)) rfl fun v => ?_
  refine window (g := fun _ => fromAdd A (i 1) T 9 11) rfl fun _ => ?_
  refine window (g := fun v => fromSum A (i 1) T 9 18 (addf v.1 v.2)) rfl fun v => ?_
  refine window (g := fun _ => fromAdd A (i 1) T 9 26) rfl fun _ => ?_
  refine window (g := fun _ => fromWait A (i 1) T 10) rfl fun _ => ?_
  refine window (g := fun v => fromVal A (i 1) T 10 7 v) rfl fun v => ?_
  refine window (g := fun v => fromStore A (i 1) T 10 14 v) rfl fun v => ?_
  refine window (g := fun v => fromVal A (i 1) T 10 22 v) rfl fun v => ?_
  refine window (g := fun v => fromStore A (i 1) T 10 29 v) rfl fun v => ?_
  refine window (g := fun v => fromSum A (i 1) T 11 3 v) rfl fun v => ?_
  refine window (g := fun v => fromVal A (i 1) T 11 11 v) rfl fun v => ?_
  refine window (g := fun v => fromSum A (i 1) T 11 18 v) rfl fun v => ?_
  refine window (g := fun v => fromVal A (i 1) T 11 26 v) rfl fun v => ?_
  refine window (g := fun _ => fromAdd A (i 1) T 12 0) rfl fun _ => ?_
  refine window (g := fun v => fromSum A (i 1) T 12 7 v) rfl fun v => ?_
  refine window (g := fun _ => fromAdd A (i 1) T 12 15) rfl fun _ => ?_
  refine window (g := fun v => fromSum A (i 1) T 12 22 v) rfl fun v => ?_
  refine window (g := fun _ => fromAdd A (i 1) T 12 30) rfl fun _ => ?_
  refine window (g := fun _ => fromAdd A (i 1) T 13 4) rfl fun _ => ?_
  refine window (g := fun v => fromSum A (i 1) T 13 11 (addf v.1 v.2)) rfl fun v => ?_
  refine window (g := fun _ => fromAdd A (i 1) T 13 19) rfl fun _ => ?_
  refine window (g := fun v => fromSum A (i 1) T 13 26 (addf v.1 v.2)) rfl fun v => ?_
  refine window (g := fun v => fromVal A (i 1) T 14 0 v) rfl fun v => ?_
  refine window (g := fun v => fromStore A (i 1) T 14 7 v) rfl fun v => ?_
  refine window (g := fun v => fromVal A (i 1) T 14 15 v) rfl fun v => ?_
  refine window (g := fun v => fromStore A (i 1) T 14 22 v) rfl fun v => ?_
  refine window (g := fun v => fromVal A (i 1) T 14 30 v) rfl fun v => ?_
  refine window (g := fun v => fromVal A (i 1) T 15 4 v) rfl fun v => ?_
  refine window (g := fun v => fromSum A (i 1) T 15 11 v) rfl fun v => ?_
  refine window (g := fun v => fromVal A (i 1) T 15 19 v) rfl fun v => ?_
  refine window (g := fun v => fromSum A (i 1) T 15 26 v) rfl fun v => ?_
  subst hT
  rfl

set_option maxHeartbeats 1000000 in
/-- The printed tile program of the second call is the recursive one that starts from partial sums. -/
theorem cc3_body_eq (i : grid3.Coords) (A : Args sig) (B : PartArgs sig) (hv : A.vals.IsWhole) (hi : A.ids.IsWhole) (ho : A.out.IsWhole) (hp : B.part.IsWhole) (hs : A.shared.IsWhole) :
    cc3_body (F := F) i A.vals hv A.ids hi B.part hp A.out ho A.valsV A.hvalsV A.idsV A.hidsV A.tbl A.htbl A.blk A.hblk A.acc A.hacc A.outV A.houtV B.partV B.hpartV A.shared hs A.semVals A.semIds B.semPart A.semTbl (A.semBlk 0) (A.semBlk 1) (A.semBlk 2) (A.semBlk 3) (A.semBlk 4) (A.semBlk 5) (A.semBlk 6) (A.semBlk 7) (A.semBlk 8) (A.semBlk 9) (A.semBlk 10) (A.semBlk 11) (A.semBlk 12) (A.semBlk 13) (A.semBlk 14) (A.semBlk 15) A.semOut = bodyPart A (i 1) B sc_bar0 hsub3 := by
  unfold cc3_body k3_part81 k3_part2
  unfold bodyPart startChunks copyPart middle waitChunks copyRow
  simp only [Prog.bind_assoc, Prog.pure_eq_ret, Prog.bind_ret]
  generalize hT : (groupPart A B 0 <| groupPart A B 1 <| copyOut A (i 1) <| .ret ⟨⟩ : TileProg nD τ sig F Λ₀ ((i 0).castLE hcore3) ((i 1).castLE hsub3)) = T
  refine bind_congr2 rfl fun _ => bind_congr2 rfl fun _ => bind_congr2 rfl fun _ => bind_congr2 rfl fun _ => bind_congr2 rfl fun _ => bind_congr2 rfl fun _ =>
    bind_congr2 rfl fun _ => bind_congr2 (congrArg _ (funext fun t => funext fun _ => rfl)) fun _ => bind_congr2 rfl fun _ =>
    bind_congr2 rfl fun _ => bind_congr2 rfl fun _ => ?_
  change _ = clearAcc A >>= fun _ => fromBlk A (i 1) T 0
  refine window (g := fun v => fromVal A (i 1) T 0 5 v) ?_ fun v => ?_
  · unfold k3_part3
    simp only [Prog.bind_assoc, Prog.pure_eq_ret, Prog.bind_ret]
    exact bind_congr2 rfl fun _ => rfl
  refine window (g := fun v => fromStore A (i 1) T 0 12 v) rfl fun v => ?_
  refine window (g := fun v => fromVal A (i 1) T 0 20 v) rfl fun v => ?_
  refine window (g := fun v => fromStore A (i 1) T 0 27 v) rfl fun v => ?_
  refine window (g := fun v => fromSum A (i 1) T 1 1 v) rfl fun v => ?_
  refine window (g := fun v => fromVal A (i 1) T 1 9 v) rfl fun v => ?_
  refine window (g := fun v => fromSum A (i 1) T 1 16 v) rfl fun v => ?_
  refine window (g := fun v => fromVal A (i 1) T 1 24 v) rfl fun v => ?_
  refine window (g := fun v => fromSum A (i 1) T 1 31 v) rfl fun v => ?_
  refine window (g := fun v => fromSum A (i 1) T 2 5 v) rfl fun v => ?_
  refine window (g := fun _ => fromAdd A (i 1) T 2 13) rfl fun _ => ?_
  refine window (g := fun v => fromSum A (i 1) T 2 20 v) rfl fun v => ?_
  refine window (g := fun _ => fromAdd A (i 1) T 2 28) rfl fun _ => ?_
  refine window (g := fun _ => fromAdd A (i 1) T 3 2) rfl fun _ => ?_
  refine window (g := fun v => fromSum A (i 1) T 3 9 (addf v.1 v.2)) rfl fun v => ?_
  refine window (g := fun _ => fromAdd A (i 1) T 3 17) rfl fun _ => ?_
  refine window (g := fun v => fromSum A (i 1) T 3 24 (addf v.1 v.2)) rfl fun v => ?_
  refine window (g := fun _ => fromBlk A (i 1) T 4) rfl fun _ => ?_
  refine window (g := fun v => fromStore A (i 1) T 4 5 v) rfl fun v => ?_
  refine window (g := fun v => fromVal A (i 1) T 4 13 v) rfl fun v => ?_
  refine window (g := fun v => fromStore A (i 1) T 4 20 v) rfl fun v => ?_
  refine window (g := fun v => fromVal A (i 1) T 4 28 v) rfl fun v => ?_
  refine window (g := fun v => fromVal A (i 1) T 5 2 v) rfl fun v => ?_
  refine window (g := fun v => fromSum A (i 1) T 5 9 v) rfl fun v => ?_
  refine window (g := fun v => fromVal A (i 1) T 5 17 v) rfl fun v => ?_
  refine window (g := fun v => fromSum A (i 1) T 5 24 v) rfl fun v => ?_
  refine window (g := fun _ => fromBlk A (i 1) T 6) rfl fun _ => ?_
  refine window (g := fun _ => fromAdd A (i 1) T 6 6) rfl fun _ => ?_
  refine window (g := fun v => fromSum A (i 1) T 6 13 v) rfl fun v => ?_
  refine window (g := fun _ => fromAdd A (i 1) T 6 21) rfl fun _ => ?_
  refine window (g := fun v => fromSum A (i 1) T 6 28 v) rfl fun v => ?_
  refine window (g := fun v => fromSum A (i 1) T 7 2 (addf v.1 v.2)) rfl fun v => ?_
  refine window (g := fun _ => fromAdd A (i 1) T 7 10) rfl fun _ => ?_
  refine window (g := fun v => fromSum A (i 1) T 7 17 (addf v.1 v.2)) rfl fun v => ?_
  refine window (g := fun _ => fromAdd A (i 1) T 7 25) rfl fun _ => ?_
  refine window (g := fun _ => fromBlk A (i 1) T 8) rfl fun _ => ?_
  refine window (g := fun v => fromVal A (i 1) T 8 6 v) rfl fun v => ?_
  refine window (g := fun v => fromStore A (i 1) T 8 13 v) rfl fun v => ?_
  refine window (g := fun v => fromVal A (i 1) T 8 21 v) rfl fun v => ?_
  refine window (g := fun v => fromStore A (i 1) T 8 28 v) rfl fun v => ?_
  refine window (g := fun v => fromSum A (i 1) T 9 2 v) rfl fun v => ?_
  refine window (g := fun v => fromVal A (i 1) T 9 10 v) rfl fun v => ?_
  refine window (g := fun v => fromSum A (i 1) T 9 17 v) rfl fun v => ?_
  refine window (g := fun v => fromVal A (i 1) T 9 25 v) rfl fun v => ?_
  refine window (g := fun _ => fromBlk A (i 1) T 10) rfl fun _ => ?_
  refine window (g := fun v => fromSum A (i 1) T 10 6 v) rfl fun v => ?_
  refine window (g := fun _ => fromAdd A (i 1) T 10 14) rfl fun _ => ?_
  refine window (g := fun v => fromSum A (i 1) T 10 21 v) rfl fun v => ?_
  refine window (g := fun _ => fromAdd A (i 1) T 10 29) rfl fun _ => ?_
  refine window (g := fun _ => fromAdd A (i 1) T 11 3) rfl fun _ => ?_
  refine window (g := fun v => fromSum A (i 1) T 11 10 (addf v.1 v.2)) rfl fun v => ?_
  refine window (g := fun _ => fromAdd A (i 1) T 11 18) rfl fun _ => ?_
  refine window (g := fun v => fromSum A (i 1) T 11 25 (addf v.1 v.2)) rfl fun v => ?_
  refine window (g := fun _ => fromWait A (i 1) T 12) rfl fun _ => ?_
  refine window (g := fun v => fromStore A (i 1) T 12 6 v) rfl fun v => ?_
  refine window (g := fun v => fromVal A (i 1) T 12 14 v) rfl fun v => ?_
  refine window (g := fun v => fromStore A (i 1) T 12 21 v) rfl fun v => ?_
  refine window (g := fun v => fromVal A (i 1) T 12 29 v) rfl fun v => ?_
  refine window (g := fun v => fromVal A (i 1) T 13 3 v) rfl fun v => ?_
  refine window (g := fun v => fromSum A (i 1) T 13 10 v) rfl fun v => ?_
  refine window (g := fun v => fromVal A (i 1) T 13 18 v) rfl fun v => ?_
  refine window (g := fun v => fromSum A (i 1) T 13 25 v) rfl fun v => ?_
  refine window (g := fun _ => fromWait A (i 1) T 14) rfl fun _ => ?_
  refine window (g := fun _ => fromAdd A (i 1) T 14 7) rfl fun _ => ?_
  refine window (g := fun v => fromSum A (i 1) T 14 14 v) rfl fun v => ?_
  refine window (g := fun _ => fromAdd A (i 1) T 14 22) rfl fun _ => ?_
  refine window (g := fun v => fromSum A (i 1) T 14 29 v) rfl fun v => ?_
  refine window (g := fun v => fromSum A (i 1) T 15 3 (addf v.1 v.2)) rfl fun v => ?_
  refine window (g := fun _ => fromAdd A (i 1) T 15 11) rfl fun _ => ?_
  refine window (g := fun v => fromSum A (i 1) T 15 18 (addf v.1 v.2)) rfl fun v => ?_
  refine window (g := fun _ => fromAdd A (i 1) T 15 26) rfl fun _ => ?_
  subst hT
  rfl

end Cert.KernelIdeal

end
-- ==== Proof.KernelIdealPay.lean ====
module
public import proofs.«01_k».proof.Proof.KernelIdealTile
public import proofs.«01_k».proof.Proof.SegMem
public import proofs.«01_k».proof.Proof.Gen.KernelIdeal
public import proofs.«01_k».proof.Proof.Gen.KernelIdeal.Launch
public import Idealize.ShloMosaic.Lib.SparseCore.Quiescent
public import Idealize.ShloMosaic.Lib.SparseCore.Ops
public import Idealize.ShloMosaic.Lib.Pipeline.Kit
public import Idealize.ShloMosaic.Lib.Tactic

@[expose] public section

/-! # What the two SparseCore calls exchange

The program as the launch theorem sees it; the barrier cells' schedule, one round for each of the two
calls; and what the handshakes of each call carry, with the contents. -/

noncomputable section

namespace Cert.KernelIdeal.Run

open Cert.KernelIdeal Cert.KernelIdeal.Gen Seg
open Facts₀ Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- Each call is on sixteen tiles, -/
theorem nS (q : Fin 2) : (K (F := F)).nSub q = 16 := match q with | 0 => rfl | 1 => rfl
/-- of one SparseCore. -/
theorem nC (q : Fin 2) : (K (F := F)).nCore q = 1 := match q with | 0 => rfl | 1 => rfl
/-- A SparseCore has sixteen tiles. -/
theorem hs16 : 16 ≤ τ.nSub := by decide

/-- The side conditions on the handshake semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra -/

abbrev UH : Type := URounds (GSem nD τ sig) ℕ
abbrev UB : Type := URounds (GSem nD τ sig) ℕ
/-- The TensorCore calls' own cells. -/
abbrev UP : Type := URounds (GSem nD τ sig) Unit
abbrev UU : Type := UH × (UB × (UP × Counters))

local notation "𝕄" => MT nD τ sig (HIx 2) (Elt F) ℕ UU ℕ

abbrev EH : Emb UH (MT nD τ sig (HIx 2) (Elt F) ℕ UU ℕ) := embL
/-- The barrier cells' rounds library. -/
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
/-- The TensorCore calls' rounds library. -/
def EP : Emb UP (MT nD τ sig (HIx 2) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance
/-- The copies' counters. -/
abbrev EC : UEmb Counters (MT nD τ sig (HIx 2) (Elt F) ℕ UU ℕ) := countersEmb

/-! ## The TensorCore calls -/

/-- Neither TensorCore call prefetches a table. -/
abbrev adm (p : Fin 2) : (pcfgs (F := F) p).Adm := (cfgs p).toPCfg_adm
/-- The TensorCore calls as the pipeline runs them. -/
abbrev pins : Fin 2 → Pipeline.Cfg sig Λ₀ := Pipeline.pin (pcfgs (F := F)) adm
/-- Different TensorCore calls' cells are different. -/
theorem pins_inj : Function.Injective (Pipeline.cellOf (nD := nD) (τ := τ) (pins (F := F))) := cellOf_inj
/-- The state of a TensorCore call's cells before it begins. -/
def tcGhost (p : Fin 2) (d : Dev nD) : sProp 𝕄 :=
  iprop(Pipeline.cellsGhost (pins (F := F)) EP p d ∗ Pipeline.toksInit (pins (F := F)) EP p d)

/-! ## The calls' buffers -/

/-- The first call's buffers and semaphores. -/
abbrev A1 : Args sig where
  vals := Memref.whole main_v3_scv
  ids := Memref.whole main_v4_scv
  out := Memref.whole main_v5_scv
  valsV := Memref.whole cc1_scratch0
  hvalsV := Memref.isWhole_whole _
  idsV := Memref.whole cc1_scratch1
  hidsV := Memref.isWhole_whole _
  tbl := Memref.whole cc1_scratch2
  htbl := Memref.isWhole_whole _
  blk := Memref.whole cc1_scratch3
  hblk := Memref.isWhole_whole _
  acc := Memref.whole cc1_scratch4
  hacc := Memref.isWhole_whole _
  outV := Memref.whole cc1_scratch5
  houtV := Memref.isWhole_whole _
  shared := Memref.whole cc1_scratch7
  semVals := cc1_scratch8
  semIds := cc1_scratch9
  semTbl := cc1_scoped0
  semBlk := ![cc1_scoped1, cc1_scoped2, cc1_scoped3, cc1_scoped4, cc1_scoped5, cc1_scoped6, cc1_scoped7, cc1_scoped8,
    cc1_scoped9, cc1_scoped10, cc1_scoped11, cc1_scoped12, cc1_scoped13, cc1_scoped14, cc1_scoped15, cc1_scoped16]
  semOut := cc1_scoped17

/-- The second call's. -/
abbrev A3 : Args sig where
  vals := Memref.whole main_v9_scv
  ids := Memref.whole main_v10_scv
  out := Memref.whole main_v11_scv
  valsV := Memref.whole cc3_scratch0
  hvalsV := Memref.isWhole_whole _
  idsV := Memref.whole cc3_scratch1
  hidsV := Memref.isWhole_whole _
  tbl := Memref.whole cc3_scratch2
  htbl := Memref.isWhole_whole _
  blk := Memref.whole cc3_scratch3
  hblk := Memref.isWhole_whole _
  acc := Memref.whole cc3_scratch4
  hacc := Memref.isWhole_whole _
  outV := Memref.whole cc3_scratch5
  houtV := Memref.isWhole_whole _
  shared := Memref.whole cc3_scratch7
  semVals := cc3_scratch8
  semIds := cc3_scratch9
  semTbl := cc3_scoped1
  semBlk := ![cc3_scoped2, cc3_scoped3, cc3_scoped4, cc3_scoped5, cc3_scoped6, cc3_scoped7, cc3_scoped8, cc3_scoped9,
    cc3_scoped10, cc3_scoped11, cc3_scoped12, cc3_scoped13, cc3_scoped14, cc3_scoped15, cc3_scoped16, cc3_scoped17]
  semOut := cc3_scoped18

/-- The second call's, for its partial sums. -/
abbrev B3 : PartArgs sig where
  part := Memref.whole main_v5_scv
  partV := Memref.whole cc3_scratch6
  hpartV := Memref.isWhole_whole _
  semPart := cc3_scoped0

/-- The buffers of call `q`. -/
def AA : Fin 2 → Args sig
  | 0 => A1
  | 1 => A3

/-- The first call's place for partial sums, which its program does not use; the second's, which it does. -/
def BB : Fin 2 → PartArgs sig
  | 0 => ⟨Memref.whole main_v5_scv, Memref.whole cc1_scratch6, Memref.isWhole_whole _, cc3_scoped0⟩
  | 1 => B3

variable (C : Dev nD → Calls F)

/-! ## The barrier cells -/

/-- Tile `(c, j)`'s barrier semaphore of device `d`. -/
abbrev bcell (d : Dev nD) (c : Fin τ.nSC) (j : Fin τ.nSub) : GSem nD τ sig := (V d c j, .reg sc_bar0)
/-- The same, the tile by its number below sixteen. -/
abbrev tcell (d : Dev nD) (c : Fin τ.nSC) (w : Fin 16) : GSem nD τ sig := bcell d c (w.castLE hs16)
/-- Tile `w`'s thread. -/
abbrev tile (d : Dev nD) (c : Fin τ.nSC) (w : Fin 16) : Thread nD τ := V d c (w.castLE hs16)

/-- The barrier semaphore is not the one that starts a tile. -/
theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The call whose barrier round `r` is. -/
def callOf : ℕ → Fin 2
  | 0 => 0
  | _ => 1
/-- Call `q`'s barrier is round `q`. -/
theorem callOf_val : ∀ q : Fin 2, callOf q.val = q
  | 0 => rfl
  | 1 => rfl

/-- The same number as an equation. -/
theorem nSub_eq : τ.nSub = 16 := rfl

/-- Block `j` of row `n` of call `q`'s shared scratch, as tile `i` addresses it, at tile `n`'s table. -/
def blkAt (q : Fin 2) (d : Dev nD) (c : Fin τ.nSC) (i j n : Fin 16) : sProp 𝕄 :=
  owns (tile d c i) (blkSrc (AA q) j n) fullShare (blkVal ((C d).tables q) j n)
instance blkAt_storable (q : Fin 2) (d : Dev nD) (c : Fin τ.nSC) (i j n : Fin 16) : BI.Storable (upEmb : UEmb _ 𝕄) (blkAt C q d c i j n) := by
  unfold blkAt; infer_instance
/-- It is the same elements whichever tile addresses it. -/
theorem blkAt_tile (q : Fin 2) (d : Dev nD) (c : Fin τ.nSC) (i i' j n : Fin 16) : blkAt C q d c i j n = blkAt C q d c i' j n :=
  match q with | 0 => rfl | 1 => rfl

/-- What tile `n` hands over with its duty in tile `j`'s round: block `j` of its row. -/
def bPay (g : GSem nD τ sig) (r n : ℕ) : sProp 𝕄 :=
  match g with
  | ((d, .scVector c j), _) => blkAt C (callOf r) d c (Fin.cast nSub_eq j) (Fin.cast nSub_eq j) ⟨n % 16, Nat.mod_lt _ (by decide)⟩
  | _ => iprop(emp)

/-- The barrier cells' schedule: a round for each call, of one unit duty per tile, named by its number. -/
def bRd : Rounds.Schedule (GSem nD τ sig) ℕ 𝕄 where
  duties g r := if isBar g ∧ r < 2 then (Finset.univ : Finset (Fin τ.nSub)).image Fin.val else ∅
  amount _ _ _ := 1
  payload g r n := bPay C g r n
  amount_pos _ _ _ _ := Nat.one_pos

instance bRd_payload_storable (g : GSem nD τ sig) (r n : ℕ) : BI.Storable (upEmb : UEmb _ 𝕄) ((bRd C).payload g r n) := by
  show BI.Storable upEmb (bPay C g r n)
  unfold bPay
  rcases g with ⟨⟨d, _ | c | ⟨c, i⟩⟩, sm⟩ <;> dsimp only <;> infer_instance

/-- A family of nothing is nothing. -/
theorem bigSep_emp' {I : Type} (s : Finset I) : (bigSep s fun _ => iprop(emp)) = (iprop(emp) : sProp 𝕄) := bigSep_emp_const s

/-- In call `q` every tile of the SparseCore signals every tile's barrier cell once, -/
theorem bRd_duties (q : Fin 2) (d : Dev nD) (c : Fin τ.nSC) (j : Fin τ.nSub) : (bRd C).duties (bcell d c j) q.val = (Finset.univ : Finset (Fin τ.nSub)).image Fin.val := by
  simp [bRd, isBar]
/-- after the second call nobody does. -/
theorem bRd_duties_end (g : GSem nD τ sig) (r : ℕ) (hr : 2 ≤ r) : (bRd C).duties g r = ∅ :=
  if_neg fun h => absurd h.2 (Nat.not_lt.mpr hr)
/-- So tile `i`'s signal is among those on tile `j`'s cell, -/
theorem bRd_mem (q : Fin 2) (d : Dev nD) (c : Fin τ.nSC) (j i : Fin τ.nSub) : i.val ∈ (bRd C).duties (bcell d c j) q.val := by
  rw [bRd_duties]; exact Finset.mem_image_of_mem _ (Finset.mem_univ i)
/-- and a cell gets sixteen. -/
theorem bRd_expect (q : Fin 2) (d : Dev nD) (c : Fin τ.nSC) (j : Fin τ.nSub) : 0 + 16 = (bRd C).expect (bcell d c j) q.val := by
  unfold Rounds.Schedule.expect; rw [bRd_duties]
  show 0 + 16 = ∑ x ∈ (Finset.univ : Finset (Fin 16)).image Fin.val, 1
  rw [Finset.sum_const, Finset.card_image_of_injective _ Fin.val_injective]; rfl

/-- What the launch has a tile owe for call `q`'s barrier: a unit on every tile's cell of its SparseCore. -/
def oxV (q : Fin 2) (d : Dev nD) (c : Fin τ.nSC) : CellTallies nD τ sig (HIx 2) := ∑ j : Fin 16, tallyAt (tcell d c j) (some q) 1

/-- A tile owes nothing outside the calls, -/
theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

/-- and in call `q` only on the cells of its SparseCore's tiles. -/
theorem oxV_apply_pos {q : Fin 2} {d : Dev nD} {c : Fin τ.nSC} {g : GSem nD τ sig} {ι : HIx 2} (h : 0 < oxV q d c g ι) :
    ∃ j : Fin 16, g = tcell d c j ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## A tile's own part of a barrier -/

/-- A tile's kit for call `q`'s barrier: every tile's cell invariant, its duty in every tile's round, and the credit for
    the sixteen units of its own. -/
def bkit (q : Fin 2) (d : Dev nD) (c : Fin τ.nSC) (i : Fin τ.nSub) : sProp 𝕄 :=
  iprop((∃ κ : GSem nD τ sig → ℕ, bigSep Finset.univ fun j : Fin 16 => cellInv EB (bRd C) (κ (tcell d c j)) (tcell d c j))
    ∗ (bigSep Finset.univ fun j : Fin 16 => dutyTok EB (tcell d c j) q.val i.val)
    ∗ cred (tallyAt (bcell d c i) (some q) 16))

/-- Its place in the rounds: its own cell at the origin of round `q`, every tile's cell having reached it. -/
def posKit (q : ℕ) (d : Dev nD) (c : Fin τ.nSC) (i : Fin τ.nSub) : sProp 𝕄 :=
  iprop(atPos (EB : Emb UB 𝕄) (bcell d c i) q ∅ 0 ∗ bigSep Finset.univ fun j : Fin 16 => reached (EB : Emb UB 𝕄) (tcell d c j) q)
instance posKit_storable (q : ℕ) (d : Dev nD) (c : Fin τ.nSC) (i : Fin τ.nSub) : BI.Storable (upEmb : UEmb _ 𝕄) (posKit (F := F) q d c i) := by
  unfold posKit; infer_instance

/-- What a tile brings back of it: its cell at the origin of round `q`. -/
def posOf (q : ℕ) (d : Dev nD) (c : Fin τ.nSC) (i : Fin τ.nSub) : sProp 𝕄 :=
  iprop(atPos (EB : Emb UB 𝕄) (bcell d c i) q ∅ 0 ∗ reached (EB : Emb UB 𝕄) (bcell d c i) q)
instance posOf_storable (q : ℕ) (d : Dev nD) (c : Fin τ.nSC) (i : Fin τ.nSub) : BI.Storable (upEmb : UEmb _ 𝕄) (posOf (F := F) q d c i) := by
  unfold posOf; infer_instance

/-! ## What the handshakes carry -/

instance some_storable (t : Thread nD τ) {sp : Space} {s : Shape} {e : EltTy} (m : Memref sig t.2.kind sp s e) :
    BI.Storable (upEmb : UEmb _ 𝕄) (some_ (F := F) t m) := by unfold some_; infer_instance
instance chunks_storable (d : Dev nD) (c : Fin τ.nSC) (j : Fin τ.nSub) (A : Args sig) (w : Fin 16) (q : PosShare TreeShare)
    (a : Vec F T10000 .f32) (b : Vec F T10000 .i32) :
    BI.Storable (upEmb : UEmb _ 𝕄) (chunks (Ix := HIx 2) (Name := ℕ) (U := UU) (Lvl := ℕ) d c j A w q a b) := by
  unfold chunks; infer_instance

/-- An array of the TensorCore's main memory, whole, at contents `f`. -/
abbrev full (d : Dev nD) (b : Ref sig .tc) (f : Buf (Elt F) ((T d : Thread nD τ).loc b)) : sProp 𝕄 := (T d : Thread nD τ).loc b ↦{fullShare} f
/-- The same, at some contents. -/
abbrev any (d : Dev nD) (b : Ref sig .tc) : sProp 𝕄 := iprop(∃ f, full (F := F) d b f)

/-- Call `q`'s summands and segment numbers, tile `w`'s chunk of each. -/
def chunkAt (q : Fin 2) (d : Dev nD) (c : Fin τ.nSC) (w : Fin 16) : sProp 𝕄 :=
  chunks d c (w.castLE hs16) (AA q) w fullShare (chunkOf ((C d).s q) w) (chunkOf ((C d).ids q) w)
instance chunkAt_storable (q : Fin 2) (d : Dev nD) (c : Fin τ.nSC) (w : Fin 16) : BI.Storable (upEmb : UEmb _ 𝕄) (chunkAt C q d c w) := by
  unfold chunkAt; infer_instance

/-- Tile `w`'s part of the partial sums, in the second call. -/
def partAt (d : Dev nD) (c : Fin τ.nSC) (w : Fin 16) : sProp 𝕄 :=
  owns (tile d c w) (partSrc w (BB 1)) fullShare (partOf (C d).res0 w)
instance partAt_storable (d : Dev nD) (c : Fin τ.nSC) (w : Fin 16) : BI.Storable (upEmb : UEmb _ 𝕄) (partAt C d c w) := by
  unfold partAt; infer_instance

/-- The result of call `q`. -/
def resOf (q : Fin 2) (d : Dev nD) : Vec F T512 .f32 :=
  match q with
  | 0 => (C d).res0
  | 1 => (C d).res1

/-- Tile `w`'s part of the result. -/
def resAt (q : Fin 2) (d : Dev nD) (c : Fin τ.nSC) (w : Fin 16) : sProp 𝕄 :=
  owns (tile d c w) (outDst (AA q) w) fullShare (partOf (resOf C q d) w)
instance resAt_storable (q : Fin 2) (d : Dev nD) (c : Fin τ.nSC) (w : Fin 16) : BI.Storable (upEmb : UEmb _ 𝕄) (resAt C q d c w) := by
  unfold resAt; infer_instance

/-- What each call takes, -/
def stAt (q : Fin 2) (d : Dev nD) (c : Fin τ.nSC) : sProp 𝕄 :=
  match q with
  | 0 => iprop(full d main_v3 ((C d).s 0) ∗ full d main_v4 ((C d).ids 0) ∗ any d main_v5)
  | 1 => iprop(full d main_v9 ((C d).s 1) ∗ full d main_v10 ((C d).ids 1) ∗ any d main_v11 ∗ full d main_v5 (C d).res0
      ∗ bigSep Finset.univ fun w : Fin 16 => posOf 1 d c (w.castLE hs16))
/-- brings back, -/
def dnAt (q : Fin 2) (d : Dev nD) (c : Fin τ.nSC) : sProp 𝕄 :=
  match q with
  | 0 => iprop(full d main_v3 ((C d).s 0) ∗ full d main_v4 ((C d).ids 0) ∗ full d main_v5 (C d).res0
      ∗ bigSep Finset.univ fun w : Fin 16 => posOf 1 d c (w.castLE hs16))
  | 1 => iprop(full d main_v9 ((C d).s 1) ∗ full d main_v10 ((C d).ids 1) ∗ full d main_v11 (C d).res1 ∗ full d main_v5 (C d).res0
      ∗ bigSep Finset.univ fun w : Fin 16 => semVal (tcell d c w) 0)
/-- hands to tile `w`, -/
def goAt (q : Fin 2) (d : Dev nD) (c : Fin τ.nSC) (w : Fin 16) : sProp 𝕄 :=
  match q with
  | 0 => iprop(chunkAt C 0 d c w ∗ some_ (tile d c w) (outDst (AA 0) w) ∗ some_ (tile d c w) (rowDst (AA 0) w))
  | 1 => iprop(chunkAt C 1 d c w ∗ some_ (tile d c w) (outDst (AA 1) w) ∗ some_ (tile d c w) (rowDst (AA 1) w)
      ∗ partAt C d c w ∗ posKit 1 d c (w.castLE hs16))
/-- and has back from it. -/
def tdAt (q : Fin 2) (d : Dev nD) (c : Fin τ.nSC) (w : Fin 16) : sProp 𝕄 :=
  match q with
  | 0 => iprop(chunkAt C 0 d c w ∗ resAt C 0 d c w ∗ (bigSep Finset.univ fun n : Fin 16 => blkAt C 0 d c w w n)
      ∗ posOf 1 d c (w.castLE hs16))
  | 1 => iprop(chunkAt C 1 d c w ∗ resAt C 1 d c w ∗ (bigSep Finset.univ fun n : Fin 16 => blkAt C 1 d c w w n)
      ∗ partAt C d c w ∗ semVal (tcell d c w) 0)

/-- What a tile's proof of call `q` consumes from the launch. -/
def kitAt (q : Fin 2) (d : Dev nD) (c : Fin τ.nSC) (i : Fin τ.nSub) : sProp 𝕄 :=
  match q with
  | 0 => iprop(bkit C 0 d c i ∗ posKit 0 d c i)
  | 1 => bkit C 1 d c i

instance stAt_storable (q : Fin 2) (d : Dev nD) (c : Fin τ.nSC) : BI.Storable (upEmb : UEmb _ 𝕄) (stAt C q d c) := by
  unfold stAt; match q with | 0 => dsimp only; infer_instance | 1 => dsimp only; infer_instance
instance dnAt_storable (q : Fin 2) (d : Dev nD) (c : Fin τ.nSC) : BI.Storable (upEmb : UEmb _ 𝕄) (dnAt C q d c) := by
  unfold dnAt; match q with | 0 => dsimp only; infer_instance | 1 => dsimp only; infer_instance
instance goAt_storable (q : Fin 2) (d : Dev nD) (c : Fin τ.nSC) (w : Fin 16) : BI.Storable (upEmb : UEmb _ 𝕄) (goAt C q d c w) := by
  unfold goAt; match q with | 0 => dsimp only; infer_instance | 1 => dsimp only; infer_instance
instance tdAt_storable (q : Fin 2) (d : Dev nD) (c : Fin τ.nSC) (w : Fin 16) : BI.Storable (upEmb : UEmb _ 𝕄) (tdAt C q d c w) := by
  unfold tdAt; match q with | 0 => dsimp only; infer_instance | 1 => dsimp only; infer_instance

set_option backward.proofsInPublic true in
/-- The calls' exchange. -/
def P : (K (F := F)).Pay (nD := nD) (Val := Elt F) (Name := ℕ) (U := UU) where
  st := fun q d c => stAt C q d ((K (F := F)).core q c)
  dn := fun q d c => dnAt C q d ((K (F := F)).core q c)
  go := fun q d c i => goAt C q d ((K (F := F)).core q c) (Fin.cast (nS q) i)
  td := fun q d c i => tdAt C q d ((K (F := F)).core q c) (Fin.cast (nS q) i)
  x := fun q thr => match thr with
    | (d, .scVector c i) => if c.val < 1 then kitAt C q d c i else iprop(emp)
    | _ => iprop(emp)
  ox := fun q thr => match thr with
    | (d, .scVector c _) => if c.val < 1 then oxV q d c else 0
    | _ => 0
  ox_band := by
    intro q thr g ι h
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hs16) (show (sc_bar0 : Sem sig) ≠ (K (F := F)).go from sc_bar0_ne_go)]
        exact ⟨le_rfl, Nat.add_le_add_left (by decide : 3 ≤ 5) _⟩
      · exact absurd h (lt_irrefl 0)
  ox_tc := fun _ _ => rfl
  ox_sc := fun _ _ _ h => absurd rfl h
  ox_vc := by
    intro q d c i h
    dsimp only at h
    split at h
    · next hc => exact match q with | 0 => ⟨rfl, hc, i.isLt⟩ | 1 => ⟨rfl, hc, i.isLt⟩
    · exact absurd rfl h

instance P_storable : (P C).IsStorable where
  st q d c := (inferInstance : BI.Storable (upEmb : UEmb _ 𝕄) (stAt C q d ((K (F := F)).core q c)))
  dn q d c := (inferInstance : BI.Storable (upEmb : UEmb _ 𝕄) (dnAt C q d ((K (F := F)).core q c)))
  go q d c i := (inferInstance : BI.Storable (upEmb : UEmb _ 𝕄) (goAt C q d ((K (F := F)).core q c) (Fin.cast (nS q) i)))
  td q d c i := (inferInstance : BI.Storable (upEmb : UEmb _ 𝕄) (tdAt C q d ((K (F := F)).core q c) (Fin.cast (nS q) i)))

end Cert.KernelIdeal.Run

end
-- ==== Proof.KernelIdealRegion.lean ====
module
public import proofs.«01_k».proof.Proof.KernelIdealPay
public import proofs.«01_k».proof.Proof.Gen.Own.KernelIdeal.K0.Frame
public import proofs.«01_k».proof.Proof.Gen.Own.KernelIdeal.K2.Frame
public import Idealize.ShloMosaic.Lib.Pipeline.RegionArrays
public import Idealize.ShloMosaic.Lib.Pipeline.ValueKit

@[expose] public section

/-! # The two TensorCore calls

Between the SparseCore calls' handshakes the TensorCore owes the calls still to be made, and every wait it has
recorded lies below them. A TensorCore call waits on its own staging semaphores only, which lie below everything
owed, so the record's bound survives it. Its result holds the weighted sum of each row plus the bias. -/

noncomputable section

namespace Cert.KernelIdeal.Run

open Cert.KernelIdeal Cert.KernelIdeal.Gen Seg
open Facts₀ Facts

open Idealize.ShloMosaic
open Idealize.ShloMosaic.SparseCore (S V T)
open Idealize.ShloMosaic.SparseCore.Cfg (HIx Pay WBelow)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open TcCoe

variable {F : FTy → Type} [FloatOps F] (C : Dev nD → Calls F)

local notation "𝕄" => MT nD τ sig (HIx 2) (Elt F) ℕ UU ℕ

/-- Every pair recorded before call `n` lies at or below this level. -/
abbrev lowLev (n : ℕ) : ℕ := 8 * SparseCore.Cfg.Blocks.fst (Q := 2) (N := 2) n

/-- The pairs at or below it. -/
def lowPairs (d : Dev nD) (n : ℕ) : Set (SemLoc sig × HIx 2) := {p | (K (F := F)).lev (T d, p.1) p.2 ≤ lowLev n}

/-- What the TensorCore owes once `n` calls are made, its record below them. -/
def tcOwes (d : Dev nD) (n : ℕ) : sProp 𝕄 :=
  iprop(∃ W, ⌜(K (F := F)).WBelow (T d) W (lowLev n)⌝ ∗ owes (T d) ((K (F := F)).Otc d n) W)

/-! ## The calls' proof data -/

variable (V : Fin 2 → (c : Dev nD) → (b : Ref sig .tc) → Buf (Elt F) ((c : Thread nD τ).loc b))

/-- The first call's, with the record bounded, -/
def dat0 (d : Dev nD) : Dat τ (Elt F) (HIx 2) ℕ UU ℕ cfg0 d :=
  { Own.K0.dat 𝒱₀ (V 0) (fun c => (K (F := F)).Otc c 0) d with recorded := fun _ => lowPairs (F := F) d 0 }
/-- and the second's. -/
def dat2 (d : Dev nD) : Dat τ (Elt F) (HIx 2) ℕ UU ℕ cfg2 d :=
  { Own.K2.dat 𝒱₀ (V 1) (fun c => (K (F := F)).Otc c 1) d with recorded := fun _ => lowPairs (F := F) d 1 }

/-- What the first call's body leaves at a point. -/
theorem out0 (d : Dev nD) (t : Fin cfg0.N) :
    (dat0 V d).after 3 t = Own.K0.outsAt0 (Ix := HIx 2) (U := UU) (Lvl := ℕ) 𝒱₀ (V 0) d t := by
  dsimp only [dat0, Own.K0.dat]

/-- The first call's body at any point: it reads its three blocks and writes its result. -/
theorem body0 (d : Dev nD) : BodyObligation (dat0 V d) (defs₀ (F := F)) 𝒱₀ none Set.univ := fun t => by
  rw [bigSep_W0, bigSep_W0, Own.K0.defs₀_row]
  refine triple_restated (P := iprop((dat0 V d).Φ t.castSucc ∗ (dat0 V d).owesAt none t.castSucc
    ∗ (∃ x, owns (T d) (Own.K0.ms0_0 t) fullShare ((dat0 V d).before 0 t x)) ∗ (∃ x, owns (T d) (Own.K0.ms0_1 t) fullShare ((dat0 V d).before 1 t x))
    ∗ (∃ x, owns (T d) (Own.K0.ms0_2 t) fullShare ((dat0 V d).before 2 t x)) ∗ (∃ x, owns (T d) (Own.K0.ms0_3 t) fullShare ((dat0 V d).before 3 t x))))
    (Q := fun _ => iprop((dat0 V d).Φ t.succ ∗ (dat0 V d).owesAt none t.succ
    ∗ owns (T d) (Own.K0.ms0_0 t) fullShare ((dat0 V d).after 0 t) ∗ owns (T d) (Own.K0.ms0_1 t) fullShare ((dat0 V d).after 1 t)
    ∗ owns (T d) (Own.K0.ms0_2 t) fullShare ((dat0 V d).after 2 t) ∗ owns (T d) (Own.K0.ms0_3 t) fullShare ((dat0 V d).after 3 t))) ?_ rfl .rfl fun _ => .rfl
  rw [show (dat0 V d).Φ t.succ = (dat0 V d).Φ t.castSucc from rfl, show (dat0 V d).owesAt none t.succ = (dat0 V d).owesAt none t.castSucc from rfl,
    show (dat0 V d).after 0 t = _ from Own.K0.after0_0 (U := UU) (Lvl := ℕ) 𝒱₀ (V 0) (fun c => (K (F := F)).Otc c 0) d t,
    show (dat0 V d).after 1 t = _ from Own.K0.after0_1 (U := UU) (Lvl := ℕ) 𝒱₀ (V 0) (fun c => (K (F := F)).Otc c 0) d t,
    show (dat0 V d).after 2 t = _ from Own.K0.after0_2 (U := UU) (Lvl := ℕ) 𝒱₀ (V 0) (fun c => (K (F := F)).Otc c 0) d t,
    out0 V d t]
  simp only [Own.K0.before0_0_of (V 0) (dat0 V d) rfl (fun _ => rfl), Own.K0.before0_1_of (V 0) (dat0 V d) rfl (fun _ => rfl),
    Own.K0.before0_2_of (V 0) (dat0 V d) rfl (fun _ => rfl)]
  unfold Own.K0.outsAt0 Own.K0.out0_A_3 bodyAt0
  iintro ⟨HΦ, Ho, ⟨%d0, H0⟩, ⟨%d1, H1⟩, ⟨%d2, H2⟩, H3⟩
  iapply ((Own.K0.kernelRun0_A (Ix := HIx 2) (U := UU) (Lvl := ℕ) 𝒱₀ d (grid0.coords t) _ _ _ _ _ _ _ _ (Own.K0.iblk (V 0) d 0 t) (Own.K0.iblk (V 0) d 1 t)
    (Own.K0.iblk (V 0) d 2 t)).2 Set.univ _)
  isplitl [H0]; · iexact H0
  isplitl [H1]; · iexact H1
  isplitl [H2]; · iexact H2
  isplitl [H3]
  · icases H3 with ⟨%d3, H3⟩; iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (Own.K0.cover0_A_3 (Ix := HIx 2) (U := UU) (Lvl := ℕ) 𝒱₀ d _ _ _ _ _ _ _ _ _ _ _ _)

/-- What the second call's body leaves at a point. -/
theorem out2 (d : Dev nD) (t : Fin cfg2.N) :
    (dat2 V d).after 3 t = Own.K2.outsAt2 (Ix := HIx 2) (U := UU) (Lvl := ℕ) 𝒱₀ (V 1) d t := by
  dsimp only [dat2, Own.K2.dat]

/-- The second call's body, the same. -/
theorem body2 (d : Dev nD) : BodyObligation (dat2 V d) (defs₀ (F := F)) 𝒱₀ none Set.univ := fun t => by
  rw [bigSep_W2, bigSep_W2, Own.K2.defs₀_row]
  refine triple_restated (P := iprop((dat2 V d).Φ t.castSucc ∗ (dat2 V d).owesAt none t.castSucc
    ∗ (∃ x, owns (T d) (Own.K2.ms2_0 t) fullShare ((dat2 V d).before 0 t x)) ∗ (∃ x, owns (T d) (Own.K2.ms2_1 t) fullShare ((dat2 V d).before 1 t x))
    ∗ (∃ x, owns (T d) (Own.K2.ms2_2 t) fullShare ((dat2 V d).before 2 t x)) ∗ (∃ x, owns (T d) (Own.K2.ms2_3 t) fullShare ((dat2 V d).before 3 t x))))
    (Q := fun _ => iprop((dat2 V d).Φ t.succ ∗ (dat2 V d).owesAt none t.succ
    ∗ owns (T d) (Own.K2.ms2_0 t) fullShare ((dat2 V d).after 0 t) ∗ owns (T d) (Own.K2.ms2_1 t) fullShare ((dat2 V d).after 1 t)
    ∗ owns (T d) (Own.K2.ms2_2 t) fullShare ((dat2 V d).after 2 t) ∗ owns (T d) (Own.K2.ms2_3 t) fullShare ((dat2 V d).after 3 t))) ?_ rfl .rfl fun _ => .rfl
  rw [show (dat2 V d).Φ t.succ = (dat2 V d).Φ t.castSucc from rfl, show (dat2 V d).owesAt none t.succ = (dat2 V d).owesAt none t.castSucc from rfl,
    show (dat2 V d).after 0 t = _ from Own.K2.after2_0 (U := UU) (Lvl := ℕ) 𝒱₀ (V 1) (fun c => (K (F := F)).Otc c 1) d t,
    show (dat2 V d).after 1 t = _ from Own.K2.after2_1 (U := UU) (Lvl := ℕ) 𝒱₀ (V 1) (fun c => (K (F := F)).Otc c 1) d t,
    show (dat2 V d).after 2 t = _ from Own.K2.after2_2 (U := UU) (Lvl := ℕ) 𝒱₀ (V 1) (fun c => (K (F := F)).Otc c 1) d t,
    out2 V d t]
  simp only [Own.K2.before2_0_of (V 1) (dat2 V d) rfl (fun _ => rfl), Own.K2.before2_1_of (V 1) (dat2 V d) rfl (fun _ => rfl),
    Own.K2.before2_2_of (V 1) (dat2 V d) rfl (fun _ => rfl)]
  unfold Own.K2.outsAt2 Own.K2.out2_A_3 bodyAt2
  iintro ⟨HΦ, Ho, ⟨%d0, H0⟩, ⟨%d1, H1⟩, ⟨%d2, H2⟩, H3⟩
  iapply ((Own.K2.kernelRun2_A (Ix := HIx 2) (U := UU) (Lvl := ℕ) 𝒱₀ d (grid2.coords t) _ _ _ _ _ _ _ _ (Own.K2.iblk (V 1) d 0 t) (Own.K2.iblk (V 1) d 1 t)
    (Own.K2.iblk (V 1) d 2 t)).2 Set.univ _)
  isplitl [H0]; · iexact H0
  isplitl [H1]; · iexact H1
  isplitl [H2]; · iexact H2
  isplitl [H3]
  · icases H3 with ⟨%d3, H3⟩; iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (Own.K2.cover2_A_3 (Ix := HIx 2) (U := UU) (Lvl := ℕ) 𝒱₀ d _ _ _ _ _ _ _ _ _ _ _ _)

/-! ## The calls' results -/

/-- Block `t` of the rows, as the body reads it. -/
def rowsAt (x : Vec F S160000x128 .f32) (t : Fin 5) : Vec F S32000x128 .f32 :=
  fun j => x (show S160000x128.Idx from fun
    | 0 => ⟨t.val * 32000 + (j 0).val, by have h1 := t.isLt; have h2 : (j 0).val < 32000 := (j 0).isLt; show _ < 160000; omega⟩
    | 1 => j 1)

/-- A call's result: each row's product with the weights plus the bias, laid out block by block. -/
def matvec (x : Vec F S160000x128 .f32) (w : Vec F S128x1 .f32) (b : Vec F S1x1 .f32) : Vec F S5x1x32000 .f32 :=
  fun i => k0_pay1 w (rowsAt x (i 0)) b (show S1x1x32000.Idx from fun | 0 => ⟨0, Nat.one_pos⟩ | 1 => ⟨0, Nat.one_pos⟩ | 2 => i 2)

/-- Where each window's block sits. -/
theorem index0 : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0 ∧ win0_3.index t 2 = 0) := by
  decide +kernel

/-- The blocks the body is handed at a point. -/
theorem blocks0 (d : Dev nD) (t : Fin cfg0.N) : Own.K0.iblk (V 0) d 0 t = rowsAt (V 0 d main_v0) (t.cast N_0)
    ∧ Own.K0.iblk (V 0) d 1 t = V 0 d main_arg2 ∧ Own.K0.iblk (V 0) d 2 t = V 0 d main_v1 := by
  obtain ⟨⟨h00, h01⟩, ⟨h10, h11⟩, ⟨h20, h21⟩, -⟩ := index0 t
  refine ⟨funext fun j => ?_, funext fun j => ?_, funext fun j => ?_⟩
  · refine congrArg (V 0 d main_v0) (Shape.idx_ext₂ ((win0_0.rect_emb_val t j 0).trans ?_) ((win0_0.rect_emb_val t j 1).trans ?_))
    · rw [h00]; rfl
    · rw [h01]; exact (Nat.zero_add _)
  · refine congrArg (V 0 d main_arg2) (Shape.idx_ext₂ ((win0_1.rect_emb_val t j 0).trans ?_) ((win0_1.rect_emb_val t j 1).trans ?_))
    · rw [h10]; exact (Nat.zero_add _)
    · rw [h11]; exact (Nat.zero_add _)
  · refine congrArg (V 0 d main_v1) (Shape.idx_ext₂ ((win0_2.rect_emb_val t j 0).trans ?_) ((win0_2.rect_emb_val t j 1).trans ?_))
    · rw [h20]; exact (Nat.zero_add _)
    · rw [h21]; exact (Nat.zero_add _)

/-- What the first call leaves in its result. -/
theorem result0 (d : Dev nD) : (dat0 V d).arrAt 3 cfg0.N = matvec (V 0 d main_v0) (V 0 d main_arg2) (V 0 d main_v1) := by
  refine (dat0 V d).arrAt_eq_of_covers 3 _ (by decide +kernel) fun t hf y => ?_
  blk_simp
  rw [out0]
  unfold Own.K0.outsAt0 Own.K0.out0_A_3
  frame_out
  obtain ⟨h0, h1, h2⟩ := blocks0 V d t
  obtain ⟨-, -, -, h30, h31, h32⟩ := index0 t
  rw [h0, h1, h2]
  have e0 : (t.cast N_0 : Fin 5) = (win0_3.rect t).emb y 0 := Fin.ext (((win0_3.rect_emb_val t y 0).trans (by
    rw [h30]; have : (y 0).val < 1 := (y 0).isLt; show t.val * 1 + _ = t.val; omega)).symm)
  have e2 : y = (show S1x1x32000.Idx from fun | 0 => ⟨0, Nat.one_pos⟩ | 1 => ⟨0, Nat.one_pos⟩ | 2 => (win0_3.rect t).emb y 2) := by
    funext a
    match a with
    | 0 => exact Fin.ext (by have : (y 0).val < 1 := (y 0).isLt; show (y 0).val = 0; omega)
    | 1 => exact Fin.ext (by have : (y 1).val < 1 := (y 1).isLt; show (y 1).val = 0; omega)
    | 2 => exact Fin.ext (((win0_3.rect_emb_val t y 2).trans (by rw [h32]; exact Nat.zero_add _)).symm)
  unfold matvec
  rw [e0]
  exact congrArg _ e2

/-- The same of the second call. -/
theorem index2 : ∀ t : Fin cfg2.N, (win2_0.index t 0 = t.val ∧ win2_0.index t 1 = 0) ∧ (win2_1.index t 0 = 0 ∧ win2_1.index t 1 = 0)
    ∧ (win2_2.index t 0 = 0 ∧ win2_2.index t 1 = 0) ∧ (win2_3.index t 0 = t.val ∧ win2_3.index t 1 = 0 ∧ win2_3.index t 2 = 0) := by
  decide +kernel

/-- The second call's blocks. -/
theorem blocks2 (d : Dev nD) (t : Fin cfg2.N) : Own.K2.iblk (V 1) d 0 t = rowsAt (V 1 d main_v6) (t.cast N_2)
    ∧ Own.K2.iblk (V 1) d 1 t = V 1 d main_arg2 ∧ Own.K2.iblk (V 1) d 2 t = V 1 d main_v7 := by
  obtain ⟨⟨h00, h01⟩, ⟨h10, h11⟩, ⟨h20, h21⟩, -⟩ := index2 t
  refine ⟨funext fun j => ?_, funext fun j => ?_, funext fun j => ?_⟩
  · refine congrArg (V 1 d main_v6) (Shape.idx_ext₂ ((win2_0.rect_emb_val t j 0).trans ?_) ((win2_0.rect_emb_val t j 1).trans ?_))
    · rw [h00]; rfl
    · rw [h01]; exact (Nat.zero_add _)
  · refine congrArg (V 1 d main_arg2) (Shape.idx_ext₂ ((win2_1.rect_emb_val t j 0).trans ?_) ((win2_1.rect_emb_val t j 1).trans ?_))
    · rw [h10]; exact (Nat.zero_add _)
    · rw [h11]; exact (Nat.zero_add _)
  · refine congrArg (V 1 d main_v7) (Shape.idx_ext₂ ((win2_2.rect_emb_val t j 0).trans ?_) ((win2_2.rect_emb_val t j 1).trans ?_))
    · rw [h20]; exact (Nat.zero_add _)
    · rw [h21]; exact (Nat.zero_add _)

/-- What the second call leaves in its result. -/
theorem result2 (d : Dev nD) : (dat2 V d).arrAt 3 cfg2.N = matvec (V 1 d main_v6) (V 1 d main_arg2) (V 1 d main_v7) := by
  refine (dat2 V d).arrAt_eq_of_covers 3 _ (by decide +kernel) fun t hf y => ?_
  blk_simp
  rw [out2]
  unfold Own.K2.outsAt2 Own.K2.out2_A_3
  frame_out
  obtain ⟨h0, h1, h2⟩ := blocks2 V d t
  obtain ⟨-, -, -, h30, h31, h32⟩ := index2 t
  rw [h0, h1, h2]
  have e0 : (t.cast N_2 : Fin 5) = (win2_3.rect t).emb y 0 := Fin.ext (((win2_3.rect_emb_val t y 0).trans (by
    rw [h30]; have : (y 0).val < 1 := (y 0).isLt; show t.val * 1 + _ = t.val; omega)).symm)
  have e2 : y = (show S1x1x32000.Idx from fun | 0 => ⟨0, Nat.one_pos⟩ | 1 => ⟨0, Nat.one_pos⟩ | 2 => (win2_3.rect t).emb y 2) := by
    funext a
    match a with
    | 0 => exact Fin.ext (by have : (y 0).val < 1 := (y 0).isLt; show (y 0).val = 0; omega)
    | 1 => exact Fin.ext (by have : (y 1).val < 1 := (y 1).isLt; show (y 1).val = 0; omega)
    | 2 => exact Fin.ext (((win2_3.rect_emb_val t y 2).trans (by rw [h32]; exact Nat.zero_add _)).symm)
  unfold matvec
  rw [e0]
  exact congrArg _ e2

/-- Both calls' data. -/
def pdats : (p : Fin 2) → (d : Dev nD) → Dat τ (Elt F) (HIx 2) ℕ UU ℕ (pins (F := F) p) d
  | ⟨0, _⟩ => dat0 V
  | ⟨1, _⟩ => dat2 V

/-- A staging wait's pair is recorded at level zero, so it lies below every call. -/
theorem low_of_bound {cfg : Pipeline.Cfg sig Λ₀} {d : Dev nD} {n : ℕ} {q : SemLoc sig × HIx 2} (h : q ∈ lowPairs (F := F) d n ∪ cfg.waitPairs none) :
    (K (F := F)).lev (T d, q.1) q.2 ≤ lowLev n := by
  rcases h with h | ⟨w, s, rfl⟩
  · exact h
  · rw [(K (F := F)).lev_none]; exact Nat.zero_le _

/-- A TensorCore call as a region entered with the record bounded and left so. -/
def regOf (p : Fin 2) (n : ℕ) (kit : Pipeline.PLaunchFacts₀ (nD := nD) (τ := τ) (pcfgs (F := F)) p)
    (hbody : ∀ d, BodyObligation (pdats V p d) (defs₀ (F := F)) 𝒱₀ none Set.univ)
    (howed : ∀ d t, (pdats V p d).owed t = (K (F := F)).Otc d n) (hrec : ∀ d t, (pdats V p d).recorded t = lowPairs (F := F) d n)
    (hin : ∀ d, iprop(Pipeline.scopedRest (pins (F := F) p).spec d ∗ ∃ r, prngReg d r) ⊢ (pdats V p d).Φ 0)
    (hout : ∀ d, (pdats V p d).Φ (Fin.last (pins (F := F) p).N) ⊢ iprop(Pipeline.scopedRest (pins (F := F) p).spec d ∗ ∃ r, prngReg d r)) :
    Pipeline.RegionSeg (pcfgs (F := F)) adm (pdats V) none defs₀ 𝒱₀ (K (F := F)).L (K (F := F)).lev p where
  win := kit.win
  block_pos := kit.block_pos
  stage_whole := kit.stage_whole
  K := PEmpty
  osem k := k.elim
  ho := Pipeline.OwnSemFacts.none _
  hbody d := (hbody d).loose
  hwaits d := Pipeline.cellsWaits_of_cut (pins (F := F)) (pdats V) none p d (lowLev n) ((K (F := F)).Otc d n) (howed d)
    (fun _ _ => Finset.mem_univ _) (fun _ _ => by rw [(K (F := F)).lev_none]; exact Nat.zero_le _)
    (fun g i h => ⟨Finset.mem_univ _, SparseCore.Cfg.lev_of_Otc_pos h⟩)
  pre d := iprop((pdats V p d).arrays ((pdats V p d).arrAt · 0) ∗ (∃ r, prngReg d r) ∗ tcOwes (F := F) d n)
  post d := iprop((pdats V p d).arrays ((pdats V p d).arrAt · (pins (F := F) p).N) ∗ (∃ r, prngReg d r) ∗ tcOwes (F := F) d n)
  X d := iprop(∃ r, prngReg d r)
  Y d := iprop(∃ r, prngReg d r)
  Z _ := iprop(emp)
  hentry d := by
    rw [Pipeline.ownSems0_none, Pipeline.prefHeld_of_none _ rfl]
    unfold tcOwes Dat.owesAt Pipeline.owesWithin Dat.bound
    rw [howed d 0, hrec d 0]
    iintro ⟨⟨Ha, HX, ⟨%W, %hW, HO⟩⟩, -, -⟩
    imodintro
    isplitl [Ha]; · iexact Ha
    isplitr; · iempintro
    isplitl [HO]
    · iexists W; isplitr; · ipureintro; exact fun q hq => Or.inl (hW q hq)
      iexact HO
    isplitl [HX]; · iexact HX
    iempintro
  hin d := (show _ ⊢ iprop(Pipeline.scopedRest (pins (F := F) p).spec d ∗ ∃ r, prngReg d r) from by
    iintro ⟨HX, -, Hr⟩
    isplitl [Hr]; · iexact Hr
    iexact HX).trans (hin d)
  hout d := (hout d).trans (by
    rw [Pipeline.ownSems0_none]
    iintro ⟨Hr, HY⟩
    isplitl [HY]; · iexact HY
    isplitr; · iempintro
    iexact Hr)
  hexit d := by
    unfold tcOwes Dat.owesAt Pipeline.owesWithin Dat.bound
    rw [howed d (Fin.last _), hrec d (Fin.last _)]
    iintro ⟨Ha, ⟨%W, %hW, HO⟩, HY, -⟩
    imodintro
    isplitl [Ha]; · iexact Ha
    isplitl [HY]; · iexact HY
    iexists W
    isplitr; · ipureintro; exact fun q hq => low_of_bound (hW hq)
    iexact HO

/-- The call's step inside the program. -/
theorem reg_wp {p : Fin 2} (R : Pipeline.RegionSeg (pcfgs (F := F)) adm (pdats V) none defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev ∗ tcGhost p d)
    ⊢ wp frame (wpE ((K (F := F)).defs D) 𝒱 (T d) none) Set.univ (Prog.lift (.customCall (SparseCore.inner (Pipeline.entry p)) ())) Φ := by
  refine BIBase.Entails.trans ?_ ((K (F := F)).wp_liftProg D 𝒱 (T d) Set.univ none (.op (.customCall (Pipeline.entry p) ()) .ret) Φ)
  refine BIBase.Entails.trans ?_ (Pipeline.RegionSeg.wp (pcfgs (F := F)) adm (pdats V) none pins_inj EP defs₀ 𝒱₀ _ _ R d none (fun u h => nomatch h) .ret Φ)
  unfold tcGhost
  iintro ⟨Hk, Hb, Hp, Hl, Hc, Ht⟩
  isplitl [Hk]
  · iintro H
    iapply (SparseCore.ent (le_wp_ret _ _ _ (⟨⟩ : PUnit) Φ))
    iapply Hk; iexact H
  isplitl [Hb]; · iexact Hb
  isplitl [Hp]; · iexact Hp
  isplitl [Hl]; · iexact Hl
  isplitl [Hc]; · iexact Hc
  iexact Ht

/-! ## The calls' steps over named arrays -/

/-- The first call's arrays, one by one, -/
theorem arrays0 (d : Dev nD) (A : (w : Fin 4) → Buf (Elt F) (((pins (F := F) 0).win w).arr.view.loc (T d))) :
    (pdats V 0 d).arrays A = iprop(full d main_v0 (A 0) ∗ full d main_arg2 (A 1) ∗ full d main_v1 (A 2) ∗ full d main_v2 (A 3)) := by
  rw [Pipeline.arrays_eq (pins (F := F)) (pdats V) 0 d launch0.arr_whole (fun w => by unfold Dat.share; split <;> rfl) A]
  exact bigSep_W0 _
/-- and the second's. -/
theorem arrays2 (d : Dev nD) (A : (w : Fin 4) → Buf (Elt F) (((pins (F := F) 1).win w).arr.view.loc (T d))) :
    (pdats V 1 d).arrays A = iprop(full d main_v6 (A 0) ∗ full d main_arg2 (A 1) ∗ full d main_v7 (A 2) ∗ full d main_v8 (A 3)) := by
  rw [Pipeline.arrays_eq (pins (F := F)) (pdats V) 1 d launch2.arr_whole (fun w => by unfold Dat.share; split <;> rfl) A]
  exact bigSep_W2 _

/-- The first call as a region, -/
def reg0 := regOf V 0 0 launch0.toP.to₀ (body0 V) (fun _ _ => rfl) (fun _ _ => rfl) (fun _ => .rfl) (fun _ => .rfl)
/-- and the second. -/
def reg2 := regOf V 1 1 launch2.toP.to₀ (body2 V) (fun _ _ => rfl) (fun _ _ => rfl) (fun _ => .rfl) (fun _ => .rfl)

/-- Contents with four buffers as named. -/
theorem named {r0 r1 r2 r3 : Ref sig .tc} (h : r1 ≠ r0 ∧ r2 ≠ r0 ∧ r3 ≠ r0 ∧ r2 ≠ r1 ∧ r3 ≠ r1 ∧ r3 ≠ r2)
    (B : (b : Ref sig .tc) → Buf (Elt F) ((SparseCore.T (0 : Dev nD) : Thread nD τ).loc b))
    (x0 : Buf (Elt F) ((SparseCore.T (0 : Dev nD) : Thread nD τ).loc r0)) (x1 : Buf (Elt F) ((SparseCore.T (0 : Dev nD) : Thread nD τ).loc r1))
    (x2 : Buf (Elt F) ((SparseCore.T (0 : Dev nD) : Thread nD τ).loc r2)) (x3 : Buf (Elt F) ((SparseCore.T (0 : Dev nD) : Thread nD τ).loc r3)) :
    ∃ f : (b : Ref sig .tc) → Buf (Elt F) ((SparseCore.T (0 : Dev nD) : Thread nD τ).loc b), f r0 = x0 ∧ f r1 = x1 ∧ f r2 = x2 ∧ f r3 = x3 := by
  obtain ⟨h10, h20, h30, h21, h31, h32⟩ := h
  refine ⟨Function.update (Function.update (Function.update (Function.update B r0 x0) r1 x1) r2 x2) r3 x3, ?_, ?_, ?_, ?_⟩
  · rw [Function.update_of_ne h30.symm, Function.update_of_ne h20.symm, Function.update_of_ne h10.symm, Function.update_self]
  · rw [Function.update_of_ne h31.symm, Function.update_of_ne h21.symm, Function.update_self]
  · rw [Function.update_of_ne h32.symm, Function.update_self]
  · rw [Function.update_self]

/-- A call's step over four named arrays, the fourth its result. -/
theorem reg_call {p : Fin 2} (R : Pipeline.RegionSeg (pcfgs (F := F)) adm (pdats V) none defs₀ 𝒱₀ (K (F := F)).L (K (F := F)).lev p)
    (d : Dev nD) (Φ : PUnit → sProp 𝕄) (a0 a1 a2 a3 a4 r o : sProp 𝕄) (hpre : R.pre d = iprop(iprop(a0 ∗ a1 ∗ a2 ∗ a3) ∗ r ∗ o))
    (hpost : R.post d = iprop(iprop(a0 ∗ a1 ∗ a2 ∗ a4) ∗ r ∗ o)) :
    iprop((iprop(boundary (T d) ∗ a0 ∗ a1 ∗ a2 ∗ a4 ∗ r ∗ o) -∗ Φ ⟨⟩) ∗ boundary (T d) ∗ (a0 ∗ a1 ∗ a2 ∗ a3 ∗ r ∗ o)
        ∗ levAts (K (F := F)).L (K (F := F)).lev ∗ tcGhost p d)
    ⊢ wp frame (wpE ((K (F := F)).defs D) 𝒱 (T d) none) Set.univ (Prog.lift (.customCall (SparseCore.inner (Pipeline.entry p)) ())) Φ := by
  have hw := reg_wp V R d Φ
  rw [hpre, hpost] at hw
  iintro ⟨Hk, Hb, ⟨H0, H1, H2, H3, Hr, HO⟩, Hl, Hg⟩
  iapply hw
  isplitl [Hk]
  · iintro ⟨Hb, ⟨H0, H1, H2, H3⟩, Hr, HO⟩
    iapply Hk
    isplitl [Hb]; · iexact Hb
    isplitl [H0]; · iexact H0
    isplitl [H1]; · iexact H1
    isplitl [H2]; · iexact H2
    isplitl [H3]; · iexact H3
    isplitl [Hr]; · iexact Hr
    iexact HO
  isplitl [Hb]; · iexact Hb
  isplitl [H0 H1 H2 H3 Hr HO]
  · isplitl [H0 H1 H2 H3]
    · isplitl [H0]; · iexact H0
      isplitl [H1]; · iexact H1
      isplitl [H2]; · iexact H2
      iexact H3
    isplitl [Hr]; · iexact Hr
    iexact HO
  isplitl [Hl]; · iexact Hl
  iexact Hg

/-- The first call, over its arrays by name. -/
theorem call0_wp (B : (b : Ref sig .tc) → Buf (Elt F) ((SparseCore.T (0 : Dev nD) : Thread nD τ).loc b))
    (d : Dev nD) (x : Vec F S160000x128 .f32) (w : Vec F S128x1 .f32) (b : Vec F S1x1 .f32) (o : Vec F S5x1x32000 .f32) (Φ : PUnit → sProp 𝕄) :
    iprop((iprop(boundary (T d) ∗ full d main_v0 x ∗ full d main_arg2 w ∗ full d main_v1 b ∗ full d main_v2 (matvec x w b)
            ∗ (∃ r, prngReg d r) ∗ tcOwes (F := F) d 0) -∗ Φ ⟨⟩)
        ∗ boundary (T d) ∗ (full d main_v0 x ∗ full d main_arg2 w ∗ full d main_v1 b ∗ full d main_v2 o
            ∗ (∃ r, prngReg d r) ∗ tcOwes (F := F) d 0)
        ∗ levAts (K (F := F)).L (K (F := F)).lev ∗ tcGhost 0 d)
    ⊢ wp frame (wpE ((K (F := F)).defs D) 𝒱 (T d) none) Set.univ (Prog.lift (.customCall (SparseCore.inner (Pipeline.entry 0)) ())) Φ := by
  obtain ⟨V, e0, e1, e2, e3⟩ : ∃ V : Fin 2 → (c : Dev nD) → (b : Ref sig .tc) → Buf (Elt F) ((c : Thread nD τ).loc b),
      V 0 d main_v0 = x ∧ V 0 d main_arg2 = w ∧ V 0 d main_v1 = b ∧ V 0 d main_v2 = o :=
    (named (r0 := main_v0) (r1 := main_arg2) (r2 := main_v1) (r3 := main_v2) (by decide) B x w b o).elim fun f h => ⟨fun _ _ => f, h⟩
  refine reg_call V (reg0 V) d Φ _ _ _ _ _ _ _ ?_ ?_
  · rw [← e0, ← e1, ← e2, ← e3]
    exact congrArg (fun A => iprop(A ∗ (∃ r, prngReg d r) ∗ tcOwes (F := F) d 0)) (arrays0 V d _)
  · rw [← e0, ← e1, ← e2, ← result0 V d]
    refine congrArg (fun A => iprop(A ∗ (∃ r, prngReg d r) ∗ tcOwes (F := F) d 0)) ((arrays0 V d _).trans ?_)
    rw [show (pdats V 0 d).arrAt 0 _ = _ from (dat0 V d).arrAt_in 0 rfl _, show (pdats V 0 d).arrAt 1 _ = _ from (dat0 V d).arrAt_in 1 rfl _,
      show (pdats V 0 d).arrAt 2 _ = _ from (dat0 V d).arrAt_in 2 rfl _]
    rfl

/-- The second call, over its arrays by name. -/
theorem call2_wp (B : (b : Ref sig .tc) → Buf (Elt F) ((SparseCore.T (0 : Dev nD) : Thread nD τ).loc b))
    (d : Dev nD) (x : Vec F S160000x128 .f32) (w : Vec F S128x1 .f32) (b : Vec F S1x1 .f32) (o : Vec F S5x1x32000 .f32) (Φ : PUnit → sProp 𝕄) :
    iprop((iprop(boundary (T d) ∗ full d main_v6 x ∗ full d main_arg2 w ∗ full d main_v7 b ∗ full d main_v8 (matvec x w b)
            ∗ (∃ r, prngReg d r) ∗ tcOwes (F := F) d 1) -∗ Φ ⟨⟩)
        ∗ boundary (T d) ∗ (full d main_v6 x ∗ full d main_arg2 w ∗ full d main_v7 b ∗ full d main_v8 o
            ∗ (∃ r, prngReg d r) ∗ tcOwes (F := F) d 1)
        ∗ levAts (K (F := F)).L (K (F := F)).lev ∗ tcGhost 1 d)
    ⊢ wp frame (wpE ((K (F := F)).defs D) 𝒱 (T d) none) Set.univ (Prog.lift (.customCall (SparseCore.inner (Pipeline.entry 1)) ())) Φ := by
  obtain ⟨V, e0, e1, e2, e3⟩ : ∃ V : Fin 2 → (c : Dev nD) → (b : Ref sig .tc) → Buf (Elt F) ((c : Thread nD τ).loc b),
      V 1 d main_v6 = x ∧ V 1 d main_arg2 = w ∧ V 1 d main_v7 = b ∧ V 1 d main_v8 = o :=
    (named (r0 := main_v6) (r1 := main_arg2) (r2 := main_v7) (r3 := main_v8) (by decide) B x w b o).elim fun f h => ⟨fun _ _ => f, h⟩
  refine reg_call V (reg2 V) d Φ _ _ _ _ _ _ _ ?_ ?_
  · rw [← e0, ← e1, ← e2, ← e3]
    exact congrArg (fun A => iprop(A ∗ (∃ r, prngReg d r) ∗ tcOwes (F := F) d 1)) (arrays2 V d _)
  · rw [← e0, ← e1, ← e2, ← result2 V d]
    refine congrArg (fun A => iprop(A ∗ (∃ r, prngReg d r) ∗ tcOwes (F := F) d 1)) ((arrays2 V d _).trans ?_)
    rw [show (pdats V 1 d).arrAt 0 _ = _ from (dat2 V d).arrAt_in 0 rfl _, show (pdats V 1 d).arrAt 1 _ = _ from (dat2 V d).arrAt_in 1 rfl _,
      show (pdats V 1 d).arrAt 2 _ = _ from (dat2 V d).arrAt_in 2 rfl _]
    rfl

end Cert.KernelIdeal.Run

end
-- ==== Proof.KernelIdealTask.lean ====
module
public import proofs.«01_k».proof.Proof.KernelIdealPay

@[expose] public section

/-! # One tile's run of each call

A tile's own buffers and semaphores are taken out of what the launch deals it; the barrier hands block
`j` of its row to tile `j` and gives back block `w` of every row; and the tile's program runs from what
the go signal hands it to what it reports done with. -/

noncomputable section

namespace Cert.KernelIdeal.Run

open Cert.KernelIdeal Cert.KernelIdeal.Gen Seg
open Facts₀ Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (C : Dev nD → Calls F)

local notation "𝕄" => MT nD τ sig (HIx 2) (Elt F) ℕ UU ℕ

/-! ## The tile's own buffers and semaphores -/

/-- A conjunction over the first `n + 1` numbers: the first, and the rest. -/
theorem bigSep_first {n : ℕ} (Φ : Fin (n + 1) → sProp 𝕄) :
    bigSep Finset.univ Φ = iprop(Φ 0 ∗ bigSep Finset.univ fun i : Fin n => Φ i.succ) := by
  rw [SparseCore.bigSep_erase' (Finset.mem_univ 0)]
  congr 1
  rw [show (Finset.univ.erase 0 : Finset (Fin (n + 1))) = Finset.univ.image Fin.succ from by
    ext i; simp only [Finset.mem_erase, Finset.mem_univ, and_true, Finset.mem_image, true_and]
    exact ⟨fun h => ⟨i.pred h, Fin.succ_pred i h⟩, fun ⟨j, hj⟩ => hj ▸ Fin.succ_ne_zero j⟩]
  exact SparseCore.bigSep_image_of_injOn (fun a _ b _ e => Fin.succ_injective n e) Φ

/-- A family over no index is nothing. -/
theorem bigSep_none (Φ : Fin 0 → sProp 𝕄) : bigSep Finset.univ Φ = iprop(emp) := by
  rw [Finset.univ_eq_empty, bigSep_empty]; rfl

/-- A conjunction over an injective image, taken out of a larger one. -/
theorem bigSep_take {I J : Type} [Fintype I] [DecidableEq I] [DecidableEq J] {s : Finset J} {f : I → J} (inj : Function.Injective f) (sub : ∀ i, f i ∈ s)
    (Φ : J → sProp 𝕄) : bigSep s Φ = iprop((bigSep Finset.univ fun i => Φ (f i)) ∗ bigSep (s \ Finset.univ.image f) Φ) := by
  rw [SparseCore.bigSep_sdiff_split' (t := Finset.univ.image f) fun x hx => by obtain ⟨i, -, rfl⟩ := Finset.mem_image.mp hx; exact sub i,
    SparseCore.bigSep_image_of_injOn (inj.injOn)]

/-- A family over a sum of types is the two parts. -/
theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

section Own

variable (d : Dev nD) (c : Fin τ.nSC) (j : Fin τ.nSub) {I : Type} [Fintype I] [DecidableEq I]

/-- A family of a tile's own semaphores, taken out of them. -/
theorem own_sems (φ : I → DmaSem sig) (hi : Function.Injective φ) (hs : ∀ i, (SemLoc.dma (φ i) : SemLoc sig).isScoped .scVector = true) :
    (ownSems0 (V d c j) : sProp 𝕄) = iprop((bigSep Finset.univ fun i => semVal (V d c j, .dma (φ i)) 0)
      ∗ bigSep (ownCells (V d c j) \ Finset.univ.image fun i => ((V d c j, .dma (φ i)) : GSem nD τ sig)) fun g => semVal g 0) := by
  unfold SparseCore.Cfg.ownSems0
  exact bigSep_take (f := fun i => ((V d c j, .dma (φ i)) : GSem nD τ sig))
    (fun a b e => hi (SemLoc.dma.inj (Prod.mk.inj e).2)) (fun i => mem_ownCells.mpr ⟨rfl, hs i⟩) _

/-- A family of a tile's own buffers, taken out of them. -/
theorem own_bufs (β : I → Ref sig .scVector) (hi : Function.Injective β)
    (ho : ∀ i, ((Proc.scVector c j : Proc τ).devRef (β i)).owner = .proc (.scVector c j)) :
    (ownBufs (V d c j) : sProp 𝕄) = iprop((bigSep Finset.univ fun i => iprop(∃ f, ((V d c j : Thread nD τ).loc (β i)) ↦{fullShare} f))
      ∗ bigSep (ownRefs (.scVector c j) \ Finset.univ.image fun i => (Proc.scVector c j : Proc τ).devRef (β i))
          fun b => iprop(∃ f, ((d, b) : Loc nD τ sig) ↦{fullShare} f)) := by
  unfold SparseCore.Cfg.ownBufs
  exact bigSep_take (f := fun i => (Proc.scVector c j : Proc τ).devRef (β i))
    (fun a b e => hi (Proc.devRef_injective _ e)) (fun i => SparseCore.Cfg.mem_ownRefs_of_owner (ho i)) _

/-- A whole buffer at some contents. -/
theorem some_whole (b : Ref sig .scVector) :
    (some_ (F := F) (V d c j) (Memref.whole b) : sProp 𝕄) = iprop(∃ f, ((V d c j : Thread nD τ).loc b) ↦{fullShare} f) := by
  unfold some_
  exact congrArg BI.BIBase.exists (funext fun f => owns_whole (V d c j) b fullShare f)

end Own

/-- What a tile's program of a call runs on: its buffers and its copies' semaphores. -/
def tileOwn (d : Dev nD) (c : Fin τ.nSC) (j : Fin τ.nSub) (A : Args sig) (B : PartArgs sig) : sProp 𝕄 :=
  iprop(chunkBufs d c j A ∗ some_ (V d c j) A.tbl ∗ semVal (V d c j, .dma A.semTbl.sem) 0
    ∗ (bigSep Finset.univ fun src => semVal (V d c j, .dma (A.semBlk src).sem) 0) ∗ endBufs d c j A
    ∗ some_ (V d c j) B.partV ∗ semVal (V d c j, .dma B.semPart.sem) 0)

/-- A call's semaphores. -/
def semsOf (A : Args sig) (B : PartArgs sig) : Fin 16 ⊕ Fin 5 → DmaSem sig :=
  Sum.elim (fun k => (A.semBlk k).sem) ![A.semVals.sem, A.semIds.sem, A.semTbl.sem, A.semOut.sem, B.semPart.sem]
/-- Each call's buffers. -/
def bufsOf : Fin 2 → Fin 7 → Ref sig .scVector
  | 0 => ![cc1_scratch0, cc1_scratch1, cc1_scratch2, cc1_scratch3, cc1_scratch4, cc1_scratch5, cc1_scratch6]
  | 1 => ![cc3_scratch0, cc3_scratch1, cc3_scratch2, cc3_scratch3, cc3_scratch4, cc3_scratch5, cc3_scratch6]

/-- A call's two copy semaphores are different, -/
theorem semsOf_injective : ∀ q, Function.Injective (semsOf (AA q) (BB q)) := by decide
/-- and its own. -/
theorem semsOf_scoped : ∀ q i, (SemLoc.dma (semsOf (AA q) (BB q) i) : SemLoc sig).isScoped .scVector = true := by decide
/-- A call's buffers are different, -/
theorem bufsOf_injective : ∀ q, Function.Injective (bufsOf q) := by decide
/-- and each is a tile's own. -/
theorem bufsOf_owner (c : Fin τ.nSC) (j : Fin τ.nSub) : ∀ q i, ((Proc.scVector c j : Proc τ).devRef (bufsOf q i)).owner = .proc (.scVector c j) :=
  fun q i => by match q, i with
    | 0, 0 => rfl | 0, 1 => rfl | 0, 2 => rfl | 0, 3 => rfl | 0, 4 => rfl | 0, 5 => rfl | 0, 6 => rfl
    | 1, 0 => rfl | 1, 1 => rfl | 1, 2 => rfl | 1, 3 => rfl | 1, 4 => rfl | 1, 5 => rfl | 1, 6 => rfl

/-- Five, one by one. -/
theorem bigSep_five (Φ : Fin 5 → sProp 𝕄) : bigSep Finset.univ Φ = iprop(Φ 0 ∗ Φ 1 ∗ Φ 2 ∗ Φ 3 ∗ Φ 4 ∗ emp) := by
  rw [bigSep_first, bigSep_first, bigSep_first, bigSep_first, bigSep_first, bigSep_none]; rfl
/-- Seven, one by one. -/
theorem bigSep_seven (Φ : Fin 7 → sProp 𝕄) : bigSep Finset.univ Φ = iprop(Φ 0 ∗ Φ 1 ∗ Φ 2 ∗ Φ 3 ∗ Φ 4 ∗ Φ 5 ∗ Φ 6 ∗ emp) := by
  rw [bigSep_first, bigSep_first, bigSep_first, bigSep_first, bigSep_first, bigSep_first, bigSep_first, bigSep_none]; rfl

/-- A call's buffers of a tile, each whole at some contents. -/
theorem bufs_eq (q : Fin 2) (d : Dev nD) (c : Fin τ.nSC) (j : Fin τ.nSub) :
    (bigSep Finset.univ fun i => iprop(∃ f, ((V d c j : Thread nD τ).loc (bufsOf q i)) ↦{fullShare} f) : sProp 𝕄)
      = iprop(some_ (F := F) (V d c j) (AA q).valsV ∗ some_ (F := F) (V d c j) (AA q).idsV ∗ some_ (F := F) (V d c j) (AA q).tbl
        ∗ some_ (F := F) (V d c j) (AA q).blk ∗ some_ (F := F) (V d c j) (AA q).acc ∗ some_ (F := F) (V d c j) (AA q).outV
        ∗ some_ (F := F) (V d c j) (BB q).partV ∗ emp) := by
  rw [bigSep_seven]
  match q with
  | 0 =>
    show _ = iprop(some_ (F := F) (V d c j) (Memref.whole cc1_scratch0) ∗ some_ (F := F) (V d c j) (Memref.whole cc1_scratch1)
      ∗ some_ (F := F) (V d c j) (Memref.whole cc1_scratch2) ∗ some_ (F := F) (V d c j) (Memref.whole cc1_scratch3)
      ∗ some_ (F := F) (V d c j) (Memref.whole cc1_scratch4) ∗ some_ (F := F) (V d c j) (Memref.whole cc1_scratch5)
      ∗ some_ (F := F) (V d c j) (Memref.whole cc1_scratch6) ∗ emp)
    simp only [some_whole]
    rfl
  | 1 =>
    show _ = iprop(some_ (F := F) (V d c j) (Memref.whole cc3_scratch0) ∗ some_ (F := F) (V d c j) (Memref.whole cc3_scratch1)
      ∗ some_ (F := F) (V d c j) (Memref.whole cc3_scratch2) ∗ some_ (F := F) (V d c j) (Memref.whole cc3_scratch3)
      ∗ some_ (F := F) (V d c j) (Memref.whole cc3_scratch4) ∗ some_ (F := F) (V d c j) (Memref.whole cc3_scratch5)
      ∗ some_ (F := F) (V d c j) (Memref.whole cc3_scratch6) ∗ emp)
    simp only [some_whole]
    rfl

/-- A tile's own buffers and semaphores hold what a call's program runs on, and have it back. -/
theorem own_take (q : Fin 2) (d : Dev nD) (c : Fin τ.nSC) (j : Fin τ.nSub) :
    (iprop(ownBufs (V d c j) ∗ ownSems0 (V d c j)) : sProp 𝕄)
      ⊢ iprop(tileOwn d c j (AA q) (BB q) ∗ (tileOwn d c j (AA q) (BB q) -∗ iprop(ownBufs (V d c j) ∗ ownSems0 (V d c j)))) := by
  rw [own_sems d c j (semsOf (AA q) (BB q)) (semsOf_injective q) (semsOf_scoped q), own_bufs d c j (bufsOf q) (bufsOf_injective q) (bufsOf_owner c j q),
    bufs_eq, bigSep_sum', bigSep_five]
  unfold tileOwn chunkBufs endBufs
  iintro ⟨⟨⟨H0, H1, H2, H3, H4, H5, H6, -⟩, Hb⟩, ⟨Hk, S0, S1, S2, S3, S4, -⟩, Hs⟩
  isplitl [H0 H1 H2 H3 H4 H5 H6 Hk S0 S1 S2 S3 S4]
  · isplitl [H0 H1 S0 S1]
    · isplitl [H0]; · iexact H0
      isplitl [H1]; · iexact H1
      isplitl [S0]; · iexact S0
      iexact S1
    isplitl [H2]; · iexact H2
    isplitl [S2]; · iexact S2
    isplitl [Hk]; · iexact Hk
    isplitl [H3 H4 H5 S3]
    · isplitl [H3]; · iexact H3
      isplitl [H4]; · iexact H4
      isplitl [H5]; · iexact H5
      iexact S3
    isplitl [H6]; · iexact H6
    iexact S4
  iintro ⟨⟨H0, H1, S0, S1⟩, H2, S2, Hk, ⟨H3, H4, H5, S3⟩, H6, S4⟩
  isplitl [H0 H1 H2 H3 H4 H5 H6 Hb]
  · isplitr [Hb]; swap; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    iempintro
  isplitr [Hs]; swap; · iexact Hs
  isplitl [Hk]; · iexact Hk
  isplitl [S0]; · iexact S0
  isplitl [S1]; · iexact S1
  isplitl [S2]; · iexact S2
  isplitl [S3]; · iexact S3
  isplitl [S4]; · iexact S4
  iempintro

/-! ## The barrier -/

section Tile

variable (d : Dev nD) (c : Fin τ.nSC) (w : Fin 16)

/-- A tile's row of the shared scratch is what its duties hand over: each tile the block it asks for. -/
theorem pays_intro (q : Fin 2) : (owns (tile d c w) (rowDst (AA q) w) fullShare ((C d).tables q w) : sProp 𝕄)
    ⊢ bigSep Finset.univ fun j : Fin 16 => (bRd C).payload (tcell d c j) q.val (w.castLE hs16).val := by
  refine (row_blocks d c (w.castLE hs16) (AA q) ((C d).tables q) w).trans (bigSep_mono fun j _ => ?_)
  show blkAt C q d c w j w ⊢ bPay C (tcell d c j) q.val w.val
  unfold bPay
  dsimp only
  rw [callOf_val, show (⟨w.val % 16, Nat.mod_lt _ (by decide)⟩ : Fin 16) = w from Fin.ext (Nat.mod_eq_of_lt w.isLt)]
  exact Entails.of_eq (blkAt_tile C q d c w j j w)

/-- What its own round collects is the block it asks for, of every row. -/
theorem pays_elim (q : Fin 2) : (bigSep ((bRd C).duties (tcell d c w) q.val \ ∅) fun n => (bRd C).payload (tcell d c w) q.val n)
    ⊢ (bigSep Finset.univ fun n : Fin 16 => blkAt C q d c w w n : sProp 𝕄) := by
  rw [Finset.sdiff_empty, bRd_duties, SparseCore.bigSep_image_of_injOn (fun a _ b _ e => Fin.ext e)]
  refine bigSep_mono (s := (Finset.univ : Finset (Fin 16))) fun n _ => ?_
  show bPay C (tcell d c w) q.val n.val ⊢ _
  unfold bPay
  dsimp only
  rw [callOf_val, show (⟨n.val % 16, Nat.mod_lt _ (by decide)⟩ : Fin 16) = n from Fin.ext (Nat.mod_eq_of_lt n.isLt)]
  exact BI.Entails.refl _

/-- The barrier of call `q`. -/
theorem wp_barrier (q : Fin 2) (O : CellTallies nD τ sig (HIx 2)) (W : Waits sig (HIx 2))
    (hOlev : ∀ g ι, 0 < O g ι → 8 * q.val + 6 ≤ (K (F := F)).lev g ι)
    {Q : PUnit → sProp 𝕄} {KK : PUnit → TileProg nD τ sig F Λ₀ c (w.castLE hs16)} (hn : 16 ≤ τ.nSub) :
    iprop(levAts (K (F := F)).L (K (F := F)).lev ∗ bkit C q d c (w.castLE hs16) ∗ posKit q.val d c (w.castLE hs16)
        ∗ owns (tile d c w) (rowDst (AA q) w) fullShare ((C d).tables q w) ∗ Owing (tile d c w) none (O + oxV q d c) W : sProp 𝕄)
      ⊢ iprop((iprop((bigSep Finset.univ fun n : Fin 16 => blkAt C q d c w w n) ∗ posOf (q.val + 1) d c (w.castLE hs16)
            ∗ (∃ κ : ℕ, cellInv EB (bRd C) κ (tcell d c w))
            ∗ ∃ W', ⌜∀ p ∈ W', p ∈ W ∨ p.2 = none ∨ p.2 = some q⌝ ∗ Owing (tile d c w) none O W')
          -∗ wp frame (wpE (defs₀ (F := F)) 𝒱₀ (tile d c w) none) Set.univ (KK ⟨⟩) Q)
        -∗ wp frame (wpE (defs₀ (F := F)) 𝒱₀ (tile d c w) none) Set.univ (SparseCore.subcoreBarrier sc_bar0 16 hn >>= KK : TileProg nD τ sig F Λ₀ c (w.castLE hs16)) Q) := by
  unfold bkit posKit Owing posOf
  iintro ⟨#Hlv, ⟨⟨%κ, #Hinv⟩, Htoks, Hcred⟩, ⟨Hat, #Hrch⟩, Hrow, %W', %hW', HO⟩ HK
  ihave Hpays := (pays_intro C d c w q) $$ Hrow
  iapply (SparseCore.wp_subcoreBarrier 𝒱₀ none EB (bRd C) d (sc := c) (i := w.castLE hs16) sc_bar0 16 hn w rfl κ (fun _ => q.val) (w.castLE hs16).val
      (fun j => bRd_mem C q d _ _ _) (fun _ => rfl) (bRd_expect C q d _ _) (some q) O W') $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := tile d c w) (8 * q.val + 3) (fun p hp => by
        rw [Finset.mem_singleton] at hp; subst hp
        show (K (F := F)).lev (tcell d c w) (some q) ≤ 8 * q.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hr, Hgot⟩
  iapply HK
  isplitl [Hgot]; · iapply (pays_elim C d c w q); iexact Hgot
  isplitl [Hat Hr]; · isplitl [Hat] <;> iassumption
  isplitr
  · iexists (κ (tcell d c w))
    iapply (SparseCore.ent (bigSep_elim (Φ := fun j : Fin 16 =>
      (cellInv EB (bRd C) (κ (tcell d c j)) (tcell d c j) : sProp 𝕄)) (Finset.mem_univ w)))
    iexact Hinv
  iexists (insert (SemLoc.reg sc_bar0, some q) W')
  isplitr
  · ipureintro; intro p hp
    rcases Finset.mem_insert.mp hp with hp | hp
    · exact .inr (.inr (hp ▸ rfl))
    · exact (hW' p hp).imp_right .inl
  iexists _
  isplitr
  swap; · iexact HO
  ipureintro; exact fun p hp => .inl hp

/-- A tile's run of the first call. -/
theorem tile_body0 (O : CellTallies nD τ sig (HIx 2)) (W : Waits sig (HIx 2)) (hO : ∀ g, O g none = 0)
    (hOlev : ∀ g ι, 0 < O g ι → 8 * (0 : Fin 2).val + 6 ≤ (K (F := F)).lev g ι) (hn : 16 ≤ τ.nSub) :
    iprop(levAts (K (F := F)).L (K (F := F)).lev ∗ kitAt C 0 d c (w.castLE hs16) ∗ goAt C 0 d c w
        ∗ ownBufs (tile d c w) ∗ ownSems0 (tile d c w) ∗ owes (tile d c w) (O + oxV 0 d c) W : sProp 𝕄)
      ⊢ wp frame (wpE (defs₀ (F := F)) 𝒱₀ (tile d c w) none) Set.univ (Seg.body (AA 0) w sc_bar0 hn : TileProg nD τ sig F Λ₀ c (w.castLE hs16)) fun _ => iprop(tdAt C 0 d c w ∗ ownBufs (tile d c w) ∗ ownSems0 (tile d c w)
          ∗ ∃ W', ⌜∀ p ∈ W', p ∈ W ∨ p.2 = none ∨ p.2 = some (0 : Fin 2)⌝ ∗ owes (tile d c w) O W') := by
  have hO' : ∀ g, (O + oxV 0 d c) g none = 0 := fun g => by rw [Pi.add_apply, Finsupp.add_apply, hO g, oxV_none]
  unfold kitAt goAt tdAt Seg.body
  dsimp only
  iintro ⟨#Hlv, ⟨Hkit, Hpos⟩, ⟨Hch, Hout, Hrow⟩, Hbufs, Hsems, HO⟩
  ihave Hmw1 := (show levAts (K (F := F)).L (K (F := F)).lev ⊢ Transfers.MayWaits (tile d c w) (none : HIx 2) (O + oxV 0 d c) from
    (K (F := F)).mayWaits_none (thr := tile d c w) hO') $$ Hlv
  ihave Hmw2 := (show levAts (K (F := F)).L (K (F := F)).lev ⊢ Transfers.MayWaits (tile d c w) (none : HIx 2) O from
    (K (F := F)).mayWaits_none (thr := tile d c w) hO) $$ Hlv
  ihave Hown := (own_take 0 d c (w.castLE hs16)) $$ [Hbufs Hsems]
  · isplitl [Hbufs] <;> iassumption
  unfold tileOwn
  icases Hown with ⟨⟨Hcb, Htbl, Hst, Hsb, Hend, HpV, HsP⟩, Hback⟩
  ihave Hch := (show chunkAt C 0 d c w ⊢ chunks d c (w.castLE hs16) (AA 0) w fullShare (chunkOf ((C d).s 0) w) (chunkOf ((C d).ids 0) w) from
    by unfold chunkAt; exact BI.Entails.refl _) $$ Hch
  iapply (wp_startChunks 𝒱₀ d c (w.castLE hs16) none (AA 0) w EC none) $$ [Hch Hcb]
  · isplitl [Hch] <;> iassumption
  iintro Hfl
  iapply (wp_middle 𝒱₀ d c (w.castLE hs16) none (AA 0) w EC none (O + oxV 0 d c) W ((C d).chunk_lt 0 w) sc_bar0 hn) $$ [Hfl Htbl Hrow Hst HO]
  · isplitl [Hfl]; · iexact Hfl
    isplitl [Htbl]; · iexact Htbl
    isplitl [Hrow]; · iexact Hrow
    isplitl [Hst]; · iexact Hst
    isplitl [HO]
    · unfold Owing; iexists W; isplitr
      swap; · iexact HO
      ipureintro; exact fun p hp => .inl hp
    iexact Hmw1
  iintro ⟨Hch, Hcb, Htbl, Hrow, Hst, HO⟩
  iapply (wp_barrier C d c w 0 O W hOlev hn) $$ [Hkit Hpos Hrow HO]
  · isplitr; · iexact Hlv
    isplitl [Hkit]; · iexact Hkit
    isplitl [Hpos]; · iexact Hpos
    isplitl [Hrow]; · iexact Hrow
    iexact HO
  iintro ⟨Hblk, Hpos, -, %W', %hW', HO⟩
  iapply (wp_end 𝒱₀ d c (w.castLE hs16) none (AA 0) w EC none O W' (blkVal ((C d).tables 0) w)) $$ [Hblk Hsb Hend Hout HO]
  · isplitl [Hblk Hsb]
    · unfold blocks blkAt
      isplitl [Hblk] <;> iassumption
    isplitl [Hend]; · iexact Hend
    isplitl [Hout]; · iexact Hout
    isplitl [HO]; · iexact HO
    iexact Hmw2
  unfold blocks
  iintro ⟨⟨Hblk, Hsb⟩, Hend, Hout, HO⟩
  ihave Hown := Hback $$ [Hcb Htbl Hst Hsb Hend HpV HsP]
  · isplitl [Hcb]; · iexact Hcb
    isplitl [Htbl]; · iexact Htbl
    isplitl [Hst]; · iexact Hst
    isplitl [Hsb]; · iexact Hsb
    isplitl [Hend]; · iexact Hend
    isplitl [HpV] <;> iassumption
  icases Hown with ⟨Hbufs, Hsems⟩
  isplitl [Hch Hout Hblk Hpos]
  · isplitl [Hch]; · unfold chunkAt; iexact Hch
    isplitl [Hout]
    · unfold resAt resOf Calls.res0; dsimp only; rw [partOf_wholeOf]; unfold outOf; iexact Hout
    isplitl [Hblk]; · unfold blkAt; iexact Hblk
    iexact Hpos
  isplitl [Hbufs]; · iexact Hbufs
  isplitl [Hsems]; · iexact Hsems
  unfold Owing
  icases HO with ⟨%W'', %hW'', HO⟩
  iexists W''
  isplitr
  swap; · iexact HO
  ipureintro
  intro p hp
  rcases hW'' p hp with h | h
  · exact hW' p h
  · exact .inr (.inl h)

/-- A tile's run of the second call. -/
theorem tile_body1 (O : CellTallies nD τ sig (HIx 2)) (W : Waits sig (HIx 2)) (hO : ∀ g, O g none = 0)
    (hOlev : ∀ g ι, 0 < O g ι → 8 * (1 : Fin 2).val + 6 ≤ (K (F := F)).lev g ι) (hn : 16 ≤ τ.nSub) :
    iprop(levAts (K (F := F)).L (K (F := F)).lev ∗ kitAt C 1 d c (w.castLE hs16) ∗ goAt C 1 d c w
        ∗ ownBufs (tile d c w) ∗ ownSems0 (tile d c w) ∗ owes (tile d c w) (O + oxV 1 d c) W : sProp 𝕄)
      ⊢ wp frame (wpE (defs₀ (F := F)) 𝒱₀ (tile d c w) none) Set.univ (bodyPart (AA 1) w (BB 1) sc_bar0 hn : TileProg nD τ sig F Λ₀ c (w.castLE hs16)) fun _ => iprop(tdAt C 1 d c w ∗ ownBufs (tile d c w) ∗ ownSems0 (tile d c w)
          ∗ ∃ W', ⌜∀ p ∈ W', p ∈ W ∨ p.2 = none ∨ p.2 = some (1 : Fin 2)⌝ ∗ owes (tile d c w) O W') := by
  have hO' : ∀ g, (O + oxV 1 d c) g none = 0 := fun g => by rw [Pi.add_apply, Finsupp.add_apply, hO g, oxV_none]
  unfold kitAt goAt tdAt bodyPart
  dsimp only
  iintro ⟨#Hlv, Hkit, ⟨Hch, Hout, Hrow, Hpart, Hpos⟩, Hbufs, Hsems, HO⟩
  ihave #Hmw1 := (show levAts (K (F := F)).L (K (F := F)).lev ⊢ Transfers.MayWaits (tile d c w) (none : HIx 2) (O + oxV 1 d c) from
    (K (F := F)).mayWaits_none (thr := tile d c w) hO') $$ Hlv
  ihave Hmw2 := (show levAts (K (F := F)).L (K (F := F)).lev ⊢ Transfers.MayWaits (tile d c w) (none : HIx 2) O from
    (K (F := F)).mayWaits_none (thr := tile d c w) hO) $$ Hlv
  ihave Hown := (own_take 1 d c (w.castLE hs16)) $$ [Hbufs Hsems]
  · isplitl [Hbufs] <;> iassumption
  unfold tileOwn
  icases Hown with ⟨⟨Hcb, Htbl, Hst, Hsb, Hend, HpV, HsP⟩, Hback⟩
  ihave Hch := (show chunkAt C 1 d c w ⊢ chunks d c (w.castLE hs16) (AA 1) w fullShare (chunkOf ((C d).s 1) w) (chunkOf ((C d).ids 1) w) from
    by unfold chunkAt; exact BI.Entails.refl _) $$ Hch
  iapply (wp_startChunks 𝒱₀ d c (w.castLE hs16) none (AA 1) w EC none) $$ [Hch Hcb]
  · isplitl [Hch] <;> iassumption
  iintro Hfl
  unfold partAt
  iapply (wp_copyPart 𝒱₀ d c (w.castLE hs16) none w EC none (O + oxV 1 d c) W (BB 1)) $$ [Hpart HpV HsP HO]
  · isplitl [Hpart]; · iexact Hpart
    isplitl [HpV]; · iexact HpV
    isplitl [HsP]; · iexact HsP
    isplitl [HO]
    · unfold Owing; iexists W; isplitr
      swap; · iexact HO
      ipureintro; exact fun p hp => .inl hp
    iexact Hmw1
  iintro ⟨Hpart, HpV, HsP, HO⟩
  iapply (wp_middle 𝒱₀ d c (w.castLE hs16) none (AA 1) w EC none (O + oxV 1 d c) W ((C d).chunk_lt 1 w) sc_bar0 hn) $$ [Hfl Htbl Hrow Hst HO]
  · isplitl [Hfl]; · iexact Hfl
    isplitl [Htbl]; · iexact Htbl
    isplitl [Hrow]; · iexact Hrow
    isplitl [Hst]; · iexact Hst
    isplitl [HO]; · iexact HO
    iexact Hmw1
  iintro ⟨Hch, Hcb, Htbl, Hrow, Hst, HO⟩
  iapply (wp_barrier C d c w 1 O W hOlev hn) $$ [Hkit Hpos Hrow HO]
  · isplitr; · iexact Hlv
    isplitl [Hkit]; · iexact Hkit
    isplitl [Hpos]; · iexact Hpos
    isplitl [Hrow]; · iexact Hrow
    iexact HO
  iintro ⟨Hblk, Hpos, ⟨%κ, #Hinv⟩, %W', %hW', HO⟩
  unfold posOf
  icases Hpos with ⟨Hat, -⟩
  imod (Rounds.cell_close EB (bRd C) (g := tcell d c w) (Set.mem_univ κ) (fun h => h) (bRd_duties_end C _)) $$ [Hat] with Hbar
  · isplitr; · iexact Hinv
    iexact Hat
  iapply (wp_endPart 𝒱₀ d c (w.castLE hs16) none (AA 1) w EC none O W' (BB 1) (blkVal ((C d).tables 1) w)) $$ [Hblk Hsb Hend Hout HpV HO]
  · isplitl [Hblk Hsb]
    · unfold blocks blkAt
      isplitl [Hblk] <;> iassumption
    isplitl [Hend]; · iexact Hend
    isplitl [HpV]; · iexact HpV
    isplitl [Hout]; · iexact Hout
    isplitl [HO]; · iexact HO
    iexact Hmw2
  unfold blocks
  iintro ⟨⟨Hblk, Hsb⟩, Hend, HpV, Hout, HO⟩
  ihave Hown := Hback $$ [Hcb Htbl Hst Hsb Hend HpV HsP]
  · isplitl [Hcb]; · iexact Hcb
    isplitl [Htbl]; · iexact Htbl
    isplitl [Hst]; · iexact Hst
    isplitl [Hsb]; · iexact Hsb
    isplitl [Hend]; · iexact Hend
    isplitl [HpV] <;> iassumption
  icases Hown with ⟨Hbufs, Hsems⟩
  isplitl [Hch Hout Hblk Hpart Hbar]
  · isplitl [Hch]; · unfold chunkAt; iexact Hch
    isplitl [Hout]
    · unfold resAt resOf Calls.res1; dsimp only; rw [partOf_wholeOf]; unfold outOf; iexact Hout
    isplitl [Hblk]; · unfold blkAt; iexact Hblk
    isplitl [Hpart] <;> iassumption
  isplitl [Hbufs]; · iexact Hbufs
  isplitl [Hsems]; · iexact Hsems
  unfold Owing
  icases HO with ⟨%W'', %hW'', HO⟩
  iexists W''
  isplitr
  swap; · iexact HO
  ipureintro
  intro p hp
  rcases hW'' p hp with h | h
  · exact hW' p h
  · exact .inr (.inl h)

end Tile

end Cert.KernelIdeal.Run

end
-- ==== Proof.KernelIdealSplit.lean ====
module
public import proofs.«01_k».proof.Proof.KernelIdealTask

@[expose] public section

/-! # The calls' obligations

Each call's tile program is the one its label runs; and what a call takes splits among its tiles, and is
joined again from what they bring back. -/

noncomputable section

namespace Cert.KernelIdeal.Run

open Cert.KernelIdeal Cert.KernelIdeal.Gen Seg
open Facts₀ Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (C : Dev nD → Calls F)

local notation "𝕄" => MT nD τ sig (HIx 2) (Elt F) ℕ UU ℕ

/-! ## The tiles' obligations -/

/-- A tile's coordinates in the first call's grid, -/
def coords1 (c : Fin (grid1.bound 0)) (s : Fin (grid1.bound 1)) : grid1.Coords :=
  fun | 0 => c | 1 => s | ⟨_ + 2, h⟩ => absurd h (Nat.not_lt.2 (Nat.le_add_left _ _))
/-- and in the second's. -/
def coords3 (c : Fin (grid3.bound 0)) (s : Fin (grid3.bound 1)) : grid3.Coords :=
  fun | 0 => c | 1 => s | ⟨_ + 2, h⟩ => absurd h (Nat.not_lt.2 (Nat.le_add_left _ _))

/-- What the first call's label runs on a tile. -/
theorem defs₀_tile0 (c : Fin τ.nSC) (hc : c.val < 1) (w : Fin 16) :
    defs₀ (F := F) (.scVector c (w.castLE hs16)) 1 () = (Seg.body (AA 0) w sc_bar0 hs16 : TileProg nD τ sig F Λ₀ c (w.castLE hs16)) := by
  have h : c.val < grid1.bound 0 ∧ (w.castLE hs16).val < grid1.bound 1 := ⟨hc, w.isLt⟩
  unfold defs₀
  simp only [SparseCore.onTile, h, and_self, ↓reduceDIte]
  exact cc1_body_eq (F := F) (coords1 ⟨c.val, h.1⟩ ⟨w.val, h.2⟩) A1 (Memref.whole cc1_scratch6) (Memref.isWhole_whole _) (Memref.isWhole_whole _)
    (Memref.isWhole_whole _) (Memref.isWhole_whole _) (Memref.isWhole_whole _)

/-- What the second call's label runs on a tile. -/
theorem defs₀_tile1 (c : Fin τ.nSC) (hc : c.val < 1) (w : Fin 16) :
    defs₀ (F := F) (.scVector c (w.castLE hs16)) 3 () = (Seg.bodyPart (AA 1) w (BB 1) sc_bar0 hs16 : TileProg nD τ sig F Λ₀ c (w.castLE hs16)) := by
  have h : c.val < grid3.bound 0 ∧ (w.castLE hs16).val < grid3.bound 1 := ⟨hc, w.isLt⟩
  unfold defs₀
  simp only [SparseCore.onTile, h, and_self, ↓reduceDIte]
  exact cc3_body_eq (F := F) (coords3 ⟨c.val, h.1⟩ ⟨w.val, h.2⟩) A3 B3 (Memref.isWhole_whole _) (Memref.isWhole_whole _)
    (Memref.isWhole_whole _) (Memref.isWhole_whole _) (Memref.isWhole_whole _)

/-- A tile's run of the first call, as the launch asks for it. -/
theorem tileObl0 (hF : (K (F := F)).Facts) : (K (F := F)).TileObl (D (F := F)) 𝒱 (P C) v₀ 0 := by
  intro d c i O W hO hOlev _
  have hc : ((K (F := F)).core 0 c).val < 1 := c.isLt
  rw [show (P C).ox 0 (V d ((K (F := F)).core 0 c) ((K (F := F)).sub 0 i)) = oxV 0 d ((K (F := F)).core 0 c) from if_pos hc,
    show (P C).x 0 (V d ((K (F := F)).core 0 c) ((K (F := F)).sub 0 i)) = kitAt C 0 d ((K (F := F)).core 0 c) ((K (F := F)).sub 0 i) from if_pos hc]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [show (defs₀ (F := F) (.scVector ((K (F := F)).core 0 c) ((K (F := F)).sub 0 i)) 1 ()) = _ from
      defs₀_tile0 ((K (F := F)).core 0 c) hc (Fin.cast (nS 0) i),
    (K (F := F)).scopedBufs_V hF, SparseCore.Cfg.scopedSems0_V (Val := Elt F)]
  exact tile_body0 C d ((K (F := F)).core 0 c) (Fin.cast (nS 0) i) O W hO hOlev hs16

/-- A tile's run of the second call. -/
theorem tileObl1 (hF : (K (F := F)).Facts) : (K (F := F)).TileObl (D (F := F)) 𝒱 (P C) v₀ 1 := by
  intro d c i O W hO hOlev _
  have hc : ((K (F := F)).core 1 c).val < 1 := c.isLt
  rw [show (P C).ox 1 (V d ((K (F := F)).core 1 c) ((K (F := F)).sub 1 i)) = oxV 1 d ((K (F := F)).core 1 c) from if_pos hc,
    show (P C).x 1 (V d ((K (F := F)).core 1 c) ((K (F := F)).sub 1 i)) = kitAt C 1 d ((K (F := F)).core 1 c) ((K (F := F)).sub 1 i) from if_pos hc]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [show (defs₀ (F := F) (.scVector ((K (F := F)).core 1 c) ((K (F := F)).sub 1 i)) 3 ()) = _ from
      defs₀_tile1 ((K (F := F)).core 1 c) hc (Fin.cast (nS 1) i),
    (K (F := F)).scopedBufs_V hF, SparseCore.Cfg.scopedSems0_V (Val := Elt F)]
  exact tile_body1 C d ((K (F := F)).core 1 c) (Fin.cast (nS 1) i) O W hO hOlev hs16

/-! ## What a call takes, split among its tiles, and joined -/

section Split

variable (q : Fin 2) (d : Dev nD) (c : Fin τ.nSC)

/-- The summands and segment numbers of a call are the tiles' chunks, -/
theorem chunks_out : (iprop(owns (tile d c 0) (AA q).vals fullShare ((C d).s q) ∗ owns (tile d c 0) (AA q).ids fullShare ((C d).ids q)) : sProp 𝕄)
    ⊢ bigSep Finset.univ fun w : Fin 16 => chunkAt C q d c w := by
  refine (BI.BIClass.sep_mono (chunks_split (tile d c 0) fullShare (AA q).vals ((C d).s q)) (chunks_split (tile d c 0) fullShare (AA q).ids ((C d).ids q))).trans ?_
  rw [← bigSep_sep']
  exact bigSep_mono fun w _ => by
    unfold chunkAt chunks
    match q with
    | 0 => exact BI.Entails.refl _
    | 1 => exact BI.Entails.refl _
/-- and the chunks them. -/
theorem chunks_in : (bigSep Finset.univ fun w : Fin 16 => chunkAt C q d c w)
    ⊢ (iprop(owns (tile d c 0) (AA q).vals fullShare ((C d).s q) ∗ owns (tile d c 0) (AA q).ids fullShare ((C d).ids q)) : sProp 𝕄) := by
  refine BI.Entails.trans ?_ (BI.BIClass.sep_mono (chunks_join (tile d c 0) fullShare (AA q).vals ((C d).s q)) (chunks_join (tile d c 0) fullShare (AA q).ids ((C d).ids q)))
  rw [← bigSep_sep']
  exact bigSep_mono fun w _ => by
    unfold chunkAt chunks
    match q with
    | 0 => exact BI.Entails.refl _
    | 1 => exact BI.Entails.refl _

/-- The result's place is the tiles' parts of it, -/
theorem outs_out : (some_ (F := F) (tile d c 0) (AA q).out : sProp 𝕄) ⊢ bigSep Finset.univ fun w : Fin 16 => some_ (F := F) (tile d c w) (outDst (AA q) w) := by
  unfold some_
  iintro ⟨%X, H⟩
  have key : (owns (tile d c 0) (AA q).out fullShare X : sProp 𝕄)
      ⊢ bigSep Finset.univ fun w : Fin 16 => iprop(∃ Y, owns (tile d c w) (outDst (AA q) w) fullShare Y) :=
    (parts_split (tile d c 0) fullShare (AA q).out X).trans (bigSep_mono fun w _ => by
      match q with
      | 0 => exact BI.BIClass.exists_intro (Φ := fun Y => (owns (tile d c w) (outDst (AA 0) w) fullShare Y : sProp 𝕄)) (partOf X w)
      | 1 => exact BI.BIClass.exists_intro (Φ := fun Y => (owns (tile d c w) (outDst (AA 1) w) fullShare Y : sProp 𝕄)) (partOf X w))
  iapply key
  iexact H
/-- and the parts of the result it. -/
theorem outs_in : (bigSep Finset.univ fun w : Fin 16 => resAt C q d c w) ⊢ (owns (tile d c 0) (AA q).out fullShare (resOf C q d) : sProp 𝕄) := by
  refine BI.Entails.trans ?_ (parts_join (tile d c 0) fullShare (AA q).out (resOf C q d))
  exact bigSep_mono fun w _ => by
    unfold resAt
    match q with
    | 0 => exact BI.Entails.refl _
    | 1 => exact BI.Entails.refl _

/-- The partial sums are the tiles' parts of them, -/
theorem part_out : (owns (tile d c 0) (BB 1).part fullShare (C d).res0 : sProp 𝕄) ⊢ bigSep Finset.univ fun w : Fin 16 => partAt C d c w := by
  refine (parts_split (tile d c 0) fullShare (BB 1).part (C d).res0).trans (bigSep_mono fun w _ => ?_)
  unfold partAt
  exact BI.Entails.refl _
/-- and the parts them. -/
theorem part_in : (bigSep Finset.univ fun w : Fin 16 => partAt C d c w) ⊢ (owns (tile d c 0) (BB 1).part fullShare (C d).res0 : sProp 𝕄) := by
  refine BI.Entails.trans (bigSep_mono fun w _ => ?_) (parts_join (tile d c 0) fullShare (BB 1).part (C d).res0)
  unfold partAt
  exact BI.Entails.refl _

/-- The shared scratch is the tiles' rows, -/
theorem rows_out : (some_ (F := F) (tile d c 0) (AA q).shared : sProp 𝕄) ⊢ bigSep Finset.univ fun w : Fin 16 => some_ (F := F) (tile d c w) (rowDst (AA q) w) := by
  refine (rows_split d c ((0 : Fin 16).castLE hs16) (AA q)).trans (bigSep_mono fun w _ => ?_)
  match q with
  | 0 => exact BI.Entails.refl _
  | 1 => exact BI.Entails.refl _
/-- and the tiles' blocks of all rows it. -/
theorem rows_in : (bigSep Finset.univ fun w : Fin 16 => bigSep Finset.univ fun n : Fin 16 => blkAt C q d c w w n) ⊢ (some_ (F := F) (tile d c 0) (AA q).shared : sProp 𝕄) := by
  refine BI.Entails.trans ?_ (blocks_join d c ((0 : Fin 16).castLE hs16) (AA q) (fun w n => blkVal ((C d).tables q) w n))
  exact bigSep_mono fun w _ => bigSep_mono fun n _ => by
    rw [blkAt_tile C q d c w 0 w n]
    unfold blkAt
    exact BI.Entails.refl _

/-- A SparseCore's shared scratch of call `q`. -/
def shRef : Fin 2 → DevRef τ sig
  | 0 => ⟨.shared, ⟨0, by decide⟩, c⟩
  | 1 => ⟨.shared, ⟨1, by decide⟩, c⟩

/-- The shared scratch is among the sequencer's own buffers. -/
theorem ownBufs_S : (ownBufs (S d c) : sProp 𝕄)
    = iprop(some_ (F := F) (tile d c 0) (AA q).shared
      ∗ bigSep ((ownRefs (τ := τ) (.scScalar c)).erase (shRef c q)) fun b => iprop(∃ f, ((d, b) : Loc nD τ sig) ↦{fullShare} f)) := by
  unfold SparseCore.Cfg.ownBufs
  have h : shRef c q ∈ ownRefs (τ := τ) (sig := sig) (.scScalar c) := (mem_ownRefs (p := Proc.scScalar c) (b := shRef c q)).mpr (by
    match q with
    | 0 => rfl
    | 1 => rfl)
  refine (SparseCore.bigSep_erase' h).trans ?_
  congr 1
  match q with
  | 0 => exact (some_whole (F := F) d c _ cc1_scratch7).symm
  | 1 => exact (some_whole (F := F) d c _ cc3_scratch7).symm

end Split

/-- A family over a call's tiles is one over sixteen. -/
theorem bigSep_tasks (q : Fin 2) (Φ : Fin 16 → sProp 𝕄) :
    (bigSep Finset.univ fun i : Fin ((K (F := F)).nSub q) => Φ (Fin.cast (nS q) i)) = bigSep Finset.univ Φ :=
  match q with
  | 0 => bigSep_congr fun _ _ => congrArg Φ (Fin.ext rfl)
  | 1 => bigSep_congr fun _ _ => congrArg Φ (Fin.ext rfl)

/-- Whole arrays of the main memory, as a tile addresses them, are the TensorCore's. -/
theorem full_vals (q : Fin 2) (d : Dev nD) (c : Fin τ.nSC) :
    (owns (tile d c 0) (AA q).vals fullShare ((C d).s q) : sProp 𝕄) = match q with
      | 0 => full d main_v3 ((C d).s 0)
      | 1 => full d main_v9 ((C d).s 1) :=
  match q with
  | 0 => owns_whole (tile d c 0) main_v3_scv fullShare ((C d).s 0)
  | 1 => owns_whole (tile d c 0) main_v9_scv fullShare ((C d).s 1)
/-- The ids of a call, as a tile names them, are @main's array; -/
theorem full_ids (q : Fin 2) (d : Dev nD) (c : Fin τ.nSC) :
    (owns (tile d c 0) (AA q).ids fullShare ((C d).ids q) : sProp 𝕄) = match q with
      | 0 => full d main_v4 ((C d).ids 0)
      | 1 => full d main_v10 ((C d).ids 1) :=
  match q with
  | 0 => owns_whole (tile d c 0) main_v4_scv fullShare ((C d).ids 0)
  | 1 => owns_whole (tile d c 0) main_v10_scv fullShare ((C d).ids 1)
/-- so is the call's result, -/
theorem full_out (q : Fin 2) (d : Dev nD) (c : Fin τ.nSC) :
    (owns (tile d c 0) (AA q).out fullShare (resOf C q d) : sProp 𝕄) = match q with
      | 0 => full d main_v5 (C d).res0
      | 1 => full d main_v11 (C d).res1 :=
  match q with
  | 0 => owns_whole (tile d c 0) main_v5_scv fullShare (C d).res0
  | 1 => owns_whole (tile d c 0) main_v11_scv fullShare (C d).res1
/-- whatever it holds; -/
theorem any_out (q : Fin 2) (d : Dev nD) (c : Fin τ.nSC) :
    (some_ (F := F) (tile d c 0) (AA q).out : sProp 𝕄) = match q with
      | 0 => any (F := F) d main_v5
      | 1 => any (F := F) d main_v11 :=
  match q with
  | 0 => some_whole (F := F) d c _ main_v5_scv
  | 1 => some_whole (F := F) d c _ main_v11_scv
/-- and the second call's first sums are the first call's result. -/
theorem full_part (d : Dev nD) (c : Fin τ.nSC) :
    (owns (tile d c 0) (BB 1).part fullShare (C d).res0 : sProp 𝕄) = full d main_v5 (C d).res0 :=
  owns_whole (tile d c 0) main_v5_scv fullShare (C d).res0

/-- The places in the rounds the tiles brought back from the first barrier, dealt to them all for the second. -/
theorem pos_deal (d : Dev nD) (c : Fin τ.nSC) :
    (bigSep Finset.univ fun w : Fin 16 => posOf (F := F) 1 d c (w.castLE hs16)) ⊢ (bigSep Finset.univ fun w : Fin 16 => posKit (F := F) 1 d c (w.castLE hs16) : sProp 𝕄) := by
  unfold posOf posKit
  rw [bigSep_sep', bigSep_sep']
  iintro ⟨Ha, #Hr⟩
  isplitl [Ha]; · iexact Ha
  iapply (SparseCore.ent (bigSep_intro_persistent (S := (Finset.univ : Finset (Fin 16)))
    (h := fun _ _ => BI.Entails.refl (bigSep Finset.univ fun j : Fin 16 => reached (EB : Emb UB 𝕄) (tcell d c j) 1))))
  iexact Hr

/-- The first call's operands split among the tiles, and what the tiles leave joins to its result. -/
theorem vecSplit0 : (K (F := F)).VecSplit (P C) 0 := by
  intro d c
  show iprop(stAt C 0 d ((K (F := F)).core 0 c) ∗ ownBufs (S d ((K (F := F)).core 0 c))) ⊢ |={Set.univ}=> iprop(
      (bigSep Finset.univ fun i : Fin ((K (F := F)).nSub 0) => goAt C 0 d ((K (F := F)).core 0 c) (Fin.cast (nS 0) i))
      ∗ ((bigSep Finset.univ fun i : Fin ((K (F := F)).nSub 0) => tdAt C 0 d ((K (F := F)).core 0 c) (Fin.cast (nS 0) i))
        -∗ iprop(dnAt C 0 d ((K (F := F)).core 0 c) ∗ ownBufs (S d ((K (F := F)).core 0 c)))))
  generalize (K (F := F)).core 0 c = c'
  rw [bigSep_tasks 0 fun w => goAt C 0 d c' w, bigSep_tasks 0 fun w => tdAt C 0 d c' w, ownBufs_S 0]
  unfold stAt goAt tdAt dnAt
  dsimp only
  simp only [bigSep_sep']
  iintro ⟨⟨Hv, Hi, Ho⟩, Hsh, Hrest⟩; imodintro
  isplitl [Hv Hi Ho Hsh]
  · isplitl [Hv Hi]
    · iapply (chunks_out C 0 d c')
      isplitl [Hv]
      · iapply (Entails.of_eq (full_vals C 0 d c').symm); iexact Hv
      · iapply (Entails.of_eq (full_ids C 0 d c').symm); iexact Hi
    isplitl [Ho]
    · iapply (outs_out (F := F) 0 d c')
      iapply (Entails.of_eq (any_out (F := F) 0 d c').symm); iexact Ho
    iapply (rows_out (F := F) 0 d c'); iexact Hsh
  iintro ⟨Hch, Hres, Hblk, Hpos⟩
  isplitl [Hch Hres Hpos]
  · ihave Hch := (chunks_in C 0 d c') $$ Hch
    icases Hch with ⟨Hv, Hi⟩
    isplitl [Hv]; · iapply (Entails.of_eq (full_vals C 0 d c')); iexact Hv
    isplitl [Hi]; · iapply (Entails.of_eq (full_ids C 0 d c')); iexact Hi
    isplitl [Hres]
    · iapply (Entails.of_eq (full_out C 0 d c')); iapply (outs_in C 0 d c'); iexact Hres
    iexact Hpos
  isplitl [Hblk]; · iapply (rows_in C 0 d c'); iexact Hblk
  iexact Hrest

/-- The same of the second call. -/
theorem vecSplit1 : (K (F := F)).VecSplit (P C) 1 := by
  intro d c
  show iprop(stAt C 1 d ((K (F := F)).core 1 c) ∗ ownBufs (S d ((K (F := F)).core 1 c))) ⊢ |={Set.univ}=> iprop(
      (bigSep Finset.univ fun i : Fin ((K (F := F)).nSub 1) => goAt C 1 d ((K (F := F)).core 1 c) (Fin.cast (nS 1) i))
      ∗ ((bigSep Finset.univ fun i : Fin ((K (F := F)).nSub 1) => tdAt C 1 d ((K (F := F)).core 1 c) (Fin.cast (nS 1) i))
        -∗ iprop(dnAt C 1 d ((K (F := F)).core 1 c) ∗ ownBufs (S d ((K (F := F)).core 1 c)))))
  generalize (K (F := F)).core 1 c = c'
  rw [bigSep_tasks 1 fun w => goAt C 1 d c' w, bigSep_tasks 1 fun w => tdAt C 1 d c' w, ownBufs_S 1]
  unfold stAt goAt tdAt dnAt
  dsimp only
  simp only [bigSep_sep']
  iintro ⟨⟨Hv, Hi, Ho, Hp, Hpos⟩, Hsh, Hrest⟩; imodintro
  isplitl [Hv Hi Ho Hp Hpos Hsh]
  · isplitl [Hv Hi]
    · iapply (chunks_out C 1 d c')
      isplitl [Hv]
      · iapply (Entails.of_eq (full_vals C 1 d c').symm); iexact Hv
      · iapply (Entails.of_eq (full_ids C 1 d c').symm); iexact Hi
    isplitl [Ho]
    · iapply (outs_out (F := F) 1 d c')
      iapply (Entails.of_eq (any_out (F := F) 1 d c').symm); iexact Ho
    isplitl [Hsh]; · iapply (rows_out (F := F) 1 d c'); iexact Hsh
    isplitl [Hp]
    · iapply (part_out C d c')
      iapply (Entails.of_eq (full_part C d c').symm); iexact Hp
    iapply (pos_deal (F := F) d c'); iexact Hpos
  iintro ⟨Hch, Hres, Hblk, Hp, Hbar⟩
  isplitl [Hch Hres Hp Hbar]
  · ihave Hch := (chunks_in C 1 d c') $$ Hch
    icases Hch with ⟨Hv, Hi⟩
    isplitl [Hv]; · iapply (Entails.of_eq (full_vals C 1 d c')); iexact Hv
    isplitl [Hi]; · iapply (Entails.of_eq (full_ids C 1 d c')); iexact Hi
    isplitl [Hres]
    · iapply (Entails.of_eq (full_out C 1 d c')); iapply (outs_in C 1 d c'); iexact Hres
    isplitl [Hp]
    · iapply (Entails.of_eq (full_part C d c')); iapply (part_in C d c'); iexact Hp
    iexact Hbar
  isplitl [Hblk]; · iapply (rows_in C 1 d c'); iexact Hblk
  iexact Hrest

end Cert.KernelIdeal.Run

end
-- ==== Proof.KernelIdealGhost.lean ====
module
public import proofs.«01_k».proof.Proof.KernelIdealSplit

@[expose] public section

/-! # What the launch hands the tiles

The barrier cells are taken out of the free semaphores at the launch, their invariants made at once, and
each tile is dealt its kit for the barriers of both calls. -/

noncomputable section

namespace Cert.KernelIdeal.Run

open Cert.KernelIdeal Cert.KernelIdeal.Gen Seg
open Facts₀ Facts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (C : Dev nD → Calls F)

local notation "𝕄" => MT nD τ sig (HIx 2) (Elt F) ℕ UU ℕ

abbrev DCI : Type := Dev nD × Fin τ.nSC × Fin τ.nSub
abbrev bcell₃ (x : DCI) : GSem nD τ sig := bcell x.1 x.2.1 x.2.2

/-- The tiles of the calls' grids: those of SparseCore 0. -/
abbrev tiles : Finset DCI := Finset.univ.filter fun x => x.2.1.val < 1
/-- A tile of the first SparseCore of a device is among the tiles. -/
theorem mem_tiles (d : Dev nD) {c : Fin τ.nSC} (hc : c.val < 1) (i : Fin τ.nSub) : ((d, c, i) : DCI) ∈ tiles :=
  Finset.mem_filter.mpr ⟨Finset.mem_univ _, hc⟩
/-- Their barrier cells, taken at the launch. -/
def bCells : Finset (GSem nD τ sig) := tiles.image bcell₃
/-- Each tile's duties: in every tile's cell, in either call's round. -/
def bToks : Finset (GSem nD τ sig × ℕ × ℕ) :=
  (tiles ×ˢ Finset.univ).image fun x : DCI × (Fin 2 × Fin 16) => (tcell x.1.1 x.1.2.1 x.2.2, x.2.1.val, x.1.2.2.val)
/-- The launch's element of the user algebra. -/
def u₀ : UU := (initOf (K (F := F)).hsCells (K (F := F)).hsToks, (initOf bCells bToks,
  (initOf (Pipeline.cells (pins (F := F)) pins_inj) (Pipeline.launchToks (pins (F := F)) pins_inj), 1)))

/-- Different tiles have different barrier cells. -/
theorem bcell₃_injective : Function.Injective (bcell₃ : DCI → GSem nD τ sig) := fun a b e => by
  obtain ⟨h1, h2⟩ := Prod.mk.inj (Prod.mk.inj e).1
  obtain ⟨h3, h4⟩ := Proc.scVector.inj h2
  exact Prod.ext h1 (Prod.ext h3 h4)

/-- The launch's ghost state splits in the handshakes', the barriers' and the TensorCore calls' parts. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own (((Emb.inr : Emb (UB × (UP × Counters)) UU).trans
        (uEmb (nD := nD) (sig := sig) (Ix := HIx 2) (Val := Elt F) (Name := ℕ) (U := UU) (Lvl := ℕ)).toEmb) (b, (p, 1)))) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (p, (1 : Counters))))))
  have h2 : (BI.own (((Emb.inr : Emb (UB × (UP × Counters)) UU).trans
        (uEmb (nD := nD) (sig := sig) (Ix := HIx 2) (Val := Elt F) (Name := ℕ) (U := UU) (Lvl := ℕ)).toEmb) (b, (p, 1))) : sProp 𝕄)
      ⊢ iprop(BI.own (EB b) ∗ BI.own (EP p)) :=
    BI.own_op_elim (((Emb.inr : Emb (UB × (UP × Counters)) UU).trans
      (uEmb (nD := nD) (sig := sig) (Ix := HIx 2) (Val := Elt F) (Name := ℕ) (U := UU) (Lvl := ℕ)).toEmb).op_of_mem
      (Prod.mk_mem_op (URA.mem_op_one b) (URA.mem_one_op (p, (1 : Counters)))))
  iintro H
  ihave H := h1 $$ H
  icases H with ⟨HH, H⟩
  ihave H := h2 $$ H
  isplitl [HH]; · iexact HH
  iexact H

/-- The TensorCore calls' cells, dealt to each device. -/
theorem tcGhosts : BI.own (EP (initOf (Pipeline.cells (pins (F := F)) pins_inj) (Pipeline.launchToks (pins (F := F)) pins_inj)))
    ⊢ iprop(|==> (bigSep Finset.univ fun d : Dev nD => iprop(tcGhost 0 d ∗ tcGhost 1 d)) : sProp 𝕄) := by
  have h : (iprop((bigSep Finset.univ fun c : Dev nD => bigSep Finset.univ fun p => Pipeline.cellsGhost (pins (F := F)) EP p c)
      ∗ (bigSep Finset.univ fun c : Dev nD => bigSep Finset.univ fun p => Pipeline.toksInit (pins (F := F)) EP p c)) : sProp 𝕄)
      = bigSep Finset.univ fun d : Dev nD => iprop(tcGhost 0 d ∗ tcGhost 1 d) := by
    rw [← bigSep_sep']
    refine bigSep_congr fun d _ => ?_
    rw [← bigSep_sep', bigSep_univ_two]
    rfl
  iintro H
  imod (Pipeline.fund_ghost (pins (F := F)) EP pins_inj) $$ H with H
  imodintro
  iapply (SparseCore.ent (Entails.of_eq h))
  iexact H

/-- A family over the barrier cells is one over the tiles. -/
theorem bCells_eq (Φ : GSem nD τ sig → sProp 𝕄) : bigSep bCells Φ = bigSep tiles fun x : DCI => Φ (bcell₃ x) := by
  unfold bCells; exact SparseCore.bigSep_image_of_injOn (fun a _ b _ e => bcell₃_injective e) Φ

/-- Every barrier semaphore at zero, out of the free semaphores. -/
theorem sems_b : ((K (F := F)).freeOn (· ∈ bCells) : sProp 𝕄) ⊢ bigSep bCells fun g => semVal g 0 := by
  rw [bCells_eq]
  unfold SparseCore.Cfg.freeOn
  rw [bigSep_filter]
  refine sep_elim_right.trans (bigSep_mono fun x _ => ?_)
  split
  · next hc =>
    exact bigSep_elim (Φ := fun sm : SemLoc sig => (semVal (V x.1 x.2.1 x.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (mem_tiles x.1 hc x.2.2)⟩)
  · exact fun _ _ => trivial

/-- The barrier cells' invariants, made at once. -/
theorem invs_b : iprop((bigSep bCells fun g => (semVal g 0 : sProp 𝕄)) ∗ bigSep bCells fun g => roundState EB (bRd C) g 0)
    ⊢ |={Set.univ}=> iprop(∃ κ : GSem nD τ sig → ℕ, bigSep bCells fun g => cellInv EB (bRd C) (κ g) g) := by
  refine (Rounds.bodies_intro EB (bRd C) bCells).trans ((inv_alloc_family bCells (Rounds.body EB (bRd C)) ∅ (E := Set.univ)).trans ?_)
  iintro H
  imod H with ⟨%κ, -, Hinv⟩
  imodintro; iexists κ; iexact Hinv

/-- `n` tallies of one are a tally of `n`. -/
theorem sum_tallyAt_one (g : GSem nD τ sig) (ι : HIx 2) (n : ℕ) : ∑ _ : Fin n, tallyAt g ι 1 = (tallyAt g ι n : CellTallies nD τ sig (HIx 2)) := by
  induction n with
  | zero => rw [tallyAt_zero]; rfl
  | succ n ih => rw [Fin.sum_univ_castSucc, ih, tallyAt_add]

/-- The credit of each tile for its own rounds. -/
abbrev myCred (x : DCI) : sProp 𝕄 := iprop(cred (tallyAt (bcell₃ x) (some 0) 16) ∗ cred (tallyAt (bcell₃ x) (some 1) 16))

/-- The units one SparseCore's tiles owe for call `q`'s barrier, regrouped by the cell they are owed on. -/
theorem creds_q (q : Fin 2) (d : Dev nD) (c : Fin τ.nSC) :
    (bigSep Finset.univ fun _ : Fin τ.nSub => (cred (oxV q d c) : sProp 𝕄)) ⊢ bigSep Finset.univ fun j : Fin τ.nSub => cred (tallyAt (bcell d c j) (some q) 16) := by
  unfold oxV
  rw [SparseCore.Cfg.cred_finsum, bigSep_univ_comm]
  refine bigSep_mono (s := (Finset.univ : Finset (Fin 16))) fun j _ => ?_
  rw [← SparseCore.Cfg.cred_finsum, sum_tallyAt_one]; exact BI.Entails.refl _

/-- What a tile owes from the launch: its arrivals at both barriers. -/
theorem oxFrom_V (d : Dev nD) (c : Fin τ.nSC) (i : Fin τ.nSub) (hc : c.val < 1) : (P C).oxFrom 0 (V d c i) = oxV 0 d c + oxV 1 d c := by
  rw [show (0 : ℕ) = (0 : Fin 2).val from rfl, (P C).oxFrom_step, show (0 : Fin 2).val + 1 = (1 : Fin 2).val from rfl, (P C).oxFrom_step,
    (P C).oxFrom_end _ (n := (1 : Fin 2).val + 1) le_rfl, add_zero]
  exact congrArg₂ (· + ·) (if_pos hc) (if_pos hc)

/-- The credit for the tiles' debts, dealt to the tiles. -/
theorem creds_b : ((P C).oxCred : sProp 𝕄) ⊢ bigSep tiles fun x : DCI => myCred x := by
  rw [bigSep_filter]
  unfold SparseCore.Cfg.Pay.oxCred
  rw [SparseCore.Cfg.bigSep_threads (fun thr : Thread nD τ => (cred ((P C).oxFrom 0 thr) : sProp 𝕄))]
  refine sep_elim_right.trans (sep_elim_right.trans ?_)
  rw [bigSep_univ_prod, bigSep_univ_prod (fun x : DCI => if x.2.1.val < 1 then (myCred x : sProp 𝕄) else BI.emp)]
  refine bigSep_mono fun d _ => ?_
  rw [bigSep_univ_prod, bigSep_univ_prod (fun ci : Fin τ.nSC × Fin τ.nSub => if ci.1.val < 1 then (myCred (d, ci) : sProp 𝕄) else BI.emp)]
  refine bigSep_mono fun c _ => ?_
  dsimp only
  by_cases hc : c.val < 1
  · simp only [hc, ↓reduceIte, oxFrom_V C d c _ hc, SparseCore.Cfg.cred_add_eq]
    rw [bigSep_sep', bigSep_sep']
    exact BI.BIClass.sep_mono (creds_q 0 d c) (creds_q 1 d c)
  · simp only [hc, ↓reduceIte]
    exact bigSep_mono fun _ _ => fun _ _ => trivial

/-- A persistent resource beside a conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  refine BI.Entails.trans ?_ (bigSep_mono h)
  rw [bigSep_sep']
  exact BI.BIClass.sep_mono (bigSep_intro_persistent (h := fun _ _ => BI.Entails.refl _)) (BI.Entails.refl _)

/-- A tile's duties for both barriers. -/
abbrev myToks (x : DCI) : sProp 𝕄 :=
  iprop((bigSep Finset.univ fun j : Fin 16 => dutyTok EB (tcell x.1 x.2.1 j) (0 : Fin 2).val x.2.2.val)
    ∗ bigSep Finset.univ fun j : Fin 16 => dutyTok EB (tcell x.1 x.2.1 j) (1 : Fin 2).val x.2.2.val)

/-- All the barriers' duty tokens, handed out tile by tile. -/
theorem toks_eq : (bigSep bToks fun x => (dutyTok EB x.1 x.2.1 x.2.2 : sProp 𝕄)) = bigSep tiles fun x : DCI => myToks (F := F) x := by
  unfold bToks
  rw [SparseCore.bigSep_image_of_injOn, SparseCore.bigSep_product]
  · refine bigSep_congr fun x _ => ?_
    rw [bigSep_univ_prod, bigSep_univ_two]
  rintro ⟨⟨d, c, i⟩, q, j⟩ - ⟨⟨d', c', i'⟩, q', j'⟩ - e
  have e1 := (Prod.mk.inj (Prod.mk.inj e).1).1
  have eq : q = q' := Fin.ext (Prod.mk.inj (Prod.mk.inj e).2).1
  have ei : i = i' := Fin.ext (Prod.mk.inj (Prod.mk.inj e).2).2
  obtain ⟨rfl, h⟩ := Prod.mk.inj e1
  obtain ⟨rfl, hj⟩ := Proc.scVector.inj h
  have ej : j = j' := Fin.ext (congrArg Fin.val hj)
  subst eq ei ej
  rfl

/-- What every tile is handed alike: every barrier cell's invariant, and that each has reached its first round. -/
abbrev alike : sProp 𝕄 :=
  iprop((∃ κ : GSem nD τ sig → ℕ, bigSep tiles fun x : DCI => cellInv EB (bRd C) (κ (bcell₃ x)) (bcell₃ x))
    ∗ bigSep tiles fun x : DCI => reached EB (bcell₃ x) 0)
/-- What each is handed of its own: its place, its duties, its credit. -/
abbrev mine (x : DCI) : sProp 𝕄 := iprop(atPos EB (bcell₃ x) 0 ∅ 0 ∗ myToks x ∗ myCred x)

/-- Of a family over all tiles' cells, the ones of one SparseCore. -/
theorem tiles_core (Φ : GSem nD τ sig → sProp 𝕄) [∀ g, BI.Persistent (Φ g)] (d : Dev nD) (c : Fin τ.nSC) (hc : c.val < 1) :
    (bigSep tiles fun x : DCI => Φ (bcell₃ x)) ⊢ bigSep Finset.univ fun j : Fin 16 => Φ (tcell d c j) :=
  bigSep_intro_persistent (h := fun j _ => bigSep_elim (Φ := fun x : DCI => Φ (bcell₃ x)) (mem_tiles d hc (j.castLE hs16)))

/-- One tile's kits for both calls. -/
theorem kit_intro (x : DCI) (h : x ∈ tiles) :
    iprop(alike C ∗ mine x) ⊢ (iprop(kitAt C 0 x.1 x.2.1 x.2.2 ∗ kitAt C 1 x.1 x.2.1 x.2.2) : sProp 𝕄) := by
  obtain ⟨d, c, i⟩ := x
  have hc : c.val < 1 := (Finset.mem_filter.mp h).2
  unfold kitAt bkit posKit
  dsimp only
  iintro ⟨⟨⟨%κ, #Hinv⟩, #Hr⟩, Hat, ⟨Ht0, Ht1⟩, Hc0, Hc1⟩
  ihave #Hi := (tiles_core (fun g => (cellInv EB (bRd C) (κ g) g : sProp 𝕄)) d c hc) $$ Hinv
  ihave #Hre := (tiles_core (fun g => (reached EB g 0 : sProp 𝕄)) d c hc) $$ Hr
  isplitl [Hat Ht0 Hc0]
  · isplitl [Ht0 Hc0]
    · isplitr; · iexists κ; iexact Hi
      isplitl [Ht0] <;> iassumption
    isplitl [Hat]; · iexact Hat
    iexact Hre
  isplitr; · iexists κ; iexact Hi
  isplitl [Ht1] <;> iassumption

/-- The TensorCore gets nothing extra at the launch, -/
theorem Px_T (d : Dev nD) : (bigSep Finset.univ fun q : Fin 2 => (P C).x q (SparseCore.T d)) = iprop(emp) := bigSep_emp' _
/-- nor does a sequencer; -/
theorem Px_S (d : Dev nD) (c : Fin τ.nSC) : (bigSep Finset.univ fun q : Fin 2 => (P C).x q (S d c)) = iprop(emp) := bigSep_emp' _
/-- a tile gets its two barriers' state. -/
theorem Px_V (d : Dev nD) (c : Fin τ.nSC) (i : Fin τ.nSub) :
    (bigSep Finset.univ fun q : Fin 2 => (P C).x q (V d c i)) = if c.val < 1 then iprop(kitAt C 0 d c i ∗ kitAt C 1 d c i) else iprop(emp) := by
  rw [bigSep_univ_two]
  show iprop((if c.val < 1 then kitAt C 0 d c i else iprop(emp)) ∗ (if c.val < 1 then kitAt C 1 d c i else iprop(emp))) = _
  split
  · rfl
  · exact equiv_iff.mp BI.emp_sep

/-- Each tile its kits. -/
theorem kits_deal :
    iprop(alike C ∗ (bigSep tiles fun x : DCI => atPos EB (bcell₃ x) 0 ∅ 0) ∗ (bigSep tiles fun x : DCI => myToks x) ∗ (bigSep tiles fun x : DCI => myCred x))
      ⊢ (bigSep Finset.univ fun thr : Thread nD τ => bigSep Finset.univ fun q : Fin 2 => (P C).x q thr : sProp 𝕄) := by
  rw [SparseCore.Cfg.bigSep_threads (fun thr : Thread nD τ => bigSep Finset.univ fun q : Fin 2 => (P C).x q thr)]
  simp only [Px_T, Px_S, Px_V, bigSep_emp']
  have hm : (bigSep tiles fun x : DCI => (mine (F := F) x : sProp 𝕄))
      = iprop((bigSep tiles fun x : DCI => atPos EB (bcell₃ x) 0 ∅ 0) ∗ (bigSep tiles fun x : DCI => myToks x) ∗ (bigSep tiles fun x : DCI => myCred x)) := by
    unfold mine; rw [bigSep_sep', bigSep_sep' _ (fun x : DCI => myToks (F := F) x)]
  iintro ⟨#Hsh, Hat, Htok, Hcred⟩
  isplitr; · iempintro
  isplitr; · iempintro
  iapply (SparseCore.ent (Entails.of_eq (bigSep_filter Finset.univ (fun x : DCI => x.2.1.val < 1) fun x =>
    iprop(kitAt C 0 x.1 x.2.1 x.2.2 ∗ kitAt C 1 x.1 x.2.1 x.2.2))))
  iapply (bigSep_mono_frame (R := alike C) (Φ := mine (F := F)) fun x h => kit_intro C x h)
  isplitr; · iexact Hsh
  iapply (SparseCore.ent (Entails.of_eq hm.symm))
  isplitl [Hat]; · iexact Hat
  isplitl [Htok]; · iexact Htok
  iexact Hcred

/-- The launch: the handshakes' element, the TensorCore calls' cells, and every tile's kits. -/
theorem hu₀ :
    iprop(ownU (u₀ (F := F)) ∗ (P C).oxCred ∗ (K (F := F)).freeOn (· ∈ bCells))
    ⊢ |={Set.univ}=> iprop(BI.own (EH (initOf (K (F := F)).hsCells (K (F := F)).hsToks)) ∗ (bigSep Finset.univ fun d : Dev nD => iprop(tcGhost 0 d ∗ tcGhost 1 d))
        ∗ (bigSep Finset.univ fun thr : Thread nD τ => bigSep Finset.univ fun q : Fin 2 => (P C).x q thr) : sProp 𝕄) := by
  unfold u₀
  iintro ⟨Hu, Hcred, Hfree⟩
  ihave H := (ownU_split _ _ _) $$ Hu
  icases H with ⟨HH, HB, HP⟩
  imod (Rounds.fund EB (bRd C) bCells bToks) $$ HB with ⟨Hst, #Hr, Hat, Htok⟩
  imod (tcGhosts (F := F)) $$ HP with HP
  ihave Hsems := (sems_b (F := F)) $$ Hfree
  imod (invs_b C) $$ [Hsems Hst] with ⟨%κ, #Hinv⟩
  · isplitl [Hsems] <;> iassumption
  ihave Hcred' := (creds_b C) $$ Hcred
  ihave Hinv' := (Entails.of_eq (bCells_eq (F := F) fun g => cellInv EB (bRd C) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HP]; · iexact HP
  iapply (kits_deal C)
  isplitr
  · isplitl; · iexists κ; iexact Hinv'
    iexact Hr'
  isplitl [Hat']; · iexact Hat'
  isplitl [Htok']; · iexact Htok'
  iexact Hcred'

end Cert.KernelIdeal.Run

end
-- ==== Proof.KernelIdealMain.lean ====
module
public import proofs.«01_k».proof.Proof.KernelIdealRegion
public import proofs.«01_k».proof.Proof.KernelIdealSplit
public import proofs.«01_k».proof.Proof.KernelIdealGhost

@[expose] public section

/-! # The whole program

The TensorCore slices the rows in two halves, computes each half's summands, and starts a SparseCore call on
each; the second call begins from the first one's sums. Every run ends, the arguments unchanged, every semaphore
zero, and the result holding what the second call's tiles leave. -/

noncomputable section

namespace Cert.KernelIdeal.Run

open Cert.KernelIdeal Cert.KernelIdeal.Gen Seg

open Idealize.ShloMosaic
open Idealize.ShloMosaic.SparseCore (S V T)
open Idealize.ShloMosaic.SparseCore.Cfg (HIx Pay WBelow)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## What the calls are given -/

/-- The summands of the first half's rows, -/
def sums0 (x : Vec F S320000x128 .f32) (w : Vec F S128x1 .f32) (b : Vec F S1 .f32) : Vec F S160000 .f32 :=
  shapeCast S160000 (matvec (extractStridedSlice S160000x128 ![0, 0] x slices_S320000x128_S160000x128_0_0) w (shapeCast S1x1 b shapeCasts_S1_S1x1))
    shapeCasts_S5x1x32000_S160000
/-- and of the second's. -/
def sums1 (x : Vec F S320000x128 .f32) (w : Vec F S128x1 .f32) (b : Vec F S1 .f32) : Vec F S160000 .f32 :=
  shapeCast S160000 (matvec (extractStridedSlice S160000x128 ![160000, 0] x slices_S320000x128_S160000x128_160000_0) w (shapeCast S1x1 b shapeCasts_S1_S1x1))
    shapeCasts_S5x1x32000_S160000
/-- The segment numbers of the first half's rows, -/
def ids0 (n : Vec F S320000 .i32) : Vec F S160000 .i32 := extractStridedSlice S160000 ![0] n slices_S320000_S160000_0
/-- and of the second's. -/
def ids1 (n : Vec F S320000 .i32) : Vec F S160000 .i32 := extractStridedSlice S160000 ![160000] n slices_S320000_S160000_160000

/-- The two calls on the program's arguments. -/
def callsOf (x : Vec F S320000x128 .f32) (n : Vec F S320000 .i32) (w : Vec F S128x1 .f32) (b : Vec F S1 .f32)
    (h : ∀ i, (n i : BitVec 32).toNat < 512) : Calls F where
  s q := match q with | 0 => sums0 x w b | 1 => sums1 x w b
  ids q := match q with | 0 => ids0 n | 1 => ids1 n
  hid q i := match q with | 0 => h _ | 1 => h _

/-! ## A host operation of one operand -/

/-- An operation that reads one array and writes another leaves the one and gives the other its value. -/
theorem op_wp (V₀ : Valuation τ sig (Elt F)) (d : Dev nD) (op : HloOp τ sig (Elt F)) (x y : Ref sig .tc)
    (hb : op.bufs = {(Proc.devRef .tc x : DevRef τ sig), Proc.devRef .tc y}) (hw : op.writes = {(Proc.devRef .tc y : DevRef τ sig)})
    (hf : op.fresh = ∅) (hne : (Proc.devRef .tc x : DevRef τ sig) ≠ Proc.devRef .tc y)
    (v : Buf (Elt F) ((T d : Thread nD τ).loc x)) (o r : Buf (Elt F) ((T d : Thread nD τ).loc y))
    (hr : ∀ V : Valuation τ sig (Elt F), V (Proc.devRef .tc x) = v → op.result V (Proc.devRef .tc y) = r) (Φ : PUnit → sProp 𝕄) :
    iprop(boundary (T d) ∗ full d x v ∗ full d y o ∗ (iprop(boundary (T d) ∗ full d x v ∗ full d y r) -∗ Φ ⟨⟩))
    ⊢ wp frame (wpE ((K (F := F)).defs D) 𝒱 (T d) none) Set.univ (hlo rfl op fun _ => .ret ⟨⟩) Φ := by
  obtain ⟨W, hx, hy⟩ : ∃ W : Valuation τ sig (Elt F), W (Proc.devRef .tc x) = v ∧ W (Proc.devRef .tc y) = o :=
    ⟨Function.update (Function.update V₀ (Proc.devRef .tc x) v) (Proc.devRef .tc y) o,
      (Function.update_of_ne hne _ _).trans (Function.update_self _ _ _), Function.update_self _ _ _⟩
  have held2 : ∀ U : Valuation τ sig (Elt F), (held (T d) {(Proc.devRef .tc x : DevRef τ sig), Proc.devRef .tc y} U : sProp 𝕄)
      = iprop(full d x (U (Proc.devRef .tc x)) ∗ full d y (U (Proc.devRef .tc y))) := by
    intro U
    unfold held
    rw [SparseCore.bigSep_insert' (by rw [Finset.mem_singleton]; exact hne), bigSep_singleton]
  have h1 : (held (T d) {(Proc.devRef .tc x : DevRef τ sig), Proc.devRef .tc y} W : sProp 𝕄) = iprop(full d x v ∗ full d y o) := by
    rw [held2, hx, hy]
  have h2 : (held (T d) {(Proc.devRef .tc x : DevRef τ sig), Proc.devRef .tc y} (op.result W) : sProp 𝕄) = iprop(full d x v ∗ full d y r) := by
    rw [held2, op.result_of_not_mem W (by rw [hw, Finset.mem_singleton]; exact hne), hx, hr W hx]
  iintro ⟨Hb, Hx, Hy, Hk⟩
  iapply (StableHlo.wp_hlo_within 𝒱 (T d) none Set.univ (op := op) (S := {(Proc.devRef .tc x : DevRef τ sig), Proc.devRef .tc y}) (hb ▸ Finset.Subset.refl _) (V := W) hf) $$ [Hb Hx Hy]
  · isplitl [Hb]; · iexact Hb
    iapply (SparseCore.ent (Entails.of_eq h1.symm))
    isplitl [Hx] <;> iassumption
  iintro ⟨Hb, Hh⟩
  ihave Hh := (SparseCore.ent (Entails.of_eq h2)) $$ Hh
  icases Hh with ⟨Hx, Hy⟩
  iapply (SparseCore.ent (le_wp_ret _ _ _ (⟨⟩ : PUnit) Φ))
  iapply Hk
  isplitl [Hb]; · iexact Hb
  isplitl [Hx] <;> iassumption

/-- A function of one array. -/
theorem unary_wp (V₀ : Valuation τ sig (Elt F)) (d : Dev nD) (x y : Ref sig .tc) (g : x.ty.Contents (Elt F) → y.ty.Contents (Elt F)) (hx hy)
    (hne : (Proc.devRef .tc x : DevRef τ sig) ≠ Proc.devRef .tc y) (v : x.ty.Contents (Elt F)) (o r : y.ty.Contents (Elt F)) (hr : g v = r) (Φ : PUnit → sProp 𝕄) :
    iprop(boundary (T d) ∗ full d x v ∗ full d y o ∗ (iprop(boundary (T d) ∗ full d x v ∗ full d y r) -∗ Φ ⟨⟩))
    ⊢ wp frame (wpE ((K (F := F)).defs D) 𝒱 (T d) none) Set.univ (hlo rfl (StableHlo.unary x y g hx hy) fun _ => .ret ⟨⟩) Φ :=
  op_wp V₀ d _ x y rfl rfl rfl hne v o r (fun V h => (StableHlo.unary_result x y g hx hy V).trans ((congrArg g h).trans hr)) Φ

/-- The same numbers, in another shape. -/
theorem reshape_wp (V₀ : Valuation τ sig (Elt F)) (d : Dev nD) (x y : Ref sig .tc) (he : x.ty.elt = y.ty.elt) (hn : x.ty.shape.ShapeCasts y.ty.shape) (hx hy)
    (hne : (Proc.devRef .tc x : DevRef τ sig) ≠ Proc.devRef .tc y) (v : x.ty.Contents (Elt F)) (o r : y.ty.Contents (Elt F))
    (hr : (fun i => he ▸ shapeCast y.ty.shape v hn i : y.ty.Contents (Elt F)) = r) (Φ : PUnit → sProp 𝕄) :
    iprop(boundary (T d) ∗ full d x v ∗ full d y o
      ∗ (iprop(boundary (T d) ∗ full d x v ∗ full d y r) -∗ Φ ⟨⟩))
    ⊢ wp frame (wpE ((K (F := F)).defs D) 𝒱 (T d) none) Set.univ (hlo rfl (StableHlo.reshape x y he hn hx hy) fun _ => .ret ⟨⟩) Φ :=
  op_wp V₀ d _ x y rfl rfl rfl hne v o r (fun V h => (StableHlo.reshape_result x y he hn hx hy V).trans (by rw [show V _ = v from h]; exact hr)) Φ

/-! ## @main on the TensorCore -/

/-- The TensorCore's sixteen arrays. -/
theorem unscopedBufs_eq (d : Dev nD) (W : (b : Ref sig .tc) → Buf (Elt F) ((d.tc : Thread nD τ).loc b)) :
    (unscopedBufs d W : sProp 𝕄)
      = iprop(full d main_arg0 (W main_arg0) ∗ full d main_arg1 (W main_arg1) ∗ full d main_arg2 (W main_arg2) ∗ full d main_arg3 (W main_arg3)
          ∗ full d main_v0 (W main_v0) ∗ full d main_v1 (W main_v1) ∗ full d main_v2 (W main_v2) ∗ full d main_v3 (W main_v3)
          ∗ full d main_v4 (W main_v4) ∗ full d main_v5 (W main_v5) ∗ full d main_v6 (W main_v6) ∗ full d main_v7 (W main_v7)
          ∗ full d main_v8 (W main_v8) ∗ full d main_v9 (W main_v9) ∗ full d main_v10 (W main_v10) ∗ full d main_v11 (W main_v11)) := by
  unfold unscopedBufs
  rw [show (Finset.univ.filter fun b : Ref sig .tc => ¬ b.isScoped)
      = {main_arg0, main_arg1, main_arg2, main_arg3, main_v0, main_v1, main_v2, main_v3, main_v4, main_v5, main_v6, main_v7, main_v8, main_v9, main_v10, main_v11} by decide]
  iterate 15 refine (SparseCore.bigSep_insert' (by decide)).trans (congrArg (fun A : sProp 𝕄 => iprop(_ ∗ A)) ?_)
  exact bigSep_singleton

/-- Every tile's barrier cell at zero. -/
def zeros (d : Dev nD) : sProp 𝕄 := bigSep Finset.univ fun w : Fin 16 => semVal (tcell d ((K (F := F)).core 1 0) w) 0

/-- What the TensorCore ends with. -/
def FIN (C : Dev nD → Calls F) (m : (ℓ : Loc nD τ sig) → Buf (Elt F) ℓ) (d : Dev nD) : sProp 𝕄 :=
  iprop(full d main_arg0 (m ((T d : Thread nD τ).loc main_arg0)) ∗ full d main_arg1 (m ((T d : Thread nD τ).loc main_arg1)) ∗ full d main_arg2 (m ((T d : Thread nD τ).loc main_arg2))
    ∗ full d main_arg3 (m ((T d : Thread nD τ).loc main_arg3)) ∗ full d main_v11 (C d).res1 ∗ zeros d)

variable (C : Dev nD → Calls F)

/-- What a call's start hands over, all of it to its one SparseCore. -/
theorem st_eq (d : Dev nD) (q : Fin 2) : (bigSep Finset.univ fun c : Fin ((K (F := F)).nCore q) => (P C).st q d c)
    = stAt C q d ((K (F := F)).core q ⟨0, by rw [nC]; decide⟩) :=
  match q with
  | 0 => bigSep_univ_of_subsingleton (0 : Fin 1)
  | 1 => bigSep_univ_of_subsingleton (0 : Fin 1)
/-- What a call's end hands back. -/
theorem dn_eq (d : Dev nD) (q : Fin 2) : (bigSep Finset.univ fun c : Fin ((K (F := F)).nCore q) => (P C).dn q d c)
    = dnAt C q d ((K (F := F)).core q ⟨0, by rw [nC]; decide⟩) :=
  match q with
  | 0 => bigSep_univ_of_subsingleton (0 : Fin 1)
  | 1 => bigSep_univ_of_subsingleton (0 : Fin 1)

/-- What the first call brings back, -/
theorem dn0 (d : Dev nD) : (bigSep Finset.univ fun c : Fin ((K (F := F)).nCore 0) => (P C).dn 0 d c)
    = iprop(full d main_v3 ((C d).s 0) ∗ full d main_v4 ((C d).ids 0) ∗ full d main_v5 (C d).res0
      ∗ bigSep Finset.univ fun w : Fin 16 => posOf 1 d ((K (F := F)).core 1 0) (w.castLE hs16)) := dn_eq C d 0
/-- and the second. -/
theorem dn1 (d : Dev nD) : (bigSep Finset.univ fun c : Fin ((K (F := F)).nCore 1) => (P C).dn 1 d c)
    = iprop(full d main_v9 ((C d).s 1) ∗ full d main_v10 ((C d).ids 1) ∗ full d main_v11 (C d).res1 ∗ full d main_v5 (C d).res0
      ∗ zeros (F := F) d) := dn_eq C d 1

/-- What the handshakes keep besides what is owed. -/
theorem tcSt_owes (d : Dev nD) (n : ℕ) :
    ∃ R : sProp 𝕄, (K (F := F)).tcSt EH d n = iprop(tcOwes (F := F) d n ∗ R) := ⟨_, rfl⟩

variable (m : (ℓ : Loc nD τ sig) → Buf (Elt F) ℓ) (ρ : Dev nD → PrngReg)
  (hm : ∀ (d : Dev nD) (i : S320000.Idx), (m ((SparseCore.T d : Thread nD τ).loc main_arg1) i : BitVec 32).toNat < 512)

/-- The calls on the arguments in memory. -/
def CC (d : Dev nD) : Calls F :=
  callsOf (m ((SparseCore.T d : Thread nD τ).loc main_arg0)) (m ((SparseCore.T d : Thread nD τ).loc main_arg1))
    (m ((SparseCore.T d : Thread nD τ).loc main_arg2)) (m ((SparseCore.T d : Thread nD τ).loc main_arg3)) (hm d)

/-- The host's program, one operation after the other. -/
theorem hmain (κ : GSem nD τ sig → ℕ) (d : Dev nD) :
    iprop((K (F := F)).ctx EH (P (CC m hm)) κ ∗ (K (F := F)).tcSt EH d 0 ∗ (K (F := F)).tcRes m ρ d ∗ (tcGhost 0 d ∗ tcGhost 1 d))
      ⊢ wp frame (wpE ((K (F := F)).defs D) 𝒱 (T d) none) Set.univ (main (F := F) d)
          fun _ => iprop((K (F := F)).tcSt EH d 2 ∗ FIN (CC m hm) m d ∗ (K (F := F)).tcEnd d) := by
  obtain ⟨R0, hR0⟩ := tcSt_owes (F := F) d 0
  obtain ⟨R1, hR1⟩ := tcSt_owes (F := F) d 1
  have hR1' : (K (F := F)).tcSt EH d ((0 : Fin 2).val + 1) = iprop(tcOwes (F := F) d 1 ∗ R1) := hR1
  have hR1'' : (K (F := F)).tcSt EH d (1 : Fin 2).val = iprop(tcOwes (F := F) d 1 ∗ R1) := hR1
  have h2 : ((K (F := F)).tcSt EH d ((1 : Fin 2).val + 1) : sProp 𝕄) = (K (F := F)).tcSt EH d 2 := rfl
  have hlev := (K (F := F)).ctx_levAts (EH := EH) (P := P (CC m hm)) (lv := (K (F := F)).lev) κ
  unfold SparseCore.Cfg.tcRes SparseCore.Cfg.tcEnd
  rw [unscopedBufs_eq]
  simp only [main, wp_bind, wp_pure]
  iintro ⟨#Hctx, Hst, ⟨Hb, ⟨A0, A1, A2, A3, V0, V1, V2, V3, V4, V5, V6, V7, V8, V9, V10, V11⟩, Hs0, Hr⟩, G0, G1⟩
  ihave #Hlev := hlev $$ Hctx
  -- the first half's rows and the bias
  iapply (unary_wp (fun b => m (d, b)) d main_arg0 main_v0 _ _ _ (by decide) (m ((SparseCore.T d : Thread nD τ).loc main_arg0)) _ (extractStridedSlice S160000x128 ![0, 0] (m ((SparseCore.T d : Thread nD τ).loc main_arg0)) slices_S320000x128_S160000x128_0_0) rfl _)
  isplitl [Hb]; · iexact Hb
  isplitl [A0]; · iexact A0
  isplitl [V0]; · iexact V0
  iintro ⟨Hb, A0, V0⟩
  iapply (reshape_wp (fun b => m (d, b)) d main_arg3 main_v1 _ _ _ _ (by decide) (m ((SparseCore.T d : Thread nD τ).loc main_arg3)) _ (shapeCast S1x1 (m ((SparseCore.T d : Thread nD τ).loc main_arg3)) shapeCasts_S1_S1x1) rfl _)
  isplitl [Hb]; · iexact Hb
  isplitl [A3]; · iexact A3
  isplitl [V1]; · iexact V1
  iintro ⟨Hb, A3, V1⟩
  -- their summands
  ihave Hst := (SparseCore.ent (Entails.of_eq hR0)) $$ Hst
  icases Hst with ⟨HO, HR⟩
  iapply (call0_wp (fun b => m ((SparseCore.T (0 : Dev nD) : Thread nD τ).loc b)) d
    (extractStridedSlice S160000x128 ![0, 0] (m ((SparseCore.T d : Thread nD τ).loc main_arg0)) slices_S320000x128_S160000x128_0_0)
    (m ((SparseCore.T d : Thread nD τ).loc main_arg2)) (shapeCast S1x1 (m ((SparseCore.T d : Thread nD τ).loc main_arg3)) shapeCasts_S1_S1x1) _ _)
  isplitr [Hb V0 A2 V1 V2 Hr HO G0]
  swap
  · isplitl [Hb]; · iexact Hb
    isplitl [V0 A2 V1 V2 Hr HO]
    · isplitl [V0]; · iexact V0
      isplitl [A2]; · iexact A2
      isplitl [V1]; · iexact V1
      isplitl [V2]; · iexact V2
      isplitl [Hr]; · iexists _; iexact Hr
      iexact HO
    isplitr; · iexact Hlev
    iexact G0
  iintro ⟨Hb, V0, A2, V1, V2, Hr, HO⟩
  ihave Hst := (SparseCore.ent (Entails.of_eq hR0.symm)) $$ [HO HR]
  · isplitl [HO] <;> iassumption
  iapply (reshape_wp (fun b => m (d, b)) d main_v2 main_v3 _ _ _ _ (by decide) (matvec
    (extractStridedSlice S160000x128 ![0, 0] (m ((SparseCore.T d : Thread nD τ).loc main_arg0)) slices_S320000x128_S160000x128_0_0)
    (m ((SparseCore.T d : Thread nD τ).loc main_arg2)) (shapeCast S1x1 (m ((SparseCore.T d : Thread nD τ).loc main_arg3)) shapeCasts_S1_S1x1)) _ ((CC m hm d).s 0) rfl _)
  isplitl [Hb]; · iexact Hb
  isplitl [V2]; · iexact V2
  isplitl [V3]; · iexact V3
  iintro ⟨Hb, V2, V3⟩
  iapply (unary_wp (fun b => m (d, b)) d main_arg1 main_v4 _ _ _ (by decide) (m ((SparseCore.T d : Thread nD τ).loc main_arg1)) _ ((CC m hm d).ids 0) rfl _)
  isplitl [Hb]; · iexact Hb
  isplitl [A1]; · iexact A1
  isplitl [V4]; · iexact V4
  iintro ⟨Hb, A1, V4⟩
  -- the first SparseCore call
  iapply ((K (F := F)).wp_run D 𝒱 (EH := EH) (P := P (CC m hm)) κ d 0)
  isplitr; · iexact Hctx
  isplitl [Hst]; · iexact Hst
  isplitl [V3 V4 V5]
  · iapply (SparseCore.ent (Entails.of_eq (st_eq (CC m hm) d 0).symm))
    unfold stAt; dsimp only
    isplitl [V3]; · iexact V3
    isplitl [V4]; · iexact V4
    iexists _; iexact V5
  iintro ⟨Hst, Hdn⟩
  ihave Hdn := (SparseCore.ent (Entails.of_eq (dn0 (CC m hm) d))) $$ Hdn
  icases Hdn with ⟨V3, V4, V5, Hpos⟩
  -- the second half's rows and the bias
  iapply (unary_wp (fun b => m (d, b)) d main_arg0 main_v6 _ _ _ (by decide) (m ((SparseCore.T d : Thread nD τ).loc main_arg0)) _ (extractStridedSlice S160000x128 ![160000, 0] (m ((SparseCore.T d : Thread nD τ).loc main_arg0)) slices_S320000x128_S160000x128_160000_0) rfl _)
  isplitl [Hb]; · iexact Hb
  isplitl [A0]; · iexact A0
  isplitl [V6]; · iexact V6
  iintro ⟨Hb, A0, V6⟩
  iapply (reshape_wp (fun b => m (d, b)) d main_arg3 main_v7 _ _ _ _ (by decide) (m ((SparseCore.T d : Thread nD τ).loc main_arg3)) _ (shapeCast S1x1 (m ((SparseCore.T d : Thread nD τ).loc main_arg3)) shapeCasts_S1_S1x1) rfl _)
  isplitl [Hb]; · iexact Hb
  isplitl [A3]; · iexact A3
  isplitl [V7]; · iexact V7
  iintro ⟨Hb, A3, V7⟩
  -- their summands
  ihave Hst := (SparseCore.ent (Entails.of_eq hR1')) $$ Hst
  icases Hst with ⟨HO, HR⟩
  iapply (call2_wp (fun b => m ((SparseCore.T (0 : Dev nD) : Thread nD τ).loc b)) d
    (extractStridedSlice S160000x128 ![160000, 0] (m ((SparseCore.T d : Thread nD τ).loc main_arg0)) slices_S320000x128_S160000x128_160000_0)
    (m ((SparseCore.T d : Thread nD τ).loc main_arg2)) (shapeCast S1x1 (m ((SparseCore.T d : Thread nD τ).loc main_arg3)) shapeCasts_S1_S1x1) _ _)
  isplitr [Hb V6 A2 V7 V8 Hr HO G1]
  swap
  · isplitl [Hb]; · iexact Hb
    isplitl [V6 A2 V7 V8 Hr HO]
    · isplitl [V6]; · iexact V6
      isplitl [A2]; · iexact A2
      isplitl [V7]; · iexact V7
      isplitl [V8]; · iexact V8
      isplitl [Hr]; · iexact Hr
      iexact HO
    isplitr; · iexact Hlev
    iexact G1
  iintro ⟨Hb, V6, A2, V7, V8, Hr, HO⟩
  ihave Hst := (SparseCore.ent (Entails.of_eq hR1''.symm)) $$ [HO HR]
  · isplitl [HO] <;> iassumption
  iapply (reshape_wp (fun b => m (d, b)) d main_v8 main_v9 _ _ _ _ (by decide) (matvec
    (extractStridedSlice S160000x128 ![160000, 0] (m ((SparseCore.T d : Thread nD τ).loc main_arg0)) slices_S320000x128_S160000x128_160000_0)
    (m ((SparseCore.T d : Thread nD τ).loc main_arg2)) (shapeCast S1x1 (m ((SparseCore.T d : Thread nD τ).loc main_arg3)) shapeCasts_S1_S1x1)) _ ((CC m hm d).s 1) rfl _)
  isplitl [Hb]; · iexact Hb
  isplitl [V8]; · iexact V8
  isplitl [V9]; · iexact V9
  iintro ⟨Hb, V8, V9⟩
  iapply (unary_wp (fun b => m (d, b)) d main_arg1 main_v10 _ _ _ (by decide) (m ((SparseCore.T d : Thread nD τ).loc main_arg1)) _ ((CC m hm d).ids 1) rfl _)
  isplitl [Hb]; · iexact Hb
  isplitl [A1]; · iexact A1
  isplitl [V10]; · iexact V10
  iintro ⟨Hb, A1, V10⟩
  -- the second SparseCore call
  iapply ((K (F := F)).wp_run D 𝒱 (EH := EH) (P := P (CC m hm)) κ d 1)
  isplitr; · iexact Hctx
  isplitl [Hst]; · iexact Hst
  isplitl [V9 V10 V11 V5 Hpos]
  · iapply (SparseCore.ent (Entails.of_eq (st_eq (CC m hm) d 1).symm))
    unfold stAt; dsimp only
    isplitl [V9]; · iexact V9
    isplitl [V10]; · iexact V10
    isplitl [V11]; · iexists _; iexact V11
    isplitl [V5]; · iexact V5
    iexact Hpos
  iintro ⟨Hst, Hdn⟩
  ihave Hdn := (SparseCore.ent (Entails.of_eq (dn1 (CC m hm) d))) $$ Hdn
  icases Hdn with ⟨V9, V10, V11, V5, Hz⟩
  ihave Hst := (SparseCore.ent (Entails.of_eq h2)) $$ Hst
  imodintro
  isplitl [Hst]; · iexact Hst
  isplitl [A0 A1 A2 A3 V11 Hz]
  · unfold FIN
    isplitl [A0]; · iexact A0
    isplitl [A1]; · iexact A1
    isplitl [A2]; · iexact A2
    isplitl [A3]; · iexact A3
    isplitl [V11]; · iexact V11
    iexact Hz
  isplitl [Hb] <;> iassumption

/-! ## The final state -/

/-- An array held whole is read off the state. -/
theorem read_full (d : Dev nD) (b : Ref sig .tc) (f : Buf (Elt F) ((SparseCore.T d : Thread nD τ).loc b)) (s' : Phys nD τ sig (Elt F)) :
    iprop(full d b f ∗ SI s') ⊢ (⌜s'.mem.mem ((SparseCore.T d : Thread nD τ).loc b) = f⌝ : sProp 𝕄) := by
  iintro ⟨Hx, HSI⟩
  ihave H := (SI_pointsTo_agree (st := s') (ℓ := (SparseCore.T d : Thread nD τ).loc b) (I := Finset.univ) (q := fullShare) (f := f)) $$ [HSI Hx]
  · isplitl [HSI] <;> iassumption
  icases H with %hx
  ipureintro; exact funext fun i => hx i (Finset.mem_univ i)

/-- What holds of device `d` at the end. -/
def fq (d : Dev nD) (s' : Phys nD τ sig (Elt F)) : Prop :=
  (s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)
    ∧ s'.mem.mem ((SparseCore.T d : Thread nD τ).loc main_arg3) = m ((SparseCore.T d : Thread nD τ).loc main_arg3)
    ∧ s'.mem.mem ((SparseCore.T d : Thread nD τ).loc main_v11) = (CC m hm d).res1)
  ∧ ∀ w : Fin 16, s'.mem.sem (tcell d ((K (F := F)).core 1 0) w) = 0

/-- From what the TensorCore ends with: the arguments, the result and the barrier counters of a final state. -/
theorem hfin (d : Dev nD) (s' : Phys nD τ sig (Elt F)) : iprop(FIN (CC m hm) m d ∗ SI s') ⊢ (⌜fq m hm d s'⌝ : sProp 𝕄) := by
  unfold FIN zeros
  intro x hx
  refine ⟨⟨?_, ?_, ?_, ?_, ?_⟩, fun w => ?_⟩
  · exact ((sep_mono_left sep_elim_left).trans (read_full d main_arg0 _ s')) x hx
  · exact ((sep_mono_left (sep_elim_right.trans sep_elim_left)).trans (read_full d main_arg1 _ s')) x hx
  · exact ((sep_mono_left (sep_elim_right.trans (sep_elim_right.trans sep_elim_left))).trans (read_full d main_arg2 _ s')) x hx
  · exact ((sep_mono_left (sep_elim_right.trans (sep_elim_right.trans (sep_elim_right.trans sep_elim_left)))).trans (read_full d main_arg3 _ s')) x hx
  · exact ((sep_mono_left (sep_elim_right.trans (sep_elim_right.trans (sep_elim_right.trans (sep_elim_right.trans sep_elim_left))))).trans
      (read_full d main_v11 _ s')) x hx
  · exact ((sep_mono_left (sep_elim_right.trans (sep_elim_right.trans (sep_elim_right.trans (sep_elim_right.trans (sep_elim_right.trans
      (SparseCore.ent (bigSep_elim (Finset.mem_univ w))))))))).trans (SparseCore.Cfg.semVal_zero_read _ s')) x hx

/-- The barrier's cells end at zero. -/
theorem hA (s' : Phys nD τ sig (Elt F)) (h : ∀ d, fq m hm d s') (g : GSem nD τ sig) (hg : g ∈ bCells) : s'.mem.sem g = 0 := by
  obtain ⟨⟨d, c, i⟩, hx, rfl⟩ := Finset.mem_image.mp hg
  obtain rfl : c = (K (F := F)).core 1 0 := Fin.ext (Nat.lt_one_iff.mp (Finset.mem_filter.mp hx).2)
  exact (h d).2 ⟨i.val, i.isLt⟩

/-! ## The run -/

/-- The arguments unchanged, the semaphores zero, the result the second call's. -/
def QC : PUnit × MemSt nD τ sig (Elt F) → Prop := fun r =>
  (∀ d : Dev nD, r.2.mem ((SparseCore.T d : Thread nD τ).loc main_arg0) = m ((SparseCore.T d : Thread nD τ).loc main_arg0)
    ∧ r.2.mem ((SparseCore.T d : Thread nD τ).loc main_arg1) = m ((SparseCore.T d : Thread nD τ).loc main_arg1)
    ∧ r.2.mem ((SparseCore.T d : Thread nD τ).loc main_arg2) = m ((SparseCore.T d : Thread nD τ).loc main_arg2)
    ∧ r.2.mem ((SparseCore.T d : Thread nD τ).loc main_arg3) = m ((SparseCore.T d : Thread nD τ).loc main_arg3)
    ∧ r.2.mem ((SparseCore.T d : Thread nD τ).loc main_v11) = (CC m hm d).res1)
  ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m hm) :=
  SparseCore.Cfg.θ_run_sc_quiescent (K := K (F := F)) (D := D (F := F)) (𝒱 := 𝒱) (EH := EH) (P := P (CC m hm)) (hA := hA m hm) facts v₀
    (fun q hq => match q with | 0 => nomatch hq | 1 => nomatch hq)
    (fun q _ => match q with | 0 => tileObl0 (CC m hm) facts | 1 => tileObl1 (CC m hm) facts)
    (fun q _ => match q with | 0 => vecSplit0 (CC m hm) | 1 => vecSplit1 (CC m hm))
    m ρ main (fun d => iprop(tcGhost 0 d ∗ tcGhost 1 d)) (FIN (CC m hm) m) (u₀ (F := F)) (hu₀ (CC m hm)) (hmain m ρ hm) (fq m hm) (hfin m hm)
    (QC m hm) (fun _ h hz => ⟨fun d => (h d).1, hz⟩)

end Cert.KernelIdeal.Run

end
-- ==== Proof.SegSum.lean ====
module
public import proofs.«01_k».proof.Proof.SegMem
public import Idealize.ShloMosaic.PureOps.Ideal
public import Idealize.ShloMosaic.PureOps.Ideal.Laws

@[expose] public section

/-! # What the calls compute, over the extended reals

A tile's table holds, at place `16 s + l`, the sum of its summands of segment `s` in lane `l`; the running sums add
the sixteen tiles' tables, the finished sums the sixteen lanes. Together every row of the half whose segment is
`s` is added once. Only the commutativity and associativity of addition are used. -/

noncomputable section

namespace Seg

open Idealize.ShloMosaic Finset

/-! ## Sums over ranges -/

/-- A sum in blocks of `k`. -/
theorem sum_blocks (k : ℕ) (G : ℕ → EReal) : ∀ n, ∑ i ∈ range (k * n), G i = ∑ t ∈ range n, ∑ c ∈ range k, G (k * t + c)
  | 0 => by simp
  | n + 1 => by rw [Nat.mul_succ, Finset.sum_range_add, sum_blocks k G n, Finset.sum_range_succ]

/-- A fold each of whose steps adds something to every element adds the sum. -/
theorem foldl_add {ι κ : Type} (f : (κ → EReal) → ι → (κ → EReal)) (u : κ → ι → EReal) (hf : ∀ g k j, f g k j = g j + u j k) :
    ∀ (L : List ι) (X : κ → EReal) (j : κ), L.foldl f X j = X j + (L.map (u j)).sum
  | [], X, j => by simp
  | k :: L, X, j => by
    rw [List.foldl_cons, foldl_add f u hf L, hf, List.map_cons, List.sum_cons, add_assoc]

/-! ## The table -/

/-- A scatter-add adds to each place what the lanes naming it hold. -/
theorem storeIdx_add (X : Vec Ideal T8192 .f32) (v : IVec T16 32) (x : Vec Ideal T16 .f32) (h : Chk8192 v) (j : T8192.Idx) :
    (storeIdx X ![v] x (fun _ => 1#1) true h : Vec Ideal T8192 .f32) j
      = X j + ∑ k : Fin 16, (if (j 0).val = (v (Shape.ofLane (d := ![16]) k)).toNat then (x (Shape.ofLane (d := ![16]) k) : EReal) else 0 : EReal) := by
  unfold storeIdx
  refine (foldl_add _ (fun j k => if (j 0).val = (v (Shape.ofLane (d := ![16]) k)).toNat then (x (Shape.ofLane (d := ![16]) k) : EReal) else 0) ?_ _ X j).trans ?_
  · intro g k j
    refine (congrFun (if_pos (rfl : (1#1 : BitVec 1) = 1)) j).trans ?_
    by_cases hj : (j 0).val = (v (Shape.ofLane (d := ![16]) k)).toNat
    · have h' : ∀ (a : Fin T8192.rank) (x : T16.Idx), ((![v] : Fin 1 → IVec T16 32) a x).toNat < T8192.size a := h
      have e : idxAt (s := T8192) ![v] h' (Shape.ofLane (d := ![16]) k) = j := funext fun a => by
        obtain rfl : a = 0 := Subsingleton.elim _ _
        exact Fin.ext hj.symm
      refine (if_pos (fun a => by obtain rfl : a = 0 := Subsingleton.elim _ _; exact hj)).trans ?_
      refine (if_pos rfl).trans ?_
      rw [e, if_pos hj]
      rfl
    · refine (if_neg (fun hh => hj (hh 0))).trans ?_
      rw [if_neg hj, add_zero]
  · exact congrArg (X j + ·) (Fin.sum_univ_def _).symm

/-- Sixteen summands of segments below 512: each place gets its own lane's, if that is of its segment. -/
theorem scatAdd_at (X : Vec Ideal T8192 .f32) (b : IVec T16 32) (x : Vec Ideal T16 .f32) (hb : ∀ l, (b l).toNat < 512) (j : T8192.Idx) :
    scatAdd X (scatIdx b) x j = X j + (if (b (at1 16 ((j 0).val % 16) (Nat.mod_lt _ (by decide)))).toNat = (j 0).val / 16
      then (x (at1 16 ((j 0).val % 16) (Nat.mod_lt _ (by decide))) : EReal) else 0 : EReal) := by
  unfold scatAdd
  rw [dif_pos (chk_scat hb), storeIdx_add]
  refine congrArg (X j + ·) ?_
  rw [Finset.sum_eq_single (⟨(j 0).val % 16, Nat.mod_lt _ (by decide)⟩ : Fin 16)]
  · refine if_congr ?_ rfl rfl
    rw [scat_val hb]
    show (j 0).val = 16 * (b (at1 16 ((j 0).val % 16) (Nat.mod_lt _ (by decide)))).toNat + (j 0).val % 16
      ↔ (b (at1 16 ((j 0).val % 16) (Nat.mod_lt _ (by decide)))).toNat = (j 0).val / 16
    generalize (b (at1 16 ((j 0).val % 16) (Nat.mod_lt _ (by decide)))).toNat = e
    generalize (j 0).val = p
    omega
  · intro k _ hk
    refine if_neg fun e => hk (Fin.ext ?_)
    rw [scat_val hb] at e
    have h1 : (j 0).val = 16 * (b (Shape.ofLane (d := ![16]) k)).toNat + k.val := e
    show k.val = (j 0).val % 16
    have := k.isLt
    omega
  · exact fun h => absurd (Finset.mem_univ _) h

/-- The summand number `i` of a chunk, if it is of segment `g`. -/
def hit {N : ℕ} (g : ℕ) (a : Vec Ideal ⟨1, ![N]⟩ .f32) (b : Vec Ideal ⟨1, ![N]⟩ .i32) (i : ℕ) : EReal :=
  if h : i < N then if (b (at1 N i h) : BitVec 32).toNat = g then a (at1 N i h) else 0 else 0

/-- A lane of a chunk's `n`-th sixteen. -/
theorem grp_at {α : Type} (a : T10000.Idx → α) (n : ℕ) (l : T16.Idx) (h : 16 * n + (l 0).val < 10000) :
    grp a n l = a (at1 10000 (16 * n + (l 0).val) h) :=
  congrArg a (congrArg (fun i => Shape.ofLane (d := ![10000]) i) (Fin.ext (Nat.mod_eq_of_lt h)))

/-- The table after `n` sixteens. -/
theorem tblAt_at (a : Vec Ideal T10000 .f32) (b : Vec Ideal T10000 .i32) (hb : ∀ l, (b l : BitVec 32).toNat < 512) (j : T8192.Idx) :
    ∀ n, n ≤ 625 → tblAt a b n j = ∑ t ∈ range n, hit ((j 0).val / 16) a b (16 * t + (j 0).val % 16)
  | 0, _ => by show Ideal.ofBits .f32 0x00000000#32 = _; rw [Ideal.ofBits_zero_f32, Finset.sum_range_zero]
  | n + 1, hn => by
    have h16 : (j 0).val % 16 < 16 := Nat.mod_lt _ (by decide)
    have hlt : 16 * n + (j 0).val % 16 < 10000 := by omega
    show scatAdd (tblAt a b n) (scatIdx (grp b n)) (grp a n) j = _
    rw [scatAdd_at _ (grp b n) _ (fun l => hb _), tblAt_at a b hb j n (by omega), Finset.sum_range_succ]
    refine congrArg (_ + ·) ?_
    rw [grp_at b n _ hlt, grp_at a n _ hlt]
    unfold hit
    rw [dif_pos hlt]
    rfl

/-! ## The running and finished sums -/

/-- The running sums after `n` tables. -/
theorem accAt_at (Y : Fin 16 → Vec Ideal T512 .f32) (x : T512.Idx) :
    ∀ n, accAt Y n x = ∑ t ∈ range n, (Y ⟨t % 16, Nat.mod_lt _ (by omega)⟩ x : EReal)
  | 0 => by show Ideal.ofBits .f32 0x00000000#32 = _; rw [Ideal.ofBits_zero_f32, Finset.sum_range_zero]
  | n + 1 => by
    rw [Finset.sum_range_succ, ← accAt_at Y x n]
    rfl

/-- The finished sums after `n` lanes. -/
theorem outAt_at (P : Vec Ideal T32 .f32) (X : Vec Ideal T512 .f32) (x : T32.Idx) :
    ∀ n, outAt P X n x = (P x + ∑ c ∈ range n, (X (at1 512 ((16 * (x 0).val + c) % 512) (Nat.mod_lt _ (by omega))) : EReal) : EReal)
  | 0 => by show P x = _; rw [Finset.sum_range_zero, add_zero]
  | n + 1 => by
    rw [Finset.sum_range_succ, ← add_assoc, ← outAt_at P X x n]
    rfl

/-! ## A call's sums -/

/-- A chunk's summand is the half's. -/
theorem hit_chunk (a : Vec Ideal T160000 .f32) (b : Vec Ideal T160000 .i32) (g : ℕ) (w : Fin 16) (i : ℕ) (hi : i < 10000) :
    hit g (chunkOf a w) (chunkOf b w) i = hit g a b (10000 * w.val + i) := by
  have hw := w.isLt
  unfold hit
  rw [dif_pos hi, dif_pos (show 10000 * w.val + i < 160000 by omega), chunkOf_apply, chunkOf_apply]
  rfl

/-- What tile `w` writes at its place `x`: the starting value and every summand of the segment. -/
theorem outOf_at (P : Vec Ideal T32 .f32) (a : Vec Ideal T160000 .f32) (b : Vec Ideal T160000 .i32) (hb : ∀ l, (b l : BitVec 32).toNat < 512)
    (w : Fin 16) (x : T32.Idx) :
    outOf P (fun i => tableOf (chunkOf a i) (chunkOf b i)) w x = (P x + ∑ i ∈ range 160000, hit (32 * w.val + (x 0).val) a b i : EReal) := by
  have hw := w.isLt
  have hx : (x 0).val < 32 := (x 0).isLt
  unfold outOf
  rw [outAt_at]
  refine congrArg (P x + ·) ?_
  have key : ∀ c ∈ range 16, (accAt (blkVal (fun i => tableOf (chunkOf a i) (chunkOf b i)) w) 16
      (at1 512 ((16 * (x 0).val + c) % 512) (Nat.mod_lt _ (by omega))) : EReal)
      = ∑ r ∈ range 16, ∑ t ∈ range 625, hit (32 * w.val + (x 0).val) a b (10000 * r + (16 * t + c)) := by
    intro c hc
    have hc' := Finset.mem_range.mp hc
    rw [accAt_at]
    refine Finset.sum_congr rfl fun r hr => ?_
    have hr' := Finset.mem_range.mp hr
    unfold blkVal tableOf
    show tblAt (chunkOf a _) (chunkOf b _) 625 _ = _
    rw [tblAt_at (chunkOf a _) (chunkOf b _) (fun l => hb _) _ 625 le_rfl]
    have hv : ((at1 8192 (512 * w.val + (16 * (x 0).val + c) % 512) (by omega) : T8192.Idx) 0).val = 16 * (32 * w.val + (x 0).val) + c := by
      show 512 * w.val + (16 * (x 0).val + c) % 512 = _
      omega
    refine Finset.sum_congr rfl fun t ht => ?_
    have ht' := Finset.mem_range.mp ht
    show hit (((at1 8192 (512 * w.val + (16 * (x 0).val + c) % 512) (by omega) : T8192.Idx) 0).val / 16) _ _
      (16 * t + ((at1 8192 (512 * w.val + (16 * (x 0).val + c) % 512) (by omega) : T8192.Idx) 0).val % 16) = _
    rw [hv, show (16 * (32 * w.val + (x 0).val) + c) / 16 = 32 * w.val + (x 0).val by omega,
      show (16 * (32 * w.val + (x 0).val) + c) % 16 = c by omega, hit_chunk _ _ _ _ _ (by omega)]
    show hit _ a b (10000 * (r % 16) + _) = _
    rw [Nat.mod_eq_of_lt hr']
  rw [Finset.sum_congr rfl key, Finset.sum_comm]
  refine Eq.trans ?_ (sum_blocks 10000 (fun i => hit (32 * w.val + (x 0).val) a b i) 16).symm
  refine Finset.sum_congr rfl fun r _ => ?_
  rw [Finset.sum_comm]
  exact (sum_blocks 16 (fun i => hit (32 * w.val + (x 0).val) a b (10000 * r + i)) 625).symm

variable (C : Calls Ideal)

/-- The first call's result. -/
theorem res0_at (g : T512.Idx) : C.res0 g = (∑ i ∈ range 160000, hit (g 0).val (C.s 0) (C.ids 0) i : EReal) := by
  have hg : (g 0).val < 512 := (g 0).isLt
  unfold Calls.res0 wholeOf
  refine (outOf_at _ (C.s 0) (C.ids 0) (C.hid 0) _ _).trans ?_
  show (Ideal.ofBits .f32 0x00000000#32 : EReal) + ∑ i ∈ range 160000, hit (32 * ((g 0).val / 32) + (g 0).val % 32) _ _ i = _
  rw [Ideal.ofBits_zero_f32, zero_add, show 32 * ((g 0).val / 32) + (g 0).val % 32 = (g 0).val by omega]

/-- The second's: the first's and every summand of the second half. -/
theorem res1_at (g : T512.Idx) : C.res1 g = (∑ i ∈ range 160000, hit (g 0).val (C.s 0) (C.ids 0) i
    + ∑ i ∈ range 160000, hit (g 0).val (C.s 1) (C.ids 1) i : EReal) := by
  have hg : (g 0).val < 512 := (g 0).isLt
  unfold Calls.res1 wholeOf
  refine (outOf_at _ (C.s 1) (C.ids 1) (C.hid 1) _ _).trans ?_
  rw [partOf_apply, res0_at]
  show (∑ i ∈ range 160000, hit (32 * ((g 0).val / 32) + (g 0).val % 32) _ _ i : EReal)
    + ∑ i ∈ range 160000, hit (32 * ((g 0).val / 32) + (g 0).val % 32) _ _ i = _
  rw [show 32 * ((g 0).val / 32) + (g 0).val % 32 = (g 0).val by omega]

end Seg

end
-- ==== Proof.KernelIdealValue.lean ====
module
public import proofs.«01_k».proof.Proof.SegSum
public import proofs.«01_k».proof.Proof.KernelIdealMain
public import proofs.«01_k».proof.Proof.Gen.ReferenceIdeal
public import Idealize.ShloMosaic.Lib.ValueIdxCore
public import Idealize.ShloMosaic.Lib.Routing.OpsPair
public import Idealize.ShloMosaic.Lib.WordCmp
public import Idealize.ShloMosaic.Lib.Pipeline.Value

@[expose] public section

/-! # The program's value and the reference's, over the extended reals

A row's summand is its product with the weights plus the bias. Both the program and the reference end with, for each
segment, the sum of the summands of the rows of that segment. -/

noncomputable section

namespace Cert.Value

open Idealize.ShloMosaic hiding ix1 ix2 ix3
open Idealize.ShloMosaic.ValueIdx Seg Finset

/-- Row `r`'s summand. -/
def lin (x : Vec Ideal ⟨2, ![320000, 128]⟩ .f32) (w : Vec Ideal ⟨2, ![128, 1]⟩ .f32) (b : Vec Ideal ⟨1, ![1]⟩ .f32) (r : Fin 320000) : EReal :=
  (∑ k : Fin 128, (x (ix2 r k) : EReal) * w (ix2 k 0)) + b (ix1 0)

/-- Row `i`'s summand if the row is of segment `g`. -/
def seg (x : Vec Ideal ⟨2, ![320000, 128]⟩ .f32) (n : Vec Ideal ⟨1, ![320000]⟩ .i32) (w : Vec Ideal ⟨2, ![128, 1]⟩ .f32)
    (b : Vec Ideal ⟨1, ![1]⟩ .f32) (g i : ℕ) : EReal :=
  if h : i < 320000 then if (n (at1 320000 i h) : BitVec 32).toNat = g then lin x w b ⟨i, h⟩ else 0 else 0

/-! ## The program -/

section Kernel

open Cert.KernelIdeal Cert.KernelIdeal.Gen

/-- What one grid step computes of one row. -/
theorem pay_at (w : Vec Ideal S128x1 .f32) (r : Vec Ideal S32000x128 .f32) (b : Vec Ideal S1x1 .f32) (c : Fin 32000) :
    k0_pay1 w r b (ix3 0 0 c) = ((∑ k : Fin 128, (r (ix2 c k) : EReal) * w (ix2 k 0)) + b (ix2 0 0) : EReal) := by
  unfold k0_pay1
  refine (shapeCast_apply _ _ _ (ix2 0 c) ?_).trans ?_
  · rw [Shape.rowMajor_val_two, Shape.rowMajor_val_three]; rfl
  refine congrArg₂ (· + · : EReal → EReal → EReal) ?_ (congrArg b (funext fun a => by match a with | ⟨0, _⟩ => rfl | ⟨1, _⟩ => rfl))
  refine (Ideal.matmul_constant_zero_apply _ _ _ _ _).trans ?_
  rw [← Equiv.sum_comp (contrEquiv1 dot_S128x1_S32000x128_S1x32000_0_1_1_0_n_n 128 rfl rfl).symm]
  refine Finset.sum_congr rfl fun k _ => ?_
  have hk := contrEquiv1_symm_val dot_S128x1_S32000x128_S1x32000_0_1_1_0_n_n 128 rfl rfl k
  have el : dot_S128x1_S32000x128_S1x32000_0_1_1_0_n_n.lhsIdx (ix2 0 c) ((contrEquiv1 dot_S128x1_S32000x128_S1x32000_0_1_1_0_n_n 128 rfl rfl).symm k) = ix2 k 0 := by
    funext a; apply Fin.ext
    match a with
    | ⟨0, _⟩ => exact hk
    | ⟨1, _⟩ => rfl
  have er : dot_S128x1_S32000x128_S1x32000_0_1_1_0_n_n.rhsIdx (ix2 0 c) ((contrEquiv1 dot_S128x1_S32000x128_S1x32000_0_1_1_0_n_n 128 rfl rfl).symm k) = ix2 c k := by
    funext a; apply Fin.ext
    match a with
    | ⟨0, _⟩ => rfl
    | ⟨1, _⟩ => exact hk
  rw [el, er, shapeCast_apply r _ (ix2 c k) (ix2 c k) rfl]
  exact mul_comm _ _

/-- What a half's launch computes of one row. -/
theorem matvec_at (x : Vec Ideal S160000x128 .f32) (w : Vec Ideal S128x1 .f32) (b : Vec Ideal S1x1 .f32) (i : ℕ) (h : i < 160000)
    (hc : S5x1x32000.ShapeCasts S160000) :
    shapeCast S160000 (Run.matvec x w b) hc (at1 160000 i h) = ((∑ k : Fin 128, (x (ix2 ⟨i, h⟩ k) : EReal) * w (ix2 k 0)) + b (ix2 0 0) : EReal) := by
  refine (shapeCast_apply _ _ _ (ix3 (⟨i / 32000, by omega⟩ : Fin 5) 0 (⟨i % 32000, Nat.mod_lt _ (by decide)⟩ : Fin 32000)) ?_).trans ?_
  · rw [Shape.rowMajor_val_three, Shape.rowMajor_val_one]
    show ((i / 32000) * 1 + 0) * 32000 + i % 32000 = i
    omega
  refine Eq.trans ?_ ((pay_at w (Run.rowsAt x ⟨i / 32000, by omega⟩) b ⟨i % 32000, Nat.mod_lt _ (by decide)⟩).trans ?_)
  · refine congrArg (k0_pay1 w (Run.rowsAt x ⟨i / 32000, by omega⟩) b) (funext fun a => ?_)
    match a with | ⟨0, _⟩ => rfl | ⟨1, _⟩ => rfl | ⟨2, _⟩ => rfl
  · refine congrArg (· + (b (ix2 0 0) : EReal)) (Finset.sum_congr rfl fun k _ => congrArg (· * (w (ix2 k 0) : EReal)) ?_)
    refine congrArg x (funext fun a => Fin.ext ?_)
    match a with
    | ⟨0, _⟩ => show i / 32000 * 32000 + i % 32000 = i; omega
    | ⟨1, _⟩ => rfl

/-- The one entry of the bias, as the launches are given it. -/
theorem bias_at (b : Vec Ideal S1 .f32) (h : S1.ShapeCasts S1x1) : shapeCast S1x1 b h (ix2 0 0) = b (ix1 0) :=
  shapeCast_apply _ _ _ (ix1 0) (by rw [Shape.rowMajor_val_one, Shape.rowMajor_val_two]; rfl)

variable (x : Vec Ideal S320000x128 .f32) (n : Vec Ideal S320000 .i32) (w : Vec Ideal S128x1 .f32) (b : Vec Ideal S1 .f32)

/-- The first half's summands are the first rows', -/
theorem sums0_at (i : ℕ) (h : i < 160000) : Run.sums0 x w b (at1 160000 i h) = lin x w b ⟨i, by omega⟩ := by
  refine (matvec_at _ _ _ i h _).trans ?_
  rw [bias_at]
  refine congrArg (· + (b (ix1 0) : EReal)) (Finset.sum_congr rfl fun k _ => congrArg (· * (w (ix2 k 0) : EReal)) ?_)
  refine congrArg x (funext fun a => Fin.ext ?_)
  match a with
  | ⟨0, _⟩ => exact Nat.zero_add i
  | ⟨1, _⟩ => exact Nat.zero_add _

/-- the second half's the others'. -/
theorem sums1_at (i : ℕ) (h : i < 160000) : Run.sums1 x w b (at1 160000 i h) = lin x w b ⟨160000 + i, by omega⟩ := by
  refine (matvec_at _ _ _ i h _).trans ?_
  rw [bias_at]
  refine congrArg (· + (b (ix1 0) : EReal)) (Finset.sum_congr rfl fun k _ => congrArg (· * (w (ix2 k 0) : EReal)) ?_)
  refine congrArg x (funext fun a => Fin.ext ?_)
  match a with
  | ⟨0, _⟩ => rfl
  | ⟨1, _⟩ => exact Nat.zero_add _

/-- The first half's segment numbers, -/
theorem ids0_at (i : ℕ) (h : i < 160000) : Run.ids0 n (at1 160000 i h) = n (at1 320000 i (by omega)) := by
  refine congrArg n (funext fun a => Fin.ext ?_)
  obtain rfl : a = 0 := Subsingleton.elim _ _
  exact Nat.zero_add i

/-- and the second half's. -/
theorem ids1_at (i : ℕ) (h : i < 160000) : Run.ids1 n (at1 160000 i h) = n (at1 320000 (160000 + i) (by omega)) := by
  refine congrArg n (funext fun a => Fin.ext ?_)
  obtain rfl : a = 0 := Subsingleton.elim _ _
  rfl

/-- The program's result: each segment's sum. -/
theorem res_at (h : ∀ i, (n i : BitVec 32).toNat < 512) (g : S512.Idx) :
    (Run.callsOf x n w b h).res1 g = ∑ i ∈ range 320000, seg x n w b (g 0).val i := by
  refine (res1_at (Run.callsOf x n w b h) g).trans ?_
  rw [show (320000 : ℕ) = 160000 + 160000 from rfl, Finset.sum_range_add]
  refine congrArg₂ (· + · : EReal → EReal → EReal) (Finset.sum_congr rfl fun i hi => ?_) (Finset.sum_congr rfl fun i hi => ?_)
  · have hi := Finset.mem_range.1 hi
    unfold hit seg
    rw [dif_pos hi, dif_pos (show i < 320000 by omega)]
    exact if_congr (Eq.congr (congrArg BitVec.toNat (ids0_at n i hi)) rfl) (sums0_at x w b i hi) rfl
  · have hi := Finset.mem_range.1 hi
    unfold hit seg
    rw [dif_pos hi, dif_pos (show 160000 + i < 320000 by omega)]
    exact if_congr (Eq.congr (congrArg BitVec.toNat (ids1_at n i hi)) rfl) (sums1_at x w b i hi) rfl

end Kernel

/-! ## The reference -/

section Reference

open Cert.ReferenceIdeal Cert.ReferenceIdeal.Gen

variable (x : FVec Ideal S320000x128 .f32) (n : IVec S320000 32) (w : FVec Ideal S128x1 .f32) (b : FVec Ideal S1 .f32)

/-- A row goes to the segment its id names. -/
theorem lands (idx : IVec S320000x1 32) (r : Fin 320000) (g : Fin 512) (h : (idx (ix2 r 0)).toNat < 512) :
    scatter_S512x1_S320000x1_S320000x1_1_0_0_1.resultIdx? (ix2 r 0) idx = some (ix2 g 0) ↔ (idx (ix2 r 0)).toNat = g.val := by
  have h0 : scatter_S512x1_S320000x1_S320000x1_1_0_0_1.start (ix2 r 0) idx 0 = ((idx (ix2 r 0)).toNat : Int) := by
    refine Eq.trans (congrArg (fun y => (idx y).toInt) (funext fun a => Fin.ext ?_)) (Idealize.ShloMosaic.WordCmp.toInt_eq_toNat_of_lt_half (by omega))
    match a with | ⟨0, _⟩ => rfl | ⟨1, _⟩ => rfl
  have h1 : scatter_S512x1_S320000x1_S320000x1_1_0_0_1.start (ix2 r 0) idx 1 = 0 := rfl
  have w0 : scatter_S512x1_S320000x1_S320000x1_1_0_0_1.window (ix2 r 0) 0 = 0 := rfl
  have w1 : scatter_S512x1_S320000x1_S320000x1_1_0_0_1.window (ix2 r 0) 1 = 0 := rfl
  rw [Routing.resultIdx?_eq_some]
  constructor
  · intro H
    have := H 0
    rw [h0, w0] at this
    have e : ((ix2 g (0 : Fin 1) : S512x1.Idx) 0).val = g.val := rfl
    omega
  · intro H a
    match a with
    | 0 => rw [h0, w0, H]; rfl
    | 1 => rw [h1, w1]; rfl

/-- The reference's summand of one row. -/
theorem upd_at (r : Fin 320000) :
    (addf (Host.dotGeneral dot_S320000x128_S128x1_S320000x1_1_0_0_1_n_n none x w) (broadcastInDim S320000x1 ![0, 1] bcast_S1x1_S320000x1_0_1 (broadcastInDim S1x1 ![1] bcast_S1_S1x1_1 b)) : FVec Ideal S320000x1 .f32) (ix2 r 0)
      = lin x w b r := by
  refine congrArg₂ (· + · : EReal → EReal → EReal) ?_ ?_
  · show FloatOps.dotGeneral _ none _ x w (ix2 r 0) = _
    rw [Ideal.dotGeneral_apply, ← Equiv.sum_comp (contrEquiv1 dot_S320000x128_S128x1_S320000x1_1_0_0_1_n_n 128 rfl rfl).symm]
    refine Finset.sum_congr rfl fun k _ => ?_
    have hk := contrEquiv1_symm_val dot_S320000x128_S128x1_S320000x1_1_0_0_1_n_n 128 rfl rfl k
    have el : dot_S320000x128_S128x1_S320000x1_1_0_0_1_n_n.lhsIdx (ix2 r 0) ((contrEquiv1 dot_S320000x128_S128x1_S320000x1_1_0_0_1_n_n 128 rfl rfl).symm k) = ix2 r k := by
      funext a; apply Fin.ext
      match a with
      | ⟨0, _⟩ => rfl
      | ⟨1, _⟩ => exact hk
    have er : dot_S320000x128_S128x1_S320000x1_1_0_0_1_n_n.rhsIdx (ix2 r 0) ((contrEquiv1 dot_S320000x128_S128x1_S320000x1_1_0_0_1_n_n 128 rfl rfl).symm k) = ix2 k 0 := by
      funext a; apply Fin.ext
      match a with
      | ⟨0, _⟩ => exact hk
      | ⟨1, _⟩ => rfl
    rw [el, er]
  · refine (broadcastInDim_apply _ _ _ _ (ix2 0 0) (fun a => ?_)).trans (broadcastInDim_apply _ _ _ _ (ix1 0) (fun a => ?_))
    · match a with | ⟨0, _⟩ => rfl | ⟨1, _⟩ => rfl
    · match a with | ⟨0, _⟩ => rfl

/-- The reference's result: each segment's sum. -/
theorem ref_at (h : ∀ i, (n i : BitVec 32).toNat < 512) (g : S512.Idx) :
    (shapeCast S512 (Host.scatterAdd scatter_S512x1_S320000x1_S320000x1_1_0_0_1 (broadcastInDim S512x1 ![] bcast_S_S512x1 (constant S_ .f32 0x00000000#32)) (broadcastInDim S320000x1 ![0] bcast_S320000_S320000x1_0 n) (addf (Host.dotGeneral dot_S320000x128_S128x1_S320000x1_1_0_0_1_n_n none x w) (broadcastInDim S320000x1 ![0, 1] bcast_S1x1_S320000x1_0_1 (broadcastInDim S1x1 ![1] bcast_S1_S1x1_1 b)))) shapeCasts_S512x1_S512 : FVec Ideal S512 .f32) g
      = ∑ i ∈ range 320000, seg x n w b (g 0).val i := by
  refine (shapeCast_apply _ _ _ (ix2 (g 0) 0) ?_).trans ?_
  · rw [Shape.rowMajor_val_two, Shape.rowMajor_val_one]
    show (g 0).val * 1 + 0 = (g 0).val
    omega
  have hn : ∀ r : Fin 320000, broadcastInDim S320000x1 ![0] bcast_S320000_S320000x1_0 n (ix2 r 0) = n (at1 320000 r.val r.isLt) := fun r =>
    broadcastInDim_apply _ _ _ _ _ fun a => by match a with | ⟨0, _⟩ => rfl
  refine (congrArg₂ (· + · : EReal → EReal → EReal) Ideal.ofBits_zero_f32 (Finset.sum_filter _ _)).trans ?_
  rw [zero_add, ValueIdx.sum_idx2, Finset.sum_range]
  refine Finset.sum_congr rfl fun r _ => ?_
  rw [Fin.sum_univ_one]
  unfold seg
  rw [dif_pos r.isLt]
  refine if_congr ?_ (upd_at x w b r) rfl
  exact (lands _ r (g 0) (by rw [hn]; exact h _)).trans (Eq.congr (congrArg BitVec.toNat (hn r)) rfl)

end Reference

end Cert.Value

end
-- ==== Proof.lean ====
module

public import proofs.«01_k».proof.Proof.Gen.Own.Kernel.Calls
public import proofs.«01_k».proof.Proof.Gen.Own.KernelIdeal.Calls
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.KernelMain
public import proofs.«01_k».proof.Proof.KernelIdealMain
public import proofs.«01_k».proof.Proof.KernelIdealValue
public import Idealize.ShloMosaic.Lib.ReduceAll
public import Idealize.ShloMosaic.Lib.WordCmp
public import Idealize.ShloMosaic.Lib.Quiescent
public import Idealize.ShloMosaic.Adequacy
public import Idealize.ShloMosaic.Init

@[expose] public section

noncomputable section

namespace Cert.Proof

open Idealize.ShloMosaic Idealize.SL.Sem

/-- The precondition: every segment id is below 512. -/
theorem ids_lt {F : FTy → Type} [FloatOps F] (x : FVec F Cert.Pre_in_range.S320000x128 .f32) (n : IVec Cert.Pre_in_range.S320000 32)
    (w : FVec F Cert.Pre_in_range.S128x1 .f32) (b : FVec F Cert.Pre_in_range.S1 .f32)
    (h : Cert.Pre_in_range.fn x n w b = fun _ => 1#1) (i : Cert.Pre_in_range.S320000.Idx) : (n i).toNat < 512 := by
  have : Subsingleton Cert.Pre_in_range.S_.Idx := ⟨fun p q => funext fun a => a.elim0⟩
  have e := Host.reduce_andi_all _ _ _ _ (fun a => a.elim0) (congrFun h fun a => a.elim0) i
  have e : IntOp.andi (IntOp.cmpi .sge (n i) 0#32) (IntOp.cmpi .slt (n i) (BitVec.ofNat 32 512)) = 1#1 := e
  rw [WordCmp.andi_sge_zero_slt_ofNat (by decide), WordCmp.ofBool_decide_eq_one_iff] at e
  exact e

/-- The program runs, its arguments unchanged and its semaphores zero. -/
theorem frame_p : Cert.quiescent_Kernel := fun m ρ h =>
  (θ_run Cert.Kernel.defs _ _).mono (fun _ q => ⟨fun c => ⟨(q.1 c).1, (q.1 c).2.1, (q.1 c).2.2.1, (q.1 c).2.2.2.1⟩, q.2⟩)
    (Cert.Kernel.Run.run_main (F := Bits) m ρ fun c => ids_lt _ _ _ _ (h c))

/-- The same over the extended reals. -/
theorem frame_pi : Cert.quiescent_KernelIdeal := fun m ρ h =>
  (θ_run Cert.KernelIdeal.defs _ _).mono (fun _ q => ⟨fun c => ⟨(q.1 c).1, (q.1 c).2.1, (q.1 c).2.2.1, (q.1 c).2.2.2.1⟩, q.2⟩)
    (Cert.KernelIdeal.Run.run_main (F := Ideal) m ρ fun c => ids_lt _ _ _ _ (h c))

/-- The reference runs, its arguments unchanged; it has no semaphore. -/
theorem frame_r : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

/-- From memories that agree on the arguments, the program and the reference end with the same sums. -/
theorem value : Cert.algebraic_KernelIdeal_ReferenceIdeal := fun m ρ m' ρ' h ag => by
  have hm : ∀ (d : Dev Cert.KernelIdeal.nD) (i : Cert.KernelIdeal.S320000.Idx),
      (m ((SparseCore.T d : Thread Cert.KernelIdeal.nD Cert.KernelIdeal.τ).loc Cert.KernelIdeal.main_arg1) i : BitVec 32).toNat < 512 :=
    fun c => ids_lt _ _ _ _ (h c)
  refine ⟨fun c => (Cert.KernelIdeal.Run.CC m hm c).res1,
    (θ_run Cert.KernelIdeal.defs _ _).mono (fun _ q c => ⟨(q.1 c).2.2.2.2, (q.1 c).1, (q.1 c).2.1, (q.1 c).2.2.1, (q.1 c).2.2.2.1⟩)
      (Cert.KernelIdeal.Run.run_main (F := Ideal) m ρ hm),
    (θ_run Cert.ReferenceIdeal.defs _ _).mono (fun _ q c => ⟨(q c).1.trans ?_, (q c).2⟩) (Cert.ReferenceIdeal.Value.run (F := Ideal) m' ρ')⟩
  obtain ⟨e0, e1, e2, e3⟩ := ag c
  rw [e0, e1, e2, e3]
  exact funext fun g => (Cert.Value.ref_at _ _ _ _ (hm c) g).trans (Cert.Value.res_at _ _ _ _ (hm c) g).symm

/-- All the claims. -/
theorem claim : Cert.Claim := ⟨Cert.Kernel.Gen.facts, Cert.KernelIdeal.Gen.facts, Cert.ReferenceIdeal.Gen.facts, Cert.Pre_in_range.Gen.facts,
  frame_p, frame_pi, frame_r, fun m ρ _ => frame_r m ρ trivial, trivial, value⟩

end Cert.Proof

end
